-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨4, ![2, 512, 8, 64]⟩ ⟨4, ![2, 2048, 8, 64]⟩ (Layout.meshBlock [2, 4, 4] ![[], [2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Pre_finite_qk_ReferenceIdeal.lean ====
abbrev S2x2048x8x64 : Shape := ⟨4, ![2, 2048, 8, 64]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel

variable [Facts]

def fn {F : FTy → Type} [FloatOps F] (main_arg0 : FVec F S2x2048x8x64 .f32) (main_arg1 : FVec F S2x2048x8x64 .f32) (main_arg2 : FVec F S2x2048x8x64 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x64 .f32 := Host.absf main_arg1
  let main_cst_0 : FVec F S_ .f32 := constant S_ .f32 0x7F800000#32
  let main_v5 : FVec F S2x2048x8x64 .f32 := broadcastInDim S2x2048x8x64 ![] bcast_S_S2x2048x8x64 main_cst_0
  let main_v6 : IVec S2x2048x8x64 1 := cmpf .olt main_v4 main_v5
  let main_c_1 : IVec S_ 1 := constantI S_ 1 1#1
  let main_v7 : IVec S_ 1 := (fun x v => Host.reduce IntOp.andi x v reducesTo_S2x2048x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x64x512 : Shape := ⟨4, ![2, 8, 64, 512]⟩
abbrev S4x2x8x64x512 : Shape := ⟨5, ![4, 2, 8, 64, 512]⟩
abbrev S16x1x512 : Shape := ⟨3, ![16, 1, 512]⟩
abbrev S3x2 : Shape := ⟨2, ![3, 2]⟩
abbrev S4x2 : Shape := ⟨2, ![4, 2]⟩
abbrev S_ : Shape := ⟨0, ![]⟩
abbrev S1x1 : Shape := ⟨2, ![1, 1]⟩
abbrev S1x1x8x64x512 : Shape := ⟨5, ![1, 1, 8, 64, 512]⟩
abbrev S8x64x512 : Shape := ⟨3, ![8, 64, 512]⟩
abbrev S1x8x64x512 : Shape := ⟨4, ![1, 8, 64, 512]⟩
abbrev S1x1x64x512 : Shape := ⟨4, ![1, 1, 64, 512]⟩
abbrev S64x512 : Shape := ⟨2, ![64, 512]⟩
abbrev S512x512 : Shape := ⟨2, ![512, 512]⟩
abbrev S512 : Shape := ⟨1, ![512]⟩
abbrev S1x512 : Shape := ⟨2, ![1, 512]⟩
abbrev S1x1x512 : Shape := ⟨3, ![1, 1, 512]⟩
abbrev S1x1x1x64x512 : Shape := ⟨5, ![1, 1, 1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x64x512, .f32⟩
  | .hbm, ⟨4, _⟩ => ⟨S2x8x64x512, .f32⟩
  | .hbm, ⟨5, _⟩ => ⟨S2x8x64x512, .f32⟩
  | .hbm, ⟨6, _⟩ => ⟨S2x8x64x512, .f32⟩
  | .hbm, ⟨7, _⟩ => ⟨S2x512x8x64, .f32⟩
  | .local _ .vmem, ⟨0, _⟩ => ⟨S2x8x64x512, .f32⟩
  | .local _ .vmem, ⟨1, _⟩ => ⟨S2x8x64x512, .f32⟩
  | .local _ .vmem, ⟨2, _⟩ => ⟨S2x8x64x512, .f32⟩
  | .local _ .vmem, ⟨3, _⟩ => ⟨S2x8x64x512, .f32⟩
  | .local _ .vmem, ⟨4, _⟩ => ⟨S4x2x8x64x512, .f32⟩
  | .local _ .vmem, ⟨5, _⟩ => ⟨S4x2x8x64x512, .f32⟩
  | .local _ .vmem, ⟨6, _⟩ => ⟨S16x1x512, .f32⟩
  | .local _ .vmem, ⟨7, _⟩ => ⟨S2x8x64x512, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_9 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_8 : BitVec 32 := 16#32
  let v17 : BitVec 32 := Scalar.muli v15 c16_i32_8
  let v18 : BitVec 32 := Scalar.addi c0_i32_9 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v19 : BitVec 32 := Scalar.muli v5 c4_i32_10
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.muli v8 c1_i32_11
  let v22 : BitVec 32 := Scalar.addi v20 v21
  v22.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let v23 : BitVec 32 := Scalar.extui v9
  let c0_i32_12 : BitVec 32 := 0#32
  let v24 : BitVec 1 := Scalar.cmpi .ne v23 c0_i32_12
  v24

def k0_dev2 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_35 : BitVec 32 := 1#32
  let v59 : BitVec 32 := Scalar.muli v12 c1_i32_35
  let v60 : BitVec 32 := Scalar.addi v58 v59
  v60.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let v25 : BitVec 32 := Scalar.extui v10
  let c0_i32_13 : BitVec 32 := 0#32
  let v26 : BitVec 1 := Scalar.cmpi .ne v25 c0_i32_13
  v26

def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_35 : BitVec 32 := 1#32
  let v59 : BitVec 32 := Scalar.muli v14 c1_i32_35
  let v60 : BitVec 32 := Scalar.addi v58 v59
  v60.toNat
def k0_amt1 (d0 : Dev nD) : BitVec 32 :=
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let v27 : BitVec 32 := Scalar.extui v9
  let v28 : BitVec 32 := Scalar.addi c1_i32_14 v27
  let c3_i32 : BitVec 32 := 3#32
  let v10 : BitVec 1 := Scalar.cmpi .slt v8 c3_i32
  let v29 : BitVec 32 := Scalar.extui v10
  let v30 : BitVec 32 := Scalar.addi v28 v29
  v30

def k0_cond3 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v32 : BitVec 32 := Scalar.extui v31
  let c0_i32_16 : BitVec 32 := 0#32
  let v33 : BitVec 1 := Scalar.cmpi .ne v32 c0_i32_16
  v33

def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c0_i32_33 : BitVec 32 := 0#32
  let v57 : BitVec 32 := Scalar.subi v8 c0_i32_33
  let c0_i32_34 : BitVec 32 := 0#32
  let v58 : BitVec 1 := Scalar.cmpi .sge v57 c0_i32_34
  let v59 : BitVec 1 := Scalar.andi v10 v58
  let v65 : BitVec 32 := Scalar.extui v59
  let c0_i32_45 : BitVec 32 := 0#32
  let v66 : BitVec 1 := Scalar.cmpi .ne v65 c0_i32_45
  v66

def k0_off1 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_31 : BitVec 32 := 0#32
  let v55 : BitVec 32 := Scalar.subi v8 c0_i32_31
  let c0_i32_32 : BitVec 32 := 0#32
  let v56 : BitVec 32 := Scalar.maxsi v55 c0_i32_32
  let c0_i32_40 : BitVec 32 := 0#32
  let c0_i32_459 : BitVec 32 := 0#32
  let c0_i32_460 : BitVec 32 := 0#32
  let c0_i32_461 : BitVec 32 := 0#32
  ![v56.toNat, 0, 0, 0, 0]
def k0_dev4 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c0_i32_37 : BitVec 32 := 0#32
  let v62 : BitVec 32 := Scalar.addi v8 c0_i32_37
  let c3_i32_38 : BitVec 32 := 3#32
  let v63 : BitVec 1 := Scalar.cmpi .sle v62 c3_i32_38
  let v64 : BitVec 1 := Scalar.andi v9 v63
  let v67 : BitVec 32 := Scalar.extui v64
  let c0_i32_52 : BitVec 32 := 0#32
  let v68 : BitVec 1 := Scalar.cmpi .ne v67 c0_i32_52
  v68

def k0_off2 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_35 : BitVec 32 := 0#32
  let v60 : BitVec 32 := Scalar.addi v8 c0_i32_35
  let c3_i32_36 : BitVec 32 := 3#32
  let v61 : BitVec 32 := Scalar.minsi v60 c3_i32_36
  let c0_i32_47 : BitVec 32 := 0#32
  let c0_i32_459 : BitVec 32 := 0#32
  let c0_i32_460 : BitVec 32 := 0#32
  let c0_i32_461 : BitVec 32 := 0#32
  ![v61.toNat, 0, 0, 0, 0]
def k0_dev5 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c0_i32_55 : BitVec 32 := 0#32
  let v71 : BitVec 32 := Scalar.subi v8 c0_i32_55
  let c0_i32_56 : BitVec 32 := 0#32
  let v72 : BitVec 1 := Scalar.cmpi .sge v71 c0_i32_56
  let v73 : BitVec 1 := Scalar.andi v10 v72
  let v79 : BitVec 32 := Scalar.extui v73
  let c0_i32_67 : BitVec 32 := 0#32
  let v80 : BitVec 1 := Scalar.cmpi .ne v79 c0_i32_67
  v80

def k0_off3 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_53 : BitVec 32 := 0#32
  let v69 : BitVec 32 := Scalar.subi v8 c0_i32_53
  let c0_i32_54 : BitVec 32 := 0#32
  let v70 : BitVec 32 := Scalar.maxsi v69 c0_i32_54
  let c1_i32_62 : BitVec 32 := 1#32
  let c0_i32_459 : BitVec 32 := 0#32
  let c0_i32_460 : BitVec 32 := 0#32
  let c0_i32_461 : BitVec 32 := 0#32
  ![v70.toNat, 1, 0, 0, 0]
def k0_dev6 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c0_i32_59 : BitVec 32 := 0#32
  let v76 : BitVec 32 := Scalar.addi v8 c0_i32_59
  let c3_i32_60 : BitVec 32 := 3#32
  let v77 : BitVec 1 := Scalar.cmpi .sle v76 c3_i32_60
  let v78 : BitVec 1 := Scalar.andi v9 v77
  let v81 : BitVec 32 := Scalar.extui v78
  let c0_i32_74 : BitVec 32 := 0#32
  let v82 : BitVec 1 := Scalar.cmpi .ne v81 c0_i32_74
  v82

def k0_off4 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_57 : BitVec 32 := 0#32
  let v74 : BitVec 32 := Scalar.addi v8 c0_i32_57
  let c3_i32_58 : BitVec 32 := 3#32
  let v75 : BitVec 32 := Scalar.minsi v74 c3_i32_58
  let c1_i32_69 : BitVec 32 := 1#32
  let c0_i32_459 : BitVec 32 := 0#32
  let c0_i32_460 : BitVec 32 := 0#32
  let c0_i32_461 : BitVec 32 := 0#32
  ![v75.toNat, 1, 0, 0, 0]
def k0_dev7 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_78 : BitVec 32 := 1#32
  let v86 : BitVec 32 := Scalar.subi v8 c1_i32_78
  let c0_i32_79 : BitVec 32 := 0#32
  let v87 : BitVec 32 := Scalar.subi v86 c0_i32_79
  let c0_i32_80 : BitVec 32 := 0#32
  let v88 : BitVec 1 := Scalar.cmpi .sge v87 c0_i32_80
  let v89 : BitVec 1 := Scalar.andi v9 v88
  let v97 : BitVec 32 := Scalar.extui v89
  let c0_i32_93 : BitVec 32 := 0#32
  let v98 : BitVec 1 := Scalar.cmpi .ne v97 c0_i32_93
  v98

def k0_off5 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v83 : BitVec 32 := Scalar.subi v8 c1_i32_75
  let c0_i32_76 : BitVec 32 := 0#32
  let v84 : BitVec 32 := Scalar.subi v83 c0_i32_76
  let c0_i32_77 : BitVec 32 := 0#32
  let v85 : BitVec 32 := Scalar.maxsi v84 c0_i32_77
  let c0_i32_88 : BitVec 32 := 0#32
  let c0_i32_459 : BitVec 32 := 0#32
  let c0_i32_460 : BitVec 32 := 0#32
  let c0_i32_461 : BitVec 32 := 0#32
  ![v85.toNat, 0, 0, 0, 0]
def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v83 : BitVec 32 := Scalar.subi v8 c1_i32_75
  let c0_i32_76 : BitVec 32 := 0#32
  let v84 : BitVec 32 := Scalar.subi v83 c0_i32_76
  let c0_i32_77 : BitVec 32 := 0#32
  let v85 : BitVec 32 := Scalar.maxsi v84 c0_i32_77
  let c0_i32_468 : BitVec 32 := 0#32
  ![v85.toNat, 0]
def k0_dev8 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_84 : BitVec 32 := 1#32
  let v93 : BitVec 32 := Scalar.addi v8 c1_i32_84
  let c0_i32_85 : BitVec 32 := 0#32
  let v94 : BitVec 32 := Scalar.addi v93 c0_i32_85
  let c3_i32_86 : BitVec 32 := 3#32
  let v95 : BitVec 1 := Scalar.cmpi .sle v94 c3_i32_86
  let v96 : BitVec 1 := Scalar.andi v10 v95
  let v99 : BitVec 32 := Scalar.extui v96
  let c0_i32_100 : BitVec 32 := 0#32
  let v100 : BitVec 1 := Scalar.cmpi .ne v99 c0_i32_100
  v100

def k0_off7 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v90 : BitVec 32 := Scalar.addi v8 c1_i32_81
  let c0_i32_82 : BitVec 32 := 0#32
  let v91 : BitVec 32 := Scalar.addi v90 c0_i32_82
  let c3_i32_83 : BitVec 32 := 3#32
  let v92 : BitVec 32 := Scalar.minsi v91 c3_i32_83
  let c0_i32_95 : BitVec 32 := 0#32
  let c0_i32_459 : BitVec 32 := 0#32
  let c0_i32_460 : BitVec 32 := 0#32
  let c0_i32_461 : BitVec 32 := 0#32
  ![v92.toNat, 0, 0, 0, 0]
def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v90 : BitVec 32 := Scalar.addi v8 c1_i32_81
  let c0_i32_82 : BitVec 32 := 0#32
  let v91 : BitVec 32 := Scalar.addi v90 c0_i32_82
  let c3_i32_83 : BitVec 32 := 3#32
  let v92 : BitVec 32 := Scalar.minsi v91 c3_i32_83
  let c0_i32_468 : BitVec 32 := 0#32
  ![v92.toNat, 0]
def k0_dev9 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_103 : BitVec 32 := 1#32
  let v103 : BitVec 32 := Scalar.subi v8 c1_i32_103
  let c0_i32_104 : BitVec 32 := 0#32
  let v104 : BitVec 1 := Scalar.cmpi .sge v103 c0_i32_104
  let v105 : BitVec 1 := Scalar.andi v10 v104
  let v111 : BitVec 32 := Scalar.extui v105
  let c0_i32_115 : BitVec 32 := 0#32
  let v112 : BitVec 1 := Scalar.cmpi .ne v111 c0_i32_115
  v112

def k0_off9 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v101 : BitVec 32 := Scalar.subi v8 c1_i32_101
  let c0_i32_102 : BitVec 32 := 0#32
  let v102 : BitVec 32 := Scalar.maxsi v101 c0_i32_102
  let c0_i32_110 : BitVec 32 := 0#32
  let c0_i32_459 : BitVec 32 := 0#32
  let c0_i32_460 : BitVec 32 := 0#32
  let c0_i32_461 : BitVec 32 := 0#32
  ![v102.toNat, 0, 0, 0, 0]
def k0_dev10 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_107 : BitVec 32 := 1#32
  let v108 : BitVec 32 := Scalar.addi v8 c1_i32_107
  let c3_i32_108 : BitVec 32 := 3#32
  let v109 : BitVec 1 := Scalar.cmpi .sle v108 c3_i32_108
  let v110 : BitVec 1 := Scalar.andi v9 v109
  let v113 : BitVec 32 := Scalar.extui v110
  let c0_i32_122 : BitVec 32 := 0#32
  let v114 : BitVec 1 := Scalar.cmpi .ne v113 c0_i32_122
  v114

def k0_off10 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v106 : BitVec 32 := Scalar.addi v8 c1_i32_105
  let c3_i32_106 : BitVec 32 := 3#32
  let v107 : BitVec 32 := Scalar.minsi v106 c3_i32_106
  let c0_i32_117 : BitVec 32 := 0#32
  let c0_i32_459 : BitVec 32 := 0#32
  let c0_i32_460 : BitVec 32 := 0#32
  let c0_i32_461 : BitVec 32 := 0#32
  ![v107.toNat, 0, 0, 0, 0]
def k0_dev11 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_126 : BitVec 32 := 1#32
  let v118 : BitVec 32 := Scalar.subi v8 c1_i32_126
  let c0_i32_127 : BitVec 32 := 0#32
  let v119 : BitVec 32 := Scalar.subi v118 c0_i32_127
  let c0_i32_128 : BitVec 32 := 0#32
  let v120 : BitVec 1 := Scalar.cmpi .sge v119 c0_i32_128
  let v121 : BitVec 1 := Scalar.andi v9 v120
  let v129 : BitVec 32 := Scalar.extui v121
  let c0_i32_141 : BitVec 32 := 0#32
  let v130 : BitVec 1 := Scalar.cmpi .ne v129 c0_i32_141
  v130

def k0_off11 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v115 : BitVec 32 := Scalar.subi v8 c1_i32_123
  let c0_i32_124 : BitVec 32 := 0#32
  let v116 : BitVec 32 := Scalar.subi v115 c0_i32_124
  let c0_i32_125 : BitVec 32 := 0#32
  let v117 : BitVec 32 := Scalar.maxsi v116 c0_i32_125
  let c1_i32_136 : BitVec 32 := 1#32
  let c0_i32_459 : BitVec 32 := 0#32
  let c0_i32_460 : BitVec 32 := 0#32
  let c0_i32_461 : BitVec 32 := 0#32
  ![v117.toNat, 1, 0, 0, 0]
def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v115 : BitVec 32 := Scalar.subi v8 c1_i32_123
  let c0_i32_124 : BitVec 32 := 0#32
  let v116 : BitVec 32 := Scalar.subi v115 c0_i32_124
  let c0_i32_125 : BitVec 32 := 0#32
  let v117 : BitVec 32 := Scalar.maxsi v116 c0_i32_125
  let c1_i32_468 : BitVec 32 := 1#32
  ![v117.toNat, 1]
def k0_dev12 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_132 : BitVec 32 := 1#32
  let v125 : BitVec 32 := Scalar.addi v8 c1_i32_132
  let c0_i32_133 : BitVec 32 := 0#32
  let v126 : BitVec 32 := Scalar.addi v125 c0_i32_133
  let c3_i32_134 : BitVec 32 := 3#32
  let v127 : BitVec 1 := Scalar.cmpi .sle v126 c3_i32_134
  let v128 : BitVec 1 := Scalar.andi v10 v127
  let v131 : BitVec 32 := Scalar.extui v128
  let c0_i32_148 : BitVec 32 := 0#32
  let v132 : BitVec 1 := Scalar.cmpi .ne v131 c0_i32_148
  v132

def k0_off13 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v122 : BitVec 32 := Scalar.addi v8 c1_i32_129
  let c0_i32_130 : BitVec 32 := 0#32
  let v123 : BitVec 32 := Scalar.addi v122 c0_i32_130
  let c3_i32_131 : BitVec 32 := 3#32
  let v124 : BitVec 32 := Scalar.minsi v123 c3_i32_131
  let c1_i32_143 : BitVec 32 := 1#32
  let c0_i32_459 : BitVec 32 := 0#32
  let c0_i32_460 : BitVec 32 := 0#32
  let c0_i32_461 : BitVec 32 := 0#32
  ![v124.toNat, 1, 0, 0, 0]
def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v122 : BitVec 32 := Scalar.addi v8 c1_i32_129
  let c0_i32_130 : BitVec 32 := 0#32
  let v123 : BitVec 32 := Scalar.addi v122 c0_i32_130
  let c3_i32_131 : BitVec 32 := 3#32
  let v124 : BitVec 32 := Scalar.minsi v123 c3_i32_131
  let c1_i32_468 : BitVec 32 := 1#32
  ![v124.toNat, 1]
def k0_dev13 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_151 : BitVec 32 := 1#32
  let v135 : BitVec 32 := Scalar.subi v8 c1_i32_151
  let c0_i32_152 : BitVec 32 := 0#32
  let v136 : BitVec 1 := Scalar.cmpi .sge v135 c0_i32_152
  let v137 : BitVec 1 := Scalar.andi v10 v136
  let v143 : BitVec 32 := Scalar.extui v137
  let c0_i32_163 : BitVec 32 := 0#32
  let v144 : BitVec 1 := Scalar.cmpi .ne v143 c0_i32_163
  v144

def k0_off15 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v133 : BitVec 32 := Scalar.subi v8 c1_i32_149
  let c0_i32_150 : BitVec 32 := 0#32
  let v134 : BitVec 32 := Scalar.maxsi v133 c0_i32_150
  let c1_i32_158 : BitVec 32 := 1#32
  let c0_i32_459 : BitVec 32 := 0#32
  let c0_i32_460 : BitVec 32 := 0#32
  let c0_i32_461 : BitVec 32 := 0#32
  ![v134.toNat, 1, 0, 0, 0]
def k0_dev14 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_155 : BitVec 32 := 1#32
  let v140 : BitVec 32 := Scalar.addi v8 c1_i32_155
  let c3_i32_156 : BitVec 32 := 3#32
  let v141 : BitVec 1 := Scalar.cmpi .sle v140 c3_i32_156
  let v142 : BitVec 1 := Scalar.andi v9 v141
  let v145 : BitVec 32 := Scalar.extui v142
  let c0_i32_170 : BitVec 32 := 0#32
  let v146 : BitVec 1 := Scalar.cmpi .ne v145 c0_i32_170
  v146

def k0_off16 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v138 : BitVec 32 := Scalar.addi v8 c1_i32_153
  let c3_i32_154 : BitVec 32 := 3#32
  let v139 : BitVec 32 := Scalar.minsi v138 c3_i32_154
  let c1_i32_165 : BitVec 32 := 1#32
  let c0_i32_459 : BitVec 32 := 0#32
  let c0_i32_460 : BitVec 32 := 0#32
  let c0_i32_461 : BitVec 32 := 0#32
  ![v139.toNat, 1, 0, 0, 0]
def k0_dev15 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
@[reducible] def k0_t1_loop : Scf.Loop 32 :=
  let c0_i32_171 : BitVec 32 := 0#32
  let c16_i32_172 : BitVec 32 := 16#32
  let v147 : BitVec 32 := Scalar.addi c0_i32_171 c16_i32_172
  let c1_i32_173 : BitVec 32 := 1#32
  ⟨c0_i32_171, v147, c1_i32_173⟩
def k0_off17 (k0_t1 : Fin k0_t1_loop.trips) : Fin 4 → Nat :=
  let c0_i32_171 : BitVec 32 := 0#32
  let c1_i32_173 : BitVec 32 := 1#32
  let arg14 : BitVec 32 := Scf.iv c0_i32_171 c1_i32_173 k0_t1
  let c0_i32_455 : BitVec 32 := 0#32
  let v309 : BitVec 1 := Scalar.cmpi .sgt arg14 c0_i32_455
  let v310 : BitVec 32 := Scalar.extui v309
  let c0_i32_456 : BitVec 32 := 0#32
  let v311 : BitVec 1 := Scalar.cmpi .slt arg14 c0_i32_456
  let v312 : BitVec 32 := Scalar.extui v311
  let v313 : BitVec 32 := Scalar.subi v310 v312
  let c8_i32 : BitVec 32 := 8#32
  let c0_i32_457 : BitVec 32 := 0#32
  let v314 : BitVec 1 := Scalar.cmpi .sgt c8_i32 c0_i32_457
  let v315 : BitVec 32 := Scalar.extui v314
  let c0_i32_458 : BitVec 32 := 0#32
  let v316 : BitVec 1 := Scalar.cmpi .slt c8_i32 c0_i32_458
  let v317 : BitVec 32 := Scalar.extui v316
  let v318 : BitVec 32 := Scalar.subi v315 v317
  let v319 : BitVec 1 := Scalar.cmpi .ne v313 v318
  let v320 : BitVec 32 := Scalar.remsi arg14 c8_i32
  let c0_i32_459 : BitVec 32 := 0#32
  let v321 : BitVec 1 := Scalar.cmpi .ne v320 c0_i32_459
  let v322 : BitVec 1 := Scalar.andi v319 v321
  let v308 : BitVec 32 := Scalar.divsi arg14 c8_i32
  let c1_i32_460 : BitVec 32 := 1#32
  let v323 : BitVec 32 := Scalar.subi v308 c1_i32_460
  let v324 : BitVec 32 := Scalar.select v322 v323 v308
  let v335 : Index := Scalar.indexCast v324
  let c8_i32_461 : BitVec 32 := 8#32
  let c0_i32_462 : BitVec 32 := 0#32
  let v325 : BitVec 1 := Scalar.cmpi .eq c8_i32_461 c0_i32_462
  let c1_i32_463 : BitVec 32 := 1#32
  let v326 : BitVec 32 := Scalar.select v325 c1_i32_463 c8_i32_461
  let v327 : BitVec 32 := Scalar.remsi arg14 v326
  let c0_i32_465 : BitVec 32 := 0#32
  let v329 : BitVec 1 := Scalar.cmpi .slt v327 c0_i32_465
  let c0_i32_466 : BitVec 32 := 0#32
  let v330 : BitVec 1 := Scalar.cmpi .slt v326 c0_i32_466
  let v331 : BitVec 1 := Scalar.xori v329 v330
  let c0_i32_464 : BitVec 32 := 0#32
  let v328 : BitVec 1 := Scalar.cmpi .ne v327 c0_i32_464
  let v332 : BitVec 1 := Scalar.andi v331 v328
  let v333 : BitVec 32 := Scalar.addi v327 v326
  let v334 : BitVec 32 := Scalar.select v332 v333 v327
  let v336 : Index := Scalar.indexCast v334
  let c0 : Index := 0#32
  let c0_467 : Index := 0#32
  ![v335.toNat, v336.toNat, 0, 0]
def k0_off18 (k0_t1 : Fin k0_t1_loop.trips) : Fin 3 → Nat :=
  let c0_i32_171 : BitVec 32 := 0#32
  let c1_i32_173 : BitVec 32 := 1#32
  let arg14 : BitVec 32 := Scf.iv c0_i32_171 c1_i32_173 k0_t1
  let v358 : Index := Scalar.indexCast arg14
  let c0_475 : Index := 0#32
  let c0_476 : Index := 0#32
  ![v358.toNat, 0, 0]
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_178 : BitVec 32 := 1#32
  let v151 : BitVec 32 := Scalar.subi v8 c1_i32_178
  let c1_i32_179 : BitVec 32 := 1#32
  let v152 : BitVec 32 := Scalar.subi v151 c1_i32_179
  let c0_i32_180 : BitVec 32 := 0#32
  let v153 : BitVec 1 := Scalar.cmpi .sge v152 c0_i32_180
  let v154 : BitVec 1 := Scalar.andi v9 v153
  let v162 : BitVec 32 := Scalar.extui v154
  let c0_i32_193 : BitVec 32 := 0#32
  let v163 : BitVec 1 := Scalar.cmpi .ne v162 c0_i32_193
  v163

def k0_off19 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v148 : BitVec 32 := Scalar.subi v8 c1_i32_175
  let c1_i32_176 : BitVec 32 := 1#32
  let v149 : BitVec 32 := Scalar.subi v148 c1_i32_176
  let c0_i32_177 : BitVec 32 := 0#32
  let v150 : BitVec 32 := Scalar.maxsi v149 c0_i32_177
  let c0_i32_188 : BitVec 32 := 0#32
  let c0_i32_459 : BitVec 32 := 0#32
  let c0_i32_460 : BitVec 32 := 0#32
  let c0_i32_461 : BitVec 32 := 0#32
  ![v150.toNat, 0, 0, 0, 0]
def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v148 : BitVec 32 := Scalar.subi v8 c1_i32_175
  let c1_i32_176 : BitVec 32 := 1#32
  let v149 : BitVec 32 := Scalar.subi v148 c1_i32_176
  let c0_i32_177 : BitVec 32 := 0#32
  let v150 : BitVec 32 := Scalar.maxsi v149 c0_i32_177
  let c0_i32_468 : BitVec 32 := 0#32
  ![v150.toNat, 0]
def k0_dev16 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_184 : BitVec 32 := 1#32
  let v158 : BitVec 32 := Scalar.addi v8 c1_i32_184
  let c1_i32_185 : BitVec 32 := 1#32
  let v159 : BitVec 32 := Scalar.addi v158 c1_i32_185
  let c3_i32_186 : BitVec 32 := 3#32
  let v160 : BitVec 1 := Scalar.cmpi .sle v159 c3_i32_186
  let v161 : BitVec 1 := Scalar.andi v10 v160
  let v164 : BitVec 32 := Scalar.extui v161
  let c0_i32_200 : BitVec 32 := 0#32
  let v165 : BitVec 1 := Scalar.cmpi .ne v164 c0_i32_200
  v165

def k0_off21 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v155 : BitVec 32 := Scalar.addi v8 c1_i32_181
  let c1_i32_182 : BitVec 32 := 1#32
  let v156 : BitVec 32 := Scalar.addi v155 c1_i32_182
  let c3_i32_183 : BitVec 32 := 3#32
  let v157 : BitVec 32 := Scalar.minsi v156 c3_i32_183
  let c0_i32_195 : BitVec 32 := 0#32
  let c0_i32_459 : BitVec 32 := 0#32
  let c0_i32_460 : BitVec 32 := 0#32
  let c0_i32_461 : BitVec 32 := 0#32
  ![v157.toNat, 0, 0, 0, 0]
def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v155 : BitVec 32 := Scalar.addi v8 c1_i32_181
  let c1_i32_182 : BitVec 32 := 1#32
  let v156 : BitVec 32 := Scalar.addi v155 c1_i32_182
  let c3_i32_183 : BitVec 32 := 3#32
  let v157 : BitVec 32 := Scalar.minsi v156 c3_i32_183
  let c0_i32_468 : BitVec 32 := 0#32
  ![v157.toNat, 0]
def k0_dev17 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c2_i32_203 : BitVec 32 := 2#32
  let v168 : BitVec 32 := Scalar.subi v8 c2_i32_203
  let c0_i32_204 : BitVec 32 := 0#32
  let v169 : BitVec 1 := Scalar.cmpi .sge v168 c0_i32_204
  let v170 : BitVec 1 := Scalar.andi v10 v169
  let v176 : BitVec 32 := Scalar.extui v170
  let c0_i32_215 : BitVec 32 := 0#32
  let v177 : BitVec 1 := Scalar.cmpi .ne v176 c0_i32_215
  v177

def k0_off23 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_201 : BitVec 32 := 2#32
  let v166 : BitVec 32 := Scalar.subi v8 c2_i32_201
  let c0_i32_202 : BitVec 32 := 0#32
  let v167 : BitVec 32 := Scalar.maxsi v166 c0_i32_202
  let c0_i32_210 : BitVec 32 := 0#32
  let c0_i32_459 : BitVec 32 := 0#32
  let c0_i32_460 : BitVec 32 := 0#32
  let c0_i32_461 : BitVec 32 := 0#32
  ![v167.toNat, 0, 0, 0, 0]
def k0_dev18 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c2_i32_207 : BitVec 32 := 2#32
  let v173 : BitVec 32 := Scalar.addi v8 c2_i32_207
  let c3_i32_208 : BitVec 32 := 3#32
  let v174 : BitVec 1 := Scalar.cmpi .sle v173 c3_i32_208
  let v175 : BitVec 1 := Scalar.andi v9 v174
  let v178 : BitVec 32 := Scalar.extui v175
  let c0_i32_222 : BitVec 32 := 0#32
  let v179 : BitVec 1 := Scalar.cmpi .ne v178 c0_i32_222
  v179

def k0_off24 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_205 : BitVec 32 := 2#32
  let v171 : BitVec 32 := Scalar.addi v8 c2_i32_205
  let c3_i32_206 : BitVec 32 := 3#32
  let v172 : BitVec 32 := Scalar.minsi v171 c3_i32_206
  let c0_i32_217 : BitVec 32 := 0#32
  let c0_i32_459 : BitVec 32 := 0#32
  let c0_i32_460 : BitVec 32 := 0#32
  let c0_i32_461 : BitVec 32 := 0#32
  ![v172.toNat, 0, 0, 0, 0]
def k0_dev19 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_226 : BitVec 32 := 1#32
  let v183 : BitVec 32 := Scalar.subi v8 c1_i32_226
  let c1_i32_227 : BitVec 32 := 1#32
  let v184 : BitVec 32 := Scalar.subi v183 c1_i32_227
  let c0_i32_228 : BitVec 32 := 0#32
  let v185 : BitVec 1 := Scalar.cmpi .sge v184 c0_i32_228
  let v186 : BitVec 1 := Scalar.andi v9 v185
  let v194 : BitVec 32 := Scalar.extui v186
  let c0_i32_241 : BitVec 32 := 0#32
  let v195 : BitVec 1 := Scalar.cmpi .ne v194 c0_i32_241
  v195

def k0_off25 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v180 : BitVec 32 := Scalar.subi v8 c1_i32_223
  let c1_i32_224 : BitVec 32 := 1#32
  let v181 : BitVec 32 := Scalar.subi v180 c1_i32_224
  let c0_i32_225 : BitVec 32 := 0#32
  let v182 : BitVec 32 := Scalar.maxsi v181 c0_i32_225
  let c1_i32_236 : BitVec 32 := 1#32
  let c0_i32_459 : BitVec 32 := 0#32
  let c0_i32_460 : BitVec 32 := 0#32
  let c0_i32_461 : BitVec 32 := 0#32
  ![v182.toNat, 1, 0, 0, 0]
def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v180 : BitVec 32 := Scalar.subi v8 c1_i32_223
  let c1_i32_224 : BitVec 32 := 1#32
  let v181 : BitVec 32 := Scalar.subi v180 c1_i32_224
  let c0_i32_225 : BitVec 32 := 0#32
  let v182 : BitVec 32 := Scalar.maxsi v181 c0_i32_225
  let c1_i32_468 : BitVec 32 := 1#32
  ![v182.toNat, 1]
def k0_dev20 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_232 : BitVec 32 := 1#32
  let v190 : BitVec 32 := Scalar.addi v8 c1_i32_232
  let c1_i32_233 : BitVec 32 := 1#32
  let v191 : BitVec 32 := Scalar.addi v190 c1_i32_233
  let c3_i32_234 : BitVec 32 := 3#32
  let v192 : BitVec 1 := Scalar.cmpi .sle v191 c3_i32_234
  let v193 : BitVec 1 := Scalar.andi v10 v192
  let v196 : BitVec 32 := Scalar.extui v193
  let c0_i32_248 : BitVec 32 := 0#32
  let v197 : BitVec 1 := Scalar.cmpi .ne v196 c0_i32_248
  v197

def k0_off27 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v187 : BitVec 32 := Scalar.addi v8 c1_i32_229
  let c1_i32_230 : BitVec 32 := 1#32
  let v188 : BitVec 32 := Scalar.addi v187 c1_i32_230
  let c3_i32_231 : BitVec 32 := 3#32
  let v189 : BitVec 32 := Scalar.minsi v188 c3_i32_231
  let c1_i32_243 : BitVec 32 := 1#32
  let c0_i32_459 : BitVec 32 := 0#32
  let c0_i32_460 : BitVec 32 := 0#32
  let c0_i32_461 : BitVec 32 := 0#32
  ![v189.toNat, 1, 0, 0, 0]
def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v187 : BitVec 32 := Scalar.addi v8 c1_i32_229
  let c1_i32_230 : BitVec 32 := 1#32
  let v188 : BitVec 32 := Scalar.addi v187 c1_i32_230
  let c3_i32_231 : BitVec 32 := 3#32
  let v189 : BitVec 32 := Scalar.minsi v188 c3_i32_231
  let c1_i32_468 : BitVec 32 := 1#32
  ![v189.toNat, 1]
def k0_dev21 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c2_i32_251 : BitVec 32 := 2#32
  let v200 : BitVec 32 := Scalar.subi v8 c2_i32_251
  let c0_i32_252 : BitVec 32 := 0#32
  let v201 : BitVec 1 := Scalar.cmpi .sge v200 c0_i32_252
  let v202 : BitVec 1 := Scalar.andi v10 v201
  let v208 : BitVec 32 := Scalar.extui v202
  let c0_i32_263 : BitVec 32 := 0#32
  let v209 : BitVec 1 := Scalar.cmpi .ne v208 c0_i32_263
  v209

def k0_off29 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_249 : BitVec 32 := 2#32
  let v198 : BitVec 32 := Scalar.subi v8 c2_i32_249
  let c0_i32_250 : BitVec 32 := 0#32
  let v199 : BitVec 32 := Scalar.maxsi v198 c0_i32_250
  let c1_i32_258 : BitVec 32 := 1#32
  let c0_i32_459 : BitVec 32 := 0#32
  let c0_i32_460 : BitVec 32 := 0#32
  let c0_i32_461 : BitVec 32 := 0#32
  ![v199.toNat, 1, 0, 0, 0]
def k0_dev22 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c2_i32_255 : BitVec 32 := 2#32
  let v205 : BitVec 32 := Scalar.addi v8 c2_i32_255
  let c3_i32_256 : BitVec 32 := 3#32
  let v206 : BitVec 1 := Scalar.cmpi .sle v205 c3_i32_256
  let v207 : BitVec 1 := Scalar.andi v9 v206
  let v210 : BitVec 32 := Scalar.extui v207
  let c0_i32_270 : BitVec 32 := 0#32
  let v211 : BitVec 1 := Scalar.cmpi .ne v210 c0_i32_270
  v211

def k0_off30 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_253 : BitVec 32 := 2#32
  let v203 : BitVec 32 := Scalar.addi v8 c2_i32_253
  let c3_i32_254 : BitVec 32 := 3#32
  let v204 : BitVec 32 := Scalar.minsi v203 c3_i32_254
  let c1_i32_265 : BitVec 32 := 1#32
  let c0_i32_459 : BitVec 32 := 0#32
  let c0_i32_460 : BitVec 32 := 0#32
  let c0_i32_461 : BitVec 32 := 0#32
  ![v204.toNat, 1, 0, 0, 0]
def k0_dev23 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_274 : BitVec 32 := 1#32
  let v215 : BitVec 32 := Scalar.subi v8 c1_i32_274
  let c2_i32_275 : BitVec 32 := 2#32
  let v216 : BitVec 32 := Scalar.subi v215 c2_i32_275
  let c0_i32_276 : BitVec 32 := 0#32
  let v217 : BitVec 1 := Scalar.cmpi .sge v216 c0_i32_276
  let v218 : BitVec 1 := Scalar.andi v9 v217
  let v226 : BitVec 32 := Scalar.extui v218
  let c0_i32_289 : BitVec 32 := 0#32
  let v227 : BitVec 1 := Scalar.cmpi .ne v226 c0_i32_289
  v227

def k0_off31 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v212 : BitVec 32 := Scalar.subi v8 c1_i32_271
  let c2_i32_272 : BitVec 32 := 2#32
  let v213 : BitVec 32 := Scalar.subi v212 c2_i32_272
  let c0_i32_273 : BitVec 32 := 0#32
  let v214 : BitVec 32 := Scalar.maxsi v213 c0_i32_273
  let c0_i32_284 : BitVec 32 := 0#32
  let c0_i32_459 : BitVec 32 := 0#32
  let c0_i32_460 : BitVec 32 := 0#32
  let c0_i32_461 : BitVec 32 := 0#32
  ![v214.toNat, 0, 0, 0, 0]
def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v212 : BitVec 32 := Scalar.subi v8 c1_i32_271
  let c2_i32_272 : BitVec 32 := 2#32
  let v213 : BitVec 32 := Scalar.subi v212 c2_i32_272
  let c0_i32_273 : BitVec 32 := 0#32
  let v214 : BitVec 32 := Scalar.maxsi v213 c0_i32_273
  let c0_i32_468 : BitVec 32 := 0#32
  ![v214.toNat, 0]
def k0_dev24 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_280 : BitVec 32 := 1#32
  let v222 : BitVec 32 := Scalar.addi v8 c1_i32_280
  let c2_i32_281 : BitVec 32 := 2#32
  let v223 : BitVec 32 := Scalar.addi v222 c2_i32_281
  let c3_i32_282 : BitVec 32 := 3#32
  let v224 : BitVec 1 := Scalar.cmpi .sle v223 c3_i32_282
  let v225 : BitVec 1 := Scalar.andi v10 v224
  let v228 : BitVec 32 := Scalar.extui v225
  let c0_i32_296 : BitVec 32 := 0#32
  let v229 : BitVec 1 := Scalar.cmpi .ne v228 c0_i32_296
  v229

def k0_off33 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v219 : BitVec 32 := Scalar.addi v8 c1_i32_277
  let c2_i32_278 : BitVec 32 := 2#32
  let v220 : BitVec 32 := Scalar.addi v219 c2_i32_278
  let c3_i32_279 : BitVec 32 := 3#32
  let v221 : BitVec 32 := Scalar.minsi v220 c3_i32_279
  let c0_i32_291 : BitVec 32 := 0#32
  let c0_i32_459 : BitVec 32 := 0#32
  let c0_i32_460 : BitVec 32 := 0#32
  let c0_i32_461 : BitVec 32 := 0#32
  ![v221.toNat, 0, 0, 0, 0]
def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v219 : BitVec 32 := Scalar.addi v8 c1_i32_277
  let c2_i32_278 : BitVec 32 := 2#32
  let v220 : BitVec 32 := Scalar.addi v219 c2_i32_278
  let c3_i32_279 : BitVec 32 := 3#32
  let v221 : BitVec 32 := Scalar.minsi v220 c3_i32_279
  let c0_i32_468 : BitVec 32 := 0#32
  ![v221.toNat, 0]
def k0_dev25 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_300 : BitVec 32 := 1#32
  let v233 : BitVec 32 := Scalar.subi v8 c1_i32_300
  let c2_i32_301 : BitVec 32 := 2#32
  let v234 : BitVec 32 := Scalar.subi v233 c2_i32_301
  let c0_i32_302 : BitVec 32 := 0#32
  let v235 : BitVec 1 := Scalar.cmpi .sge v234 c0_i32_302
  let v236 : BitVec 1 := Scalar.andi v9 v235
  let v244 : BitVec 32 := Scalar.extui v236
  let c0_i32_315 : BitVec 32 := 0#32
  let v245 : BitVec 1 := Scalar.cmpi .ne v244 c0_i32_315
  v245

def k0_off35 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v230 : BitVec 32 := Scalar.subi v8 c1_i32_297
  let c2_i32_298 : BitVec 32 := 2#32
  let v231 : BitVec 32 := Scalar.subi v230 c2_i32_298
  let c0_i32_299 : BitVec 32 := 0#32
  let v232 : BitVec 32 := Scalar.maxsi v231 c0_i32_299
  let c1_i32_310 : BitVec 32 := 1#32
  let c0_i32_459 : BitVec 32 := 0#32
  let c0_i32_460 : BitVec 32 := 0#32
  let c0_i32_461 : BitVec 32 := 0#32
  ![v232.toNat, 1, 0, 0, 0]
def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v230 : BitVec 32 := Scalar.subi v8 c1_i32_297
  let c2_i32_298 : BitVec 32 := 2#32
  let v231 : BitVec 32 := Scalar.subi v230 c2_i32_298
  let c0_i32_299 : BitVec 32 := 0#32
  let v232 : BitVec 32 := Scalar.maxsi v231 c0_i32_299
  let c1_i32_468 : BitVec 32 := 1#32
  ![v232.toNat, 1]
def k0_dev26 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_306 : BitVec 32 := 1#32
  let v240 : BitVec 32 := Scalar.addi v8 c1_i32_306
  let c2_i32_307 : BitVec 32 := 2#32
  let v241 : BitVec 32 := Scalar.addi v240 c2_i32_307
  let c3_i32_308 : BitVec 32 := 3#32
  let v242 : BitVec 1 := Scalar.cmpi .sle v241 c3_i32_308
  let v243 : BitVec 1 := Scalar.andi v10 v242
  let v246 : BitVec 32 := Scalar.extui v243
  let c0_i32_322 : BitVec 32 := 0#32
  let v247 : BitVec 1 := Scalar.cmpi .ne v246 c0_i32_322
  v247

def k0_off37 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v237 : BitVec 32 := Scalar.addi v8 c1_i32_303
  let c2_i32_304 : BitVec 32 := 2#32
  let v238 : BitVec 32 := Scalar.addi v237 c2_i32_304
  let c3_i32_305 : BitVec 32 := 3#32
  let v239 : BitVec 32 := Scalar.minsi v238 c3_i32_305
  let c1_i32_317 : BitVec 32 := 1#32
  let c0_i32_459 : BitVec 32 := 0#32
  let c0_i32_460 : BitVec 32 := 0#32
  let c0_i32_461 : BitVec 32 := 0#32
  ![v239.toNat, 1, 0, 0, 0]
def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v237 : BitVec 32 := Scalar.addi v8 c1_i32_303
  let c2_i32_304 : BitVec 32 := 2#32
  let v238 : BitVec 32 := Scalar.addi v237 c2_i32_304
  let c3_i32_305 : BitVec 32 := 3#32
  let v239 : BitVec 32 := Scalar.minsi v238 c3_i32_305
  let c1_i32_468 : BitVec 32 := 1#32
  ![v239.toNat, 1]
def k0_dev27 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond40 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_17 : BitVec 32 := 1#32
  let v34 : BitVec 1 := Scalar.cmpi .eq v2 c1_i32_17
  let v35 : BitVec 32 := Scalar.extui v34
  let c0_i32_18 : BitVec 32 := 0#32
  let v36 : BitVec 1 := Scalar.cmpi .ne v35 c0_i32_18
  v36

def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c0_i32_33 : BitVec 32 := 0#32
  let v57 : BitVec 32 := Scalar.subi v8 c0_i32_33
  let c0_i32_34 : BitVec 32 := 0#32
  let v58 : BitVec 1 := Scalar.cmpi .sge v57 c0_i32_34
  let v59 : BitVec 1 := Scalar.andi v10 v58
  let v65 : BitVec 32 := Scalar.extui v59
  let c0_i32_45 : BitVec 32 := 0#32
  let v66 : BitVec 1 := Scalar.cmpi .ne v65 c0_i32_45
  v66

def k0_off39 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_31 : BitVec 32 := 0#32
  let v55 : BitVec 32 := Scalar.subi v8 c0_i32_31
  let c0_i32_32 : BitVec 32 := 0#32
  let v56 : BitVec 32 := Scalar.maxsi v55 c0_i32_32
  let c0_i32_40 : BitVec 32 := 0#32
  let c0_i32_459 : BitVec 32 := 0#32
  let c0_i32_460 : BitVec 32 := 0#32
  let c0_i32_461 : BitVec 32 := 0#32
  ![v56.toNat, 0, 0, 0, 0]
def k0_dev28 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c0_i32_37 : BitVec 32 := 0#32
  let v62 : BitVec 32 := Scalar.addi v8 c0_i32_37
  let c3_i32_38 : BitVec 32 := 3#32
  let v63 : BitVec 1 := Scalar.cmpi .sle v62 c3_i32_38
  let v64 : BitVec 1 := Scalar.andi v9 v63
  let v67 : BitVec 32 := Scalar.extui v64
  let c0_i32_52 : BitVec 32 := 0#32
  let v68 : BitVec 1 := Scalar.cmpi .ne v67 c0_i32_52
  v68

def k0_off40 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_35 : BitVec 32 := 0#32
  let v60 : BitVec 32 := Scalar.addi v8 c0_i32_35
  let c3_i32_36 : BitVec 32 := 3#32
  let v61 : BitVec 32 := Scalar.minsi v60 c3_i32_36
  let c0_i32_47 : BitVec 32 := 0#32
  let c0_i32_459 : BitVec 32 := 0#32
  let c0_i32_460 : BitVec 32 := 0#32
  let c0_i32_461 : BitVec 32 := 0#32
  ![v61.toNat, 0, 0, 0, 0]
def k0_dev29 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c0_i32_55 : BitVec 32 := 0#32
  let v71 : BitVec 32 := Scalar.subi v8 c0_i32_55
  let c0_i32_56 : BitVec 32 := 0#32
  let v72 : BitVec 1 := Scalar.cmpi .sge v71 c0_i32_56
  let v73 : BitVec 1 := Scalar.andi v10 v72
  let v79 : BitVec 32 := Scalar.extui v73
  let c0_i32_67 : BitVec 32 := 0#32
  let v80 : BitVec 1 := Scalar.cmpi .ne v79 c0_i32_67
  v80

def k0_off41 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_53 : BitVec 32 := 0#32
  let v69 : BitVec 32 := Scalar.subi v8 c0_i32_53
  let c0_i32_54 : BitVec 32 := 0#32
  let v70 : BitVec 32 := Scalar.maxsi v69 c0_i32_54
  let c1_i32_62 : BitVec 32 := 1#32
  let c0_i32_459 : BitVec 32 := 0#32
  let c0_i32_460 : BitVec 32 := 0#32
  let c0_i32_461 : BitVec 32 := 0#32
  ![v70.toNat, 1, 0, 0, 0]
def k0_dev30 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c0_i32_59 : BitVec 32 := 0#32
  let v76 : BitVec 32 := Scalar.addi v8 c0_i32_59
  let c3_i32_60 : BitVec 32 := 3#32
  let v77 : BitVec 1 := Scalar.cmpi .sle v76 c3_i32_60
  let v78 : BitVec 1 := Scalar.andi v9 v77
  let v81 : BitVec 32 := Scalar.extui v78
  let c0_i32_74 : BitVec 32 := 0#32
  let v82 : BitVec 1 := Scalar.cmpi .ne v81 c0_i32_74
  v82

def k0_off42 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_57 : BitVec 32 := 0#32
  let v74 : BitVec 32 := Scalar.addi v8 c0_i32_57
  let c3_i32_58 : BitVec 32 := 3#32
  let v75 : BitVec 32 := Scalar.minsi v74 c3_i32_58
  let c1_i32_69 : BitVec 32 := 1#32
  let c0_i32_459 : BitVec 32 := 0#32
  let c0_i32_460 : BitVec 32 := 0#32
  let c0_i32_461 : BitVec 32 := 0#32
  ![v75.toNat, 1, 0, 0, 0]
def k0_dev31 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_78 : BitVec 32 := 1#32
  let v86 : BitVec 32 := Scalar.subi v8 c1_i32_78
  let c0_i32_79 : BitVec 32 := 0#32
  let v87 : BitVec 32 := Scalar.subi v86 c0_i32_79
  let c0_i32_80 : BitVec 32 := 0#32
  let v88 : BitVec 1 := Scalar.cmpi .sge v87 c0_i32_80
  let v89 : BitVec 1 := Scalar.andi v9 v88
  let v97 : BitVec 32 := Scalar.extui v89
  let c0_i32_93 : BitVec 32 := 0#32
  let v98 : BitVec 1 := Scalar.cmpi .ne v97 c0_i32_93
  v98

def k0_off43 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v83 : BitVec 32 := Scalar.subi v8 c1_i32_75
  let c0_i32_76 : BitVec 32 := 0#32
  let v84 : BitVec 32 := Scalar.subi v83 c0_i32_76
  let c0_i32_77 : BitVec 32 := 0#32
  let v85 : BitVec 32 := Scalar.maxsi v84 c0_i32_77
  let c0_i32_88 : BitVec 32 := 0#32
  let c0_i32_459 : BitVec 32 := 0#32
  let c0_i32_460 : BitVec 32 := 0#32
  let c0_i32_461 : BitVec 32 := 0#32
  ![v85.toNat, 0, 0, 0, 0]
def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v83 : BitVec 32 := Scalar.subi v8 c1_i32_75
  let c0_i32_76 : BitVec 32 := 0#32
  let v84 : BitVec 32 := Scalar.subi v83 c0_i32_76
  let c0_i32_77 : BitVec 32 := 0#32
  let v85 : BitVec 32 := Scalar.maxsi v84 c0_i32_77
  let c0_i32_468 : BitVec 32 := 0#32
  ![v85.toNat, 0]
def k0_dev32 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_84 : BitVec 32 := 1#32
  let v93 : BitVec 32 := Scalar.addi v8 c1_i32_84
  let c0_i32_85 : BitVec 32 := 0#32
  let v94 : BitVec 32 := Scalar.addi v93 c0_i32_85
  let c3_i32_86 : BitVec 32 := 3#32
  let v95 : BitVec 1 := Scalar.cmpi .sle v94 c3_i32_86
  let v96 : BitVec 1 := Scalar.andi v10 v95
  let v99 : BitVec 32 := Scalar.extui v96
  let c0_i32_100 : BitVec 32 := 0#32
  let v100 : BitVec 1 := Scalar.cmpi .ne v99 c0_i32_100
  v100

def k0_off45 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v90 : BitVec 32 := Scalar.addi v8 c1_i32_81
  let c0_i32_82 : BitVec 32 := 0#32
  let v91 : BitVec 32 := Scalar.addi v90 c0_i32_82
  let c3_i32_83 : BitVec 32 := 3#32
  let v92 : BitVec 32 := Scalar.minsi v91 c3_i32_83
  let c0_i32_95 : BitVec 32 := 0#32
  let c0_i32_459 : BitVec 32 := 0#32
  let c0_i32_460 : BitVec 32 := 0#32
  let c0_i32_461 : BitVec 32 := 0#32
  ![v92.toNat, 0, 0, 0, 0]
def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v90 : BitVec 32 := Scalar.addi v8 c1_i32_81
  let c0_i32_82 : BitVec 32 := 0#32
  let v91 : BitVec 32 := Scalar.addi v90 c0_i32_82
  let c3_i32_83 : BitVec 32 := 3#32
  let v92 : BitVec 32 := Scalar.minsi v91 c3_i32_83
  let c0_i32_468 : BitVec 32 := 0#32
  ![v92.toNat, 0]
def k0_dev33 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_103 : BitVec 32 := 1#32
  let v103 : BitVec 32 := Scalar.subi v8 c1_i32_103
  let c0_i32_104 : BitVec 32 := 0#32
  let v104 : BitVec 1 := Scalar.cmpi .sge v103 c0_i32_104
  let v105 : BitVec 1 := Scalar.andi v10 v104
  let v111 : BitVec 32 := Scalar.extui v105
  let c0_i32_115 : BitVec 32 := 0#32
  let v112 : BitVec 1 := Scalar.cmpi .ne v111 c0_i32_115
  v112

def k0_off47 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v101 : BitVec 32 := Scalar.subi v8 c1_i32_101
  let c0_i32_102 : BitVec 32 := 0#32
  let v102 : BitVec 32 := Scalar.maxsi v101 c0_i32_102
  let c0_i32_110 : BitVec 32 := 0#32
  let c0_i32_459 : BitVec 32 := 0#32
  let c0_i32_460 : BitVec 32 := 0#32
  let c0_i32_461 : BitVec 32 := 0#32
  ![v102.toNat, 0, 0, 0, 0]
def k0_dev34 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_107 : BitVec 32 := 1#32
  let v108 : BitVec 32 := Scalar.addi v8 c1_i32_107
  let c3_i32_108 : BitVec 32 := 3#32
  let v109 : BitVec 1 := Scalar.cmpi .sle v108 c3_i32_108
  let v110 : BitVec 1 := Scalar.andi v9 v109
  let v113 : BitVec 32 := Scalar.extui v110
  let c0_i32_122 : BitVec 32 := 0#32
  let v114 : BitVec 1 := Scalar.cmpi .ne v113 c0_i32_122
  v114

def k0_off48 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v106 : BitVec 32 := Scalar.addi v8 c1_i32_105
  let c3_i32_106 : BitVec 32 := 3#32
  let v107 : BitVec 32 := Scalar.minsi v106 c3_i32_106
  let c0_i32_117 : BitVec 32 := 0#32
  let c0_i32_459 : BitVec 32 := 0#32
  let c0_i32_460 : BitVec 32 := 0#32
  let c0_i32_461 : BitVec 32 := 0#32
  ![v107.toNat, 0, 0, 0, 0]
def k0_dev35 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_126 : BitVec 32 := 1#32
  let v118 : BitVec 32 := Scalar.subi v8 c1_i32_126
  let c0_i32_127 : BitVec 32 := 0#32
  let v119 : BitVec 32 := Scalar.subi v118 c0_i32_127
  let c0_i32_128 : BitVec 32 := 0#32
  let v120 : BitVec 1 := Scalar.cmpi .sge v119 c0_i32_128
  let v121 : BitVec 1 := Scalar.andi v9 v120
  let v129 : BitVec 32 := Scalar.extui v121
  let c0_i32_141 : BitVec 32 := 0#32
  let v130 : BitVec 1 := Scalar.cmpi .ne v129 c0_i32_141
  v130

def k0_off49 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v115 : BitVec 32 := Scalar.subi v8 c1_i32_123
  let c0_i32_124 : BitVec 32 := 0#32
  let v116 : BitVec 32 := Scalar.subi v115 c0_i32_124
  let c0_i32_125 : BitVec 32 := 0#32
  let v117 : BitVec 32 := Scalar.maxsi v116 c0_i32_125
  let c1_i32_136 : BitVec 32 := 1#32
  let c0_i32_459 : BitVec 32 := 0#32
  let c0_i32_460 : BitVec 32 := 0#32
  let c0_i32_461 : BitVec 32 := 0#32
  ![v117.toNat, 1, 0, 0, 0]
def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v115 : BitVec 32 := Scalar.subi v8 c1_i32_123
  let c0_i32_124 : BitVec 32 := 0#32
  let v116 : BitVec 32 := Scalar.subi v115 c0_i32_124
  let c0_i32_125 : BitVec 32 := 0#32
  let v117 : BitVec 32 := Scalar.maxsi v116 c0_i32_125
  let c1_i32_468 : BitVec 32 := 1#32
  ![v117.toNat, 1]
def k0_dev36 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_132 : BitVec 32 := 1#32
  let v125 : BitVec 32 := Scalar.addi v8 c1_i32_132
  let c0_i32_133 : BitVec 32 := 0#32
  let v126 : BitVec 32 := Scalar.addi v125 c0_i32_133
  let c3_i32_134 : BitVec 32 := 3#32
  let v127 : BitVec 1 := Scalar.cmpi .sle v126 c3_i32_134
  let v128 : BitVec 1 := Scalar.andi v10 v127
  let v131 : BitVec 32 := Scalar.extui v128
  let c0_i32_148 : BitVec 32 := 0#32
  let v132 : BitVec 1 := Scalar.cmpi .ne v131 c0_i32_148
  v132

def k0_off51 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v122 : BitVec 32 := Scalar.addi v8 c1_i32_129
  let c0_i32_130 : BitVec 32 := 0#32
  let v123 : BitVec 32 := Scalar.addi v122 c0_i32_130
  let c3_i32_131 : BitVec 32 := 3#32
  let v124 : BitVec 32 := Scalar.minsi v123 c3_i32_131
  let c1_i32_143 : BitVec 32 := 1#32
  let c0_i32_459 : BitVec 32 := 0#32
  let c0_i32_460 : BitVec 32 := 0#32
  let c0_i32_461 : BitVec 32 := 0#32
  ![v124.toNat, 1, 0, 0, 0]
def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v122 : BitVec 32 := Scalar.addi v8 c1_i32_129
  let c0_i32_130 : BitVec 32 := 0#32
  let v123 : BitVec 32 := Scalar.addi v122 c0_i32_130
  let c3_i32_131 : BitVec 32 := 3#32
  let v124 : BitVec 32 := Scalar.minsi v123 c3_i32_131
  let c1_i32_468 : BitVec 32 := 1#32
  ![v124.toNat, 1]
def k0_dev37 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_151 : BitVec 32 := 1#32
  let v135 : BitVec 32 := Scalar.subi v8 c1_i32_151
  let c0_i32_152 : BitVec 32 := 0#32
  let v136 : BitVec 1 := Scalar.cmpi .sge v135 c0_i32_152
  let v137 : BitVec 1 := Scalar.andi v10 v136
  let v143 : BitVec 32 := Scalar.extui v137
  let c0_i32_163 : BitVec 32 := 0#32
  let v144 : BitVec 1 := Scalar.cmpi .ne v143 c0_i32_163
  v144

def k0_off53 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v133 : BitVec 32 := Scalar.subi v8 c1_i32_149
  let c0_i32_150 : BitVec 32 := 0#32
  let v134 : BitVec 32 := Scalar.maxsi v133 c0_i32_150
  let c1_i32_158 : BitVec 32 := 1#32
  let c0_i32_459 : BitVec 32 := 0#32
  let c0_i32_460 : BitVec 32 := 0#32
  let c0_i32_461 : BitVec 32 := 0#32
  ![v134.toNat, 1, 0, 0, 0]
def k0_dev38 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_155 : BitVec 32 := 1#32
  let v140 : BitVec 32 := Scalar.addi v8 c1_i32_155
  let c3_i32_156 : BitVec 32 := 3#32
  let v141 : BitVec 1 := Scalar.cmpi .sle v140 c3_i32_156
  let v142 : BitVec 1 := Scalar.andi v9 v141
  let v145 : BitVec 32 := Scalar.extui v142
  let c0_i32_170 : BitVec 32 := 0#32
  let v146 : BitVec 1 := Scalar.cmpi .ne v145 c0_i32_170
  v146

def k0_off54 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v138 : BitVec 32 := Scalar.addi v8 c1_i32_153
  let c3_i32_154 : BitVec 32 := 3#32
  let v139 : BitVec 32 := Scalar.minsi v138 c3_i32_154
  let c1_i32_165 : BitVec 32 := 1#32
  let c0_i32_459 : BitVec 32 := 0#32
  let c0_i32_460 : BitVec 32 := 0#32
  let c0_i32_461 : BitVec 32 := 0#32
  ![v139.toNat, 1, 0, 0, 0]
def k0_dev39 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
@[reducible] def k0_t2_loop : Scf.Loop 32 :=
  let c0_i32_171 : BitVec 32 := 0#32
  let c16_i32_172 : BitVec 32 := 16#32
  let v147 : BitVec 32 := Scalar.addi c0_i32_171 c16_i32_172
  let c1_i32_173 : BitVec 32 := 1#32
  ⟨c0_i32_171, v147, c1_i32_173⟩
def k0_off55 (k0_t2 : Fin k0_t2_loop.trips) : Fin 4 → Nat :=
  let c0_i32_171 : BitVec 32 := 0#32
  let c1_i32_173 : BitVec 32 := 1#32
  let arg14 : BitVec 32 := Scf.iv c0_i32_171 c1_i32_173 k0_t2
  let c0_i32_455 : BitVec 32 := 0#32
  let v309 : BitVec 1 := Scalar.cmpi .sgt arg14 c0_i32_455
  let v310 : BitVec 32 := Scalar.extui v309
  let c0_i32_456 : BitVec 32 := 0#32
  let v311 : BitVec 1 := Scalar.cmpi .slt arg14 c0_i32_456
  let v312 : BitVec 32 := Scalar.extui v311
  let v313 : BitVec 32 := Scalar.subi v310 v312
  let c8_i32 : BitVec 32 := 8#32
  let c0_i32_457 : BitVec 32 := 0#32
  let v314 : BitVec 1 := Scalar.cmpi .sgt c8_i32 c0_i32_457
  let v315 : BitVec 32 := Scalar.extui v314
  let c0_i32_458 : BitVec 32 := 0#32
  let v316 : BitVec 1 := Scalar.cmpi .slt c8_i32 c0_i32_458
  let v317 : BitVec 32 := Scalar.extui v316
  let v318 : BitVec 32 := Scalar.subi v315 v317
  let v319 : BitVec 1 := Scalar.cmpi .ne v313 v318
  let v320 : BitVec 32 := Scalar.remsi arg14 c8_i32
  let c0_i32_459 : BitVec 32 := 0#32
  let v321 : BitVec 1 := Scalar.cmpi .ne v320 c0_i32_459
  let v322 : BitVec 1 := Scalar.andi v319 v321
  let v308 : BitVec 32 := Scalar.divsi arg14 c8_i32
  let c1_i32_460 : BitVec 32 := 1#32
  let v323 : BitVec 32 := Scalar.subi v308 c1_i32_460
  let v324 : BitVec 32 := Scalar.select v322 v323 v308
  let v335 : Index := Scalar.indexCast v324
  let c8_i32_461 : BitVec 32 := 8#32
  let c0_i32_462 : BitVec 32 := 0#32
  let v325 : BitVec 1 := Scalar.cmpi .eq c8_i32_461 c0_i32_462
  let c1_i32_463 : BitVec 32 := 1#32
  let v326 : BitVec 32 := Scalar.select v325 c1_i32_463 c8_i32_461
  let v327 : BitVec 32 := Scalar.remsi arg14 v326
  let c0_i32_465 : BitVec 32 := 0#32
  let v329 : BitVec 1 := Scalar.cmpi .slt v327 c0_i32_465
  let c0_i32_466 : BitVec 32 := 0#32
  let v330 : BitVec 1 := Scalar.cmpi .slt v326 c0_i32_466
  let v331 : BitVec 1 := Scalar.xori v329 v330
  let c0_i32_464 : BitVec 32 := 0#32
  let v328 : BitVec 1 := Scalar.cmpi .ne v327 c0_i32_464
  let v332 : BitVec 1 := Scalar.andi v331 v328
  let v333 : BitVec 32 := Scalar.addi v327 v326
  let v334 : BitVec 32 := Scalar.select v332 v333 v327
  let v336 : Index := Scalar.indexCast v334
  let c0 : Index := 0#32
  let c0_467 : Index := 0#32
  ![v335.toNat, v336.toNat, 0, 0]
def k0_off56 (k0_t2 : Fin k0_t2_loop.trips) : Fin 3 → Nat :=
  let c0_i32_171 : BitVec 32 := 0#32
  let c1_i32_173 : BitVec 32 := 1#32
  let arg14 : BitVec 32 := Scf.iv c0_i32_171 c1_i32_173 k0_t2
  let v358 : Index := Scalar.indexCast arg14
  let c0_475 : Index := 0#32
  let c0_476 : Index := 0#32
  ![v358.toNat, 0, 0]
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_178 : BitVec 32 := 1#32
  let v151 : BitVec 32 := Scalar.subi v8 c1_i32_178
  let c1_i32_179 : BitVec 32 := 1#32
  let v152 : BitVec 32 := Scalar.subi v151 c1_i32_179
  let c0_i32_180 : BitVec 32 := 0#32
  let v153 : BitVec 1 := Scalar.cmpi .sge v152 c0_i32_180
  let v154 : BitVec 1 := Scalar.andi v9 v153
  let v162 : BitVec 32 := Scalar.extui v154
  let c0_i32_193 : BitVec 32 := 0#32
  let v163 : BitVec 1 := Scalar.cmpi .ne v162 c0_i32_193
  v163

def k0_off57 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v148 : BitVec 32 := Scalar.subi v8 c1_i32_175
  let c1_i32_176 : BitVec 32 := 1#32
  let v149 : BitVec 32 := Scalar.subi v148 c1_i32_176
  let c0_i32_177 : BitVec 32 := 0#32
  let v150 : BitVec 32 := Scalar.maxsi v149 c0_i32_177
  let c0_i32_188 : BitVec 32 := 0#32
  let c0_i32_459 : BitVec 32 := 0#32
  let c0_i32_460 : BitVec 32 := 0#32
  let c0_i32_461 : BitVec 32 := 0#32
  ![v150.toNat, 0, 0, 0, 0]
def k0_off58 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v148 : BitVec 32 := Scalar.subi v8 c1_i32_175
  let c1_i32_176 : BitVec 32 := 1#32
  let v149 : BitVec 32 := Scalar.subi v148 c1_i32_176
  let c0_i32_177 : BitVec 32 := 0#32
  let v150 : BitVec 32 := Scalar.maxsi v149 c0_i32_177
  let c0_i32_468 : BitVec 32 := 0#32
  ![v150.toNat, 0]
def k0_dev40 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_184 : BitVec 32 := 1#32
  let v158 : BitVec 32 := Scalar.addi v8 c1_i32_184
  let c1_i32_185 : BitVec 32 := 1#32
  let v159 : BitVec 32 := Scalar.addi v158 c1_i32_185
  let c3_i32_186 : BitVec 32 := 3#32
  let v160 : BitVec 1 := Scalar.cmpi .sle v159 c3_i32_186
  let v161 : BitVec 1 := Scalar.andi v10 v160
  let v164 : BitVec 32 := Scalar.extui v161
  let c0_i32_200 : BitVec 32 := 0#32
  let v165 : BitVec 1 := Scalar.cmpi .ne v164 c0_i32_200
  v165

def k0_off59 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v155 : BitVec 32 := Scalar.addi v8 c1_i32_181
  let c1_i32_182 : BitVec 32 := 1#32
  let v156 : BitVec 32 := Scalar.addi v155 c1_i32_182
  let c3_i32_183 : BitVec 32 := 3#32
  let v157 : BitVec 32 := Scalar.minsi v156 c3_i32_183
  let c0_i32_195 : BitVec 32 := 0#32
  let c0_i32_459 : BitVec 32 := 0#32
  let c0_i32_460 : BitVec 32 := 0#32
  let c0_i32_461 : BitVec 32 := 0#32
  ![v157.toNat, 0, 0, 0, 0]
def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v155 : BitVec 32 := Scalar.addi v8 c1_i32_181
  let c1_i32_182 : BitVec 32 := 1#32
  let v156 : BitVec 32 := Scalar.addi v155 c1_i32_182
  let c3_i32_183 : BitVec 32 := 3#32
  let v157 : BitVec 32 := Scalar.minsi v156 c3_i32_183
  let c0_i32_468 : BitVec 32 := 0#32
  ![v157.toNat, 0]
def k0_dev41 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c2_i32_203 : BitVec 32 := 2#32
  let v168 : BitVec 32 := Scalar.subi v8 c2_i32_203
  let c0_i32_204 : BitVec 32 := 0#32
  let v169 : BitVec 1 := Scalar.cmpi .sge v168 c0_i32_204
  let v170 : BitVec 1 := Scalar.andi v10 v169
  let v176 : BitVec 32 := Scalar.extui v170
  let c0_i32_215 : BitVec 32 := 0#32
  let v177 : BitVec 1 := Scalar.cmpi .ne v176 c0_i32_215
  v177

def k0_off61 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_201 : BitVec 32 := 2#32
  let v166 : BitVec 32 := Scalar.subi v8 c2_i32_201
  let c0_i32_202 : BitVec 32 := 0#32
  let v167 : BitVec 32 := Scalar.maxsi v166 c0_i32_202
  let c0_i32_210 : BitVec 32 := 0#32
  let c0_i32_459 : BitVec 32 := 0#32
  let c0_i32_460 : BitVec 32 := 0#32
  let c0_i32_461 : BitVec 32 := 0#32
  ![v167.toNat, 0, 0, 0, 0]
def k0_dev42 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c2_i32_207 : BitVec 32 := 2#32
  let v173 : BitVec 32 := Scalar.addi v8 c2_i32_207
  let c3_i32_208 : BitVec 32 := 3#32
  let v174 : BitVec 1 := Scalar.cmpi .sle v173 c3_i32_208
  let v175 : BitVec 1 := Scalar.andi v9 v174
  let v178 : BitVec 32 := Scalar.extui v175
  let c0_i32_222 : BitVec 32 := 0#32
  let v179 : BitVec 1 := Scalar.cmpi .ne v178 c0_i32_222
  v179

def k0_off62 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_205 : BitVec 32 := 2#32
  let v171 : BitVec 32 := Scalar.addi v8 c2_i32_205
  let c3_i32_206 : BitVec 32 := 3#32
  let v172 : BitVec 32 := Scalar.minsi v171 c3_i32_206
  let c0_i32_217 : BitVec 32 := 0#32
  let c0_i32_459 : BitVec 32 := 0#32
  let c0_i32_460 : BitVec 32 := 0#32
  let c0_i32_461 : BitVec 32 := 0#32
  ![v172.toNat, 0, 0, 0, 0]
def k0_dev43 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_226 : BitVec 32 := 1#32
  let v183 : BitVec 32 := Scalar.subi v8 c1_i32_226
  let c1_i32_227 : BitVec 32 := 1#32
  let v184 : BitVec 32 := Scalar.subi v183 c1_i32_227
  let c0_i32_228 : BitVec 32 := 0#32
  let v185 : BitVec 1 := Scalar.cmpi .sge v184 c0_i32_228
  let v186 : BitVec 1 := Scalar.andi v9 v185
  let v194 : BitVec 32 := Scalar.extui v186
  let c0_i32_241 : BitVec 32 := 0#32
  let v195 : BitVec 1 := Scalar.cmpi .ne v194 c0_i32_241
  v195

def k0_off63 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v180 : BitVec 32 := Scalar.subi v8 c1_i32_223
  let c1_i32_224 : BitVec 32 := 1#32
  let v181 : BitVec 32 := Scalar.subi v180 c1_i32_224
  let c0_i32_225 : BitVec 32 := 0#32
  let v182 : BitVec 32 := Scalar.maxsi v181 c0_i32_225
  let c1_i32_236 : BitVec 32 := 1#32
  let c0_i32_459 : BitVec 32 := 0#32
  let c0_i32_460 : BitVec 32 := 0#32
  let c0_i32_461 : BitVec 32 := 0#32
  ![v182.toNat, 1, 0, 0, 0]
def k0_off64 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v180 : BitVec 32 := Scalar.subi v8 c1_i32_223
  let c1_i32_224 : BitVec 32 := 1#32
  let v181 : BitVec 32 := Scalar.subi v180 c1_i32_224
  let c0_i32_225 : BitVec 32 := 0#32
  let v182 : BitVec 32 := Scalar.maxsi v181 c0_i32_225
  let c1_i32_468 : BitVec 32 := 1#32
  ![v182.toNat, 1]
def k0_dev44 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_232 : BitVec 32 := 1#32
  let v190 : BitVec 32 := Scalar.addi v8 c1_i32_232
  let c1_i32_233 : BitVec 32 := 1#32
  let v191 : BitVec 32 := Scalar.addi v190 c1_i32_233
  let c3_i32_234 : BitVec 32 := 3#32
  let v192 : BitVec 1 := Scalar.cmpi .sle v191 c3_i32_234
  let v193 : BitVec 1 := Scalar.andi v10 v192
  let v196 : BitVec 32 := Scalar.extui v193
  let c0_i32_248 : BitVec 32 := 0#32
  let v197 : BitVec 1 := Scalar.cmpi .ne v196 c0_i32_248
  v197

def k0_off65 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v187 : BitVec 32 := Scalar.addi v8 c1_i32_229
  let c1_i32_230 : BitVec 32 := 1#32
  let v188 : BitVec 32 := Scalar.addi v187 c1_i32_230
  let c3_i32_231 : BitVec 32 := 3#32
  let v189 : BitVec 32 := Scalar.minsi v188 c3_i32_231
  let c1_i32_243 : BitVec 32 := 1#32
  let c0_i32_459 : BitVec 32 := 0#32
  let c0_i32_460 : BitVec 32 := 0#32
  let c0_i32_461 : BitVec 32 := 0#32
  ![v189.toNat, 1, 0, 0, 0]
def k0_off66 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v187 : BitVec 32 := Scalar.addi v8 c1_i32_229
  let c1_i32_230 : BitVec 32 := 1#32
  let v188 : BitVec 32 := Scalar.addi v187 c1_i32_230
  let c3_i32_231 : BitVec 32 := 3#32
  let v189 : BitVec 32 := Scalar.minsi v188 c3_i32_231
  let c1_i32_468 : BitVec 32 := 1#32
  ![v189.toNat, 1]
def k0_dev45 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c2_i32_251 : BitVec 32 := 2#32
  let v200 : BitVec 32 := Scalar.subi v8 c2_i32_251
  let c0_i32_252 : BitVec 32 := 0#32
  let v201 : BitVec 1 := Scalar.cmpi .sge v200 c0_i32_252
  let v202 : BitVec 1 := Scalar.andi v10 v201
  let v208 : BitVec 32 := Scalar.extui v202
  let c0_i32_263 : BitVec 32 := 0#32
  let v209 : BitVec 1 := Scalar.cmpi .ne v208 c0_i32_263
  v209

def k0_off67 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_249 : BitVec 32 := 2#32
  let v198 : BitVec 32 := Scalar.subi v8 c2_i32_249
  let c0_i32_250 : BitVec 32 := 0#32
  let v199 : BitVec 32 := Scalar.maxsi v198 c0_i32_250
  let c1_i32_258 : BitVec 32 := 1#32
  let c0_i32_459 : BitVec 32 := 0#32
  let c0_i32_460 : BitVec 32 := 0#32
  let c0_i32_461 : BitVec 32 := 0#32
  ![v199.toNat, 1, 0, 0, 0]
def k0_dev46 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c3_i32_5 : BitVec 32 := 3#32
  let v14 : BitVec 32 := Scalar.minsi v13 c3_i32_5
  let c1_i32_458 : BitVec 32 := 1#32
  let v312 : BitVec 32 := Scalar.muli v14 c1_i32_458
  let v313 : BitVec 32 := Scalar.addi v311 v312
  v313.toNat
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c2_i32_255 : BitVec 32 := 2#32
  let v205 : BitVec 32 := Scalar.addi v8 c2_i32_255
  let c3_i32_256 : BitVec 32 := 3#32
  let v206 : BitVec 1 := Scalar.cmpi .sle v205 c3_i32_256
  let v207 : BitVec 1 := Scalar.andi v9 v206
  let v210 : BitVec 32 := Scalar.extui v207
  let c0_i32_270 : BitVec 32 := 0#32
  let v211 : BitVec 1 := Scalar.cmpi .ne v210 c0_i32_270
  v211

def k0_off68 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_253 : BitVec 32 := 2#32
  let v203 : BitVec 32 := Scalar.addi v8 c2_i32_253
  let c3_i32_254 : BitVec 32 := 3#32
  let v204 : BitVec 32 := Scalar.minsi v203 c3_i32_254
  let c1_i32_265 : BitVec 32 := 1#32
  let c0_i32_459 : BitVec 32 := 0#32
  let c0_i32_460 : BitVec 32 := 0#32
  let c0_i32_461 : BitVec 32 := 0#32
  ![v204.toNat, 1, 0, 0, 0]
def k0_dev47 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v308 : BitVec 32 := Scalar.muli v2 c16_i32_455
  let v309 : BitVec 32 := Scalar.addi c0_i32_456 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_457 : BitVec 32 := 4#32
  let v310 : BitVec 32 := Scalar.muli v5 c4_i32_457
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.subi v8 c1_i32_2
  let c0_i32_3 : BitVec 32 := 0#32
  let v12 : BitVec 32 := Scalar.maxsi v11 c0_i32_3
  let c1_i32_458 : BitVec 32 := 1#32
  let v312 : BitVec 32 := Scalar.muli v12 c1_i32_458
  let v313 : BitVec 32 := Scalar.addi v311 v312
  v313.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_274 : BitVec 32 := 1#32
  let v215 : BitVec 32 := Scalar.subi v8 c1_i32_274
  let c2_i32_275 : BitVec 32 := 2#32
  let v216 : BitVec 32 := Scalar.subi v215 c2_i32_275
  let c0_i32_276 : BitVec 32 := 0#32
  let v217 : BitVec 1 := Scalar.cmpi .sge v216 c0_i32_276
  let v218 : BitVec 1 := Scalar.andi v9 v217
  let v226 : BitVec 32 := Scalar.extui v218
  let c0_i32_289 : BitVec 32 := 0#32
  let v227 : BitVec 1 := Scalar.cmpi .ne v226 c0_i32_289
  v227

def k0_off69 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v212 : BitVec 32 := Scalar.subi v8 c1_i32_271
  let c2_i32_272 : BitVec 32 := 2#32
  let v213 : BitVec 32 := Scalar.subi v212 c2_i32_272
  let c0_i32_273 : BitVec 32 := 0#32
  let v214 : BitVec 32 := Scalar.maxsi v213 c0_i32_273
  let c0_i32_284 : BitVec 32 := 0#32
  let c0_i32_459 : BitVec 32 := 0#32
  let c0_i32_460 : BitVec 32 := 0#32
  let c0_i32_461 : BitVec 32 := 0#32
  ![v214.toNat, 0, 0, 0, 0]
def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v212 : BitVec 32 := Scalar.subi v8 c1_i32_271
  let c2_i32_272 : BitVec 32 := 2#32
  let v213 : BitVec 32 := Scalar.subi v212 c2_i32_272
  let c0_i32_273 : BitVec 32 := 0#32
  let v214 : BitVec 32 := Scalar.maxsi v213 c0_i32_273
  let c0_i32_468 : BitVec 32 := 0#32
  ![v214.toNat, 0]
def k0_dev48 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_280 : BitVec 32 := 1#32
  let v222 : BitVec 32 := Scalar.addi v8 c1_i32_280
  let c2_i32_281 : BitVec 32 := 2#32
  let v223 : BitVec 32 := Scalar.addi v222 c2_i32_281
  let c3_i32_282 : BitVec 32 := 3#32
  let v224 : BitVec 1 := Scalar.cmpi .sle v223 c3_i32_282
  let v225 : BitVec 1 := Scalar.andi v10 v224
  let v228 : BitVec 32 := Scalar.extui v225
  let c0_i32_296 : BitVec 32 := 0#32
  let v229 : BitVec 1 := Scalar.cmpi .ne v228 c0_i32_296
  v229

def k0_off71 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v219 : BitVec 32 := Scalar.addi v8 c1_i32_277
  let c2_i32_278 : BitVec 32 := 2#32
  let v220 : BitVec 32 := Scalar.addi v219 c2_i32_278
  let c3_i32_279 : BitVec 32 := 3#32
  let v221 : BitVec 32 := Scalar.minsi v220 c3_i32_279
  let c0_i32_291 : BitVec 32 := 0#32
  let c0_i32_459 : BitVec 32 := 0#32
  let c0_i32_460 : BitVec 32 := 0#32
  let c0_i32_461 : BitVec 32 := 0#32
  ![v221.toNat, 0, 0, 0, 0]
def k0_off72 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v219 : BitVec 32 := Scalar.addi v8 c1_i32_277
  let c2_i32_278 : BitVec 32 := 2#32
  let v220 : BitVec 32 := Scalar.addi v219 c2_i32_278
  let c3_i32_279 : BitVec 32 := 3#32
  let v221 : BitVec 32 := Scalar.minsi v220 c3_i32_279
  let c0_i32_468 : BitVec 32 := 0#32
  ![v221.toNat, 0]
def k0_dev49 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let c1_i32_300 : BitVec 32 := 1#32
  let v233 : BitVec 32 := Scalar.subi v8 c1_i32_300
  let c2_i32_301 : BitVec 32 := 2#32
  let v234 : BitVec 32 := Scalar.subi v233 c2_i32_301
  let c0_i32_302 : BitVec 32 := 0#32
  let v235 : BitVec 1 := Scalar.cmpi .sge v234 c0_i32_302
  let v236 : BitVec 1 := Scalar.andi v9 v235
  let v244 : BitVec 32 := Scalar.extui v236
  let c0_i32_315 : BitVec 32 := 0#32
  let v245 : BitVec 1 := Scalar.cmpi .ne v244 c0_i32_315
  v245

def k0_off73 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v230 : BitVec 32 := Scalar.subi v8 c1_i32_297
  let c2_i32_298 : BitVec 32 := 2#32
  let v231 : BitVec 32 := Scalar.subi v230 c2_i32_298
  let c0_i32_299 : BitVec 32 := 0#32
  let v232 : BitVec 32 := Scalar.maxsi v231 c0_i32_299
  let c1_i32_310 : BitVec 32 := 1#32
  let c0_i32_459 : BitVec 32 := 0#32
  let c0_i32_460 : BitVec 32 := 0#32
  let c0_i32_461 : BitVec 32 := 0#32
  ![v232.toNat, 1, 0, 0, 0]
def k0_off74 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v230 : BitVec 32 := Scalar.subi v8 c1_i32_297
  let c2_i32_298 : BitVec 32 := 2#32
  let v231 : BitVec 32 := Scalar.subi v230 c2_i32_298
  let c0_i32_299 : BitVec 32 := 0#32
  let v232 : BitVec 32 := Scalar.maxsi v231 c0_i32_299
  let c1_i32_468 : BitVec 32 := 1#32
  ![v232.toNat, 1]
def k0_dev50 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let c1_i32_306 : BitVec 32 := 1#32
  let v240 : BitVec 32 := Scalar.addi v8 c1_i32_306
  let c2_i32_307 : BitVec 32 := 2#32
  let v241 : BitVec 32 := Scalar.addi v240 c2_i32_307
  let c3_i32_308 : BitVec 32 := 3#32
  let v242 : BitVec 1 := Scalar.cmpi .sle v241 c3_i32_308
  let v243 : BitVec 1 := Scalar.andi v10 v242
  let v246 : BitVec 32 := Scalar.extui v243
  let c0_i32_322 : BitVec 32 := 0#32
  let v247 : BitVec 1 := Scalar.cmpi .ne v246 c0_i32_322
  v247

def k0_off75 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v237 : BitVec 32 := Scalar.addi v8 c1_i32_303
  let c2_i32_304 : BitVec 32 := 2#32
  let v238 : BitVec 32 := Scalar.addi v237 c2_i32_304
  let c3_i32_305 : BitVec 32 := 3#32
  let v239 : BitVec 32 := Scalar.minsi v238 c3_i32_305
  let c1_i32_317 : BitVec 32 := 1#32
  let c0_i32_459 : BitVec 32 := 0#32
  let c0_i32_460 : BitVec 32 := 0#32
  let c0_i32_461 : BitVec 32 := 0#32
  ![v239.toNat, 1, 0, 0, 0]
def k0_off76 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v237 : BitVec 32 := Scalar.addi v8 c1_i32_303
  let c2_i32_304 : BitVec 32 := 2#32
  let v238 : BitVec 32 := Scalar.addi v237 c2_i32_304
  let c3_i32_305 : BitVec 32 := 3#32
  let v239 : BitVec 32 := Scalar.minsi v238 c3_i32_305
  let c1_i32_468 : BitVec 32 := 1#32
  ![v239.toNat, 1]
def k0_dev51 (d0 : Dev nD) : Nat :=
  let c0_i32_470 : BitVec 32 := 0#32
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c16_i32_469 : BitVec 32 := 16#32
  let v320 : BitVec 32 := Scalar.muli v15 c16_i32_469
  let v321 : BitVec 32 := Scalar.addi c0_i32_470 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v322 : BitVec 32 := Scalar.muli v5 c4_i32_471
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v324 : BitVec 32 := Scalar.muli v8 c1_i32_472
  let v325 : BitVec 32 := Scalar.addi v323 v324
  v325.toNat
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_19 : BitVec 32 := 0#32
  let v37 : BitVec 1 := Scalar.cmpi .eq v8 c0_i32_19
  let v38 : BitVec 32 := Scalar.extui v37
  let c0_i32_20 : BitVec 32 := 0#32
  let v39 : BitVec 1 := Scalar.cmpi .ne v38 c0_i32_20
  v39

@[reducible] def k0_t3_loop : Scf.Loop 32 :=
  let c0_i32_67 : BitVec 32 := 0#32
  let c16_i32_68 : BitVec 32 := 16#32
  let v79 : BitVec 32 := Scalar.addi c0_i32_67 c16_i32_68
  let c1_i32_69 : BitVec 32 := 1#32
  ⟨c0_i32_67, v79, c1_i32_69⟩
def k0_off77 (k0_t3 : Fin k0_t3_loop.trips) : Fin 4 → Nat :=
  let c0_i32_67 : BitVec 32 := 0#32
  let c1_i32_69 : BitVec 32 := 1#32
  let arg14 : BitVec 32 := Scf.iv c0_i32_67 c1_i32_69 k0_t3
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off78 (k0_t3 : Fin k0_t3_loop.trips) : Fin 5 → Nat :=
  let c1 : Index := 1#32
  let c0_i32_67 : BitVec 32 := 0#32
  let c1_i32_69 : BitVec 32 := 1#32
  let arg14 : BitVec 32 := Scf.iv c0_i32_67 c1_i32_69 k0_t3
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_164 : Index := 0#32
  let c0_165 : Index := 0#32
  ![1, v162.toNat, v163.toNat, 0, 0]
def k0_off79 (k0_t3 : Fin k0_t3_loop.trips) : Fin 3 → Nat :=
  let c0_i32_67 : BitVec 32 := 0#32
  let c1_i32_69 : BitVec 32 := 1#32
  let arg14 : BitVec 32 := Scf.iv c0_i32_67 c1_i32_69 k0_t3
  let v180 : Index := Scalar.indexCast arg14
  let c0_172 : Index := 0#32
  let c0_173 : Index := 0#32
  ![v180.toNat, 0, 0]
@[reducible] def k0_t4_loop : Scf.Loop 32 :=
  let c0_i32_107 : BitVec 32 := 0#32
  let c16_i32_108 : BitVec 32 := 16#32
  let v104 : BitVec 32 := Scalar.addi c0_i32_107 c16_i32_108
  let c1_i32_109 : BitVec 32 := 1#32
  ⟨c0_i32_107, v104, c1_i32_109⟩
def k0_off80 (k0_t4 : Fin k0_t4_loop.trips) : Fin 4 → Nat :=
  let c0_i32_107 : BitVec 32 := 0#32
  let c1_i32_109 : BitVec 32 := 1#32
  let arg14 : BitVec 32 := Scf.iv c0_i32_107 c1_i32_109 k0_t4
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off81 (k0_t4 : Fin k0_t4_loop.trips) : Fin 5 → Nat :=
  let c2 : Index := 2#32
  let c0_i32_107 : BitVec 32 := 0#32
  let c1_i32_109 : BitVec 32 := 1#32
  let arg14 : BitVec 32 := Scf.iv c0_i32_107 c1_i32_109 k0_t4
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_164 : Index := 0#32
  let c0_165 : Index := 0#32
  ![2, v162.toNat, v163.toNat, 0, 0]
def k0_off82 (k0_t4 : Fin k0_t4_loop.trips) : Fin 3 → Nat :=
  let c0_i32_107 : BitVec 32 := 0#32
  let c1_i32_109 : BitVec 32 := 1#32
  let arg14 : BitVec 32 := Scf.iv c0_i32_107 c1_i32_109 k0_t4
  let v180 : Index := Scalar.indexCast arg14
  let c0_172 : Index := 0#32
  let c0_173 : Index := 0#32
  ![v180.toNat, 0, 0]
@[reducible] def k0_t5_loop : Scf.Loop 32 :=
  let c0_i32_147 : BitVec 32 := 0#32
  let c16_i32_148 : BitVec 32 := 16#32
  let v129 : BitVec 32 := Scalar.addi c0_i32_147 c16_i32_148
  let c1_i32_149 : BitVec 32 := 1#32
  ⟨c0_i32_147, v129, c1_i32_149⟩
def k0_off83 (k0_t5 : Fin k0_t5_loop.trips) : Fin 4 → Nat :=
  let c0_i32_147 : BitVec 32 := 0#32
  let c1_i32_149 : BitVec 32 := 1#32
  let arg14 : BitVec 32 := Scf.iv c0_i32_147 c1_i32_149 k0_t5
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off84 (k0_t5 : Fin k0_t5_loop.trips) : Fin 5 → Nat :=
  let c3 : Index := 3#32
  let c0_i32_147 : BitVec 32 := 0#32
  let c1_i32_149 : BitVec 32 := 1#32
  let arg14 : BitVec 32 := Scf.iv c0_i32_147 c1_i32_149 k0_t5
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_164 : Index := 0#32
  let c0_165 : Index := 0#32
  ![3, v162.toNat, v163.toNat, 0, 0]
def k0_off85 (k0_t5 : Fin k0_t5_loop.trips) : Fin 3 → Nat :=
  let c0_i32_147 : BitVec 32 := 0#32
  let c1_i32_149 : BitVec 32 := 1#32
  let arg14 : BitVec 32 := Scf.iv c0_i32_147 c1_i32_149 k0_t5
  let v180 : Index := Scalar.indexCast arg14
  let c0_172 : Index := 0#32
  let c0_173 : Index := 0#32
  ![v180.toNat, 0, 0]
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v40 : BitVec 1 := Scalar.cmpi .eq v8 c1_i32_21
  let v41 : BitVec 32 := Scalar.extui v40
  let c0_i32_22 : BitVec 32 := 0#32
  let v42 : BitVec 1 := Scalar.cmpi .ne v41 c0_i32_22
  v42

@[reducible] def k0_t6_loop : Scf.Loop 32 :=
  let c0_i32_67 : BitVec 32 := 0#32
  let c16_i32_68 : BitVec 32 := 16#32
  let v79 : BitVec 32 := Scalar.addi c0_i32_67 c16_i32_68
  let c1_i32_69 : BitVec 32 := 1#32
  ⟨c0_i32_67, v79, c1_i32_69⟩
def k0_off86 (k0_t6 : Fin k0_t6_loop.trips) : Fin 4 → Nat :=
  let c0_i32_67 : BitVec 32 := 0#32
  let c1_i32_69 : BitVec 32 := 1#32
  let arg14 : BitVec 32 := Scf.iv c0_i32_67 c1_i32_69 k0_t6
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off87 (k0_t6 : Fin k0_t6_loop.trips) : Fin 5 → Nat :=
  let c0_164 : Index := 0#32
  let c0_i32_67 : BitVec 32 := 0#32
  let c1_i32_69 : BitVec 32 := 1#32
  let arg14 : BitVec 32 := Scf.iv c0_i32_67 c1_i32_69 k0_t6
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_165 : Index := 0#32
  let c0_166 : Index := 0#32
  ![0, v162.toNat, v163.toNat, 0, 0]
def k0_off88 (k0_t6 : Fin k0_t6_loop.trips) : Fin 3 → Nat :=
  let c0_i32_67 : BitVec 32 := 0#32
  let c1_i32_69 : BitVec 32 := 1#32
  let arg14 : BitVec 32 := Scf.iv c0_i32_67 c1_i32_69 k0_t6
  let v180 : Index := Scalar.indexCast arg14
  let c0_173 : Index := 0#32
  let c0_174 : Index := 0#32
  ![v180.toNat, 0, 0]
@[reducible] def k0_t7_loop : Scf.Loop 32 :=
  let c0_i32_107 : BitVec 32 := 0#32
  let c16_i32_108 : BitVec 32 := 16#32
  let v104 : BitVec 32 := Scalar.addi c0_i32_107 c16_i32_108
  let c1_i32_109 : BitVec 32 := 1#32
  ⟨c0_i32_107, v104, c1_i32_109⟩
def k0_off89 (k0_t7 : Fin k0_t7_loop.trips) : Fin 4 → Nat :=
  let c0_i32_107 : BitVec 32 := 0#32
  let c1_i32_109 : BitVec 32 := 1#32
  let arg14 : BitVec 32 := Scf.iv c0_i32_107 c1_i32_109 k0_t7
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off90 (k0_t7 : Fin k0_t7_loop.trips) : Fin 5 → Nat :=
  let c2 : Index := 2#32
  let c0_i32_107 : BitVec 32 := 0#32
  let c1_i32_109 : BitVec 32 := 1#32
  let arg14 : BitVec 32 := Scf.iv c0_i32_107 c1_i32_109 k0_t7
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_164 : Index := 0#32
  let c0_165 : Index := 0#32
  ![2, v162.toNat, v163.toNat, 0, 0]
def k0_off91 (k0_t7 : Fin k0_t7_loop.trips) : Fin 3 → Nat :=
  let c0_i32_107 : BitVec 32 := 0#32
  let c1_i32_109 : BitVec 32 := 1#32
  let arg14 : BitVec 32 := Scf.iv c0_i32_107 c1_i32_109 k0_t7
  let v180 : Index := Scalar.indexCast arg14
  let c0_172 : Index := 0#32
  let c0_173 : Index := 0#32
  ![v180.toNat, 0, 0]
@[reducible] def k0_t8_loop : Scf.Loop 32 :=
  let c0_i32_147 : BitVec 32 := 0#32
  let c16_i32_148 : BitVec 32 := 16#32
  let v129 : BitVec 32 := Scalar.addi c0_i32_147 c16_i32_148
  let c1_i32_149 : BitVec 32 := 1#32
  ⟨c0_i32_147, v129, c1_i32_149⟩
def k0_off92 (k0_t8 : Fin k0_t8_loop.trips) : Fin 4 → Nat :=
  let c0_i32_147 : BitVec 32 := 0#32
  let c1_i32_149 : BitVec 32 := 1#32
  let arg14 : BitVec 32 := Scf.iv c0_i32_147 c1_i32_149 k0_t8
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off93 (k0_t8 : Fin k0_t8_loop.trips) : Fin 5 → Nat :=
  let c3 : Index := 3#32
  let c0_i32_147 : BitVec 32 := 0#32
  let c1_i32_149 : BitVec 32 := 1#32
  let arg14 : BitVec 32 := Scf.iv c0_i32_147 c1_i32_149 k0_t8
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_164 : Index := 0#32
  let c0_165 : Index := 0#32
  ![3, v162.toNat, v163.toNat, 0, 0]
def k0_off94 (k0_t8 : Fin k0_t8_loop.trips) : Fin 3 → Nat :=
  let c0_i32_147 : BitVec 32 := 0#32
  let c1_i32_149 : BitVec 32 := 1#32
  let arg14 : BitVec 32 := Scf.iv c0_i32_147 c1_i32_149 k0_t8
  let v180 : Index := Scalar.indexCast arg14
  let c0_172 : Index := 0#32
  let c0_173 : Index := 0#32
  ![v180.toNat, 0, 0]
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_23 : BitVec 32 := 2#32
  let v43 : BitVec 1 := Scalar.cmpi .eq v8 c2_i32_23
  let v44 : BitVec 32 := Scalar.extui v43
  let c0_i32_24 : BitVec 32 := 0#32
  let v45 : BitVec 1 := Scalar.cmpi .ne v44 c0_i32_24
  v45

@[reducible] def k0_t9_loop : Scf.Loop 32 :=
  let c0_i32_67 : BitVec 32 := 0#32
  let c16_i32_68 : BitVec 32 := 16#32
  let v79 : BitVec 32 := Scalar.addi c0_i32_67 c16_i32_68
  let c1_i32_69 : BitVec 32 := 1#32
  ⟨c0_i32_67, v79, c1_i32_69⟩
def k0_off95 (k0_t9 : Fin k0_t9_loop.trips) : Fin 4 → Nat :=
  let c0_i32_67 : BitVec 32 := 0#32
  let c1_i32_69 : BitVec 32 := 1#32
  let arg14 : BitVec 32 := Scf.iv c0_i32_67 c1_i32_69 k0_t9
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off96 (k0_t9 : Fin k0_t9_loop.trips) : Fin 5 → Nat :=
  let c1 : Index := 1#32
  let c0_i32_67 : BitVec 32 := 0#32
  let c1_i32_69 : BitVec 32 := 1#32
  let arg14 : BitVec 32 := Scf.iv c0_i32_67 c1_i32_69 k0_t9
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_164 : Index := 0#32
  let c0_165 : Index := 0#32
  ![1, v162.toNat, v163.toNat, 0, 0]
def k0_off97 (k0_t9 : Fin k0_t9_loop.trips) : Fin 3 → Nat :=
  let c0_i32_67 : BitVec 32 := 0#32
  let c1_i32_69 : BitVec 32 := 1#32
  let arg14 : BitVec 32 := Scf.iv c0_i32_67 c1_i32_69 k0_t9
  let v180 : Index := Scalar.indexCast arg14
  let c0_172 : Index := 0#32
  let c0_173 : Index := 0#32
  ![v180.toNat, 0, 0]
@[reducible] def k0_t10_loop : Scf.Loop 32 :=
  let c0_i32_107 : BitVec 32 := 0#32
  let c16_i32_108 : BitVec 32 := 16#32
  let v104 : BitVec 32 := Scalar.addi c0_i32_107 c16_i32_108
  let c1_i32_109 : BitVec 32 := 1#32
  ⟨c0_i32_107, v104, c1_i32_109⟩
def k0_off98 (k0_t10 : Fin k0_t10_loop.trips) : Fin 4 → Nat :=
  let c0_i32_107 : BitVec 32 := 0#32
  let c1_i32_109 : BitVec 32 := 1#32
  let arg14 : BitVec 32 := Scf.iv c0_i32_107 c1_i32_109 k0_t10
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off99 (k0_t10 : Fin k0_t10_loop.trips) : Fin 5 → Nat :=
  let c3 : Index := 3#32
  let c0_i32_107 : BitVec 32 := 0#32
  let c1_i32_109 : BitVec 32 := 1#32
  let arg14 : BitVec 32 := Scf.iv c0_i32_107 c1_i32_109 k0_t10
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_164 : Index := 0#32
  let c0_165 : Index := 0#32
  ![3, v162.toNat, v163.toNat, 0, 0]
def k0_off100 (k0_t10 : Fin k0_t10_loop.trips) : Fin 3 → Nat :=
  let c0_i32_107 : BitVec 32 := 0#32
  let c1_i32_109 : BitVec 32 := 1#32
  let arg14 : BitVec 32 := Scf.iv c0_i32_107 c1_i32_109 k0_t10
  let v180 : Index := Scalar.indexCast arg14
  let c0_172 : Index := 0#32
  let c0_173 : Index := 0#32
  ![v180.toNat, 0, 0]
@[reducible] def k0_t11_loop : Scf.Loop 32 :=
  let c0_i32_147 : BitVec 32 := 0#32
  let c16_i32_148 : BitVec 32 := 16#32
  let v129 : BitVec 32 := Scalar.addi c0_i32_147 c16_i32_148
  let c1_i32_149 : BitVec 32 := 1#32
  ⟨c0_i32_147, v129, c1_i32_149⟩
def k0_off101 (k0_t11 : Fin k0_t11_loop.trips) : Fin 4 → Nat :=
  let c0_i32_147 : BitVec 32 := 0#32
  let c1_i32_149 : BitVec 32 := 1#32
  let arg14 : BitVec 32 := Scf.iv c0_i32_147 c1_i32_149 k0_t11
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off102 (k0_t11 : Fin k0_t11_loop.trips) : Fin 5 → Nat :=
  let c0_164 : Index := 0#32
  let c0_i32_147 : BitVec 32 := 0#32
  let c1_i32_149 : BitVec 32 := 1#32
  let arg14 : BitVec 32 := Scf.iv c0_i32_147 c1_i32_149 k0_t11
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_165 : Index := 0#32
  let c0_166 : Index := 0#32
  ![0, v162.toNat, v163.toNat, 0, 0]
def k0_off103 (k0_t11 : Fin k0_t11_loop.trips) : Fin 3 → Nat :=
  let c0_i32_147 : BitVec 32 := 0#32
  let c1_i32_149 : BitVec 32 := 1#32
  let arg14 : BitVec 32 := Scf.iv c0_i32_147 c1_i32_149 k0_t11
  let v180 : Index := Scalar.indexCast arg14
  let c0_173 : Index := 0#32
  let c0_174 : Index := 0#32
  ![v180.toNat, 0, 0]
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_25 : BitVec 32 := 3#32
  let v46 : BitVec 1 := Scalar.cmpi .eq v8 c3_i32_25
  let v47 : BitVec 32 := Scalar.extui v46
  let c0_i32_26 : BitVec 32 := 0#32
  let v48 : BitVec 1 := Scalar.cmpi .ne v47 c0_i32_26
  v48

@[reducible] def k0_t12_loop : Scf.Loop 32 :=
  let c0_i32_67 : BitVec 32 := 0#32
  let c16_i32_68 : BitVec 32 := 16#32
  let v79 : BitVec 32 := Scalar.addi c0_i32_67 c16_i32_68
  let c1_i32_69 : BitVec 32 := 1#32
  ⟨c0_i32_67, v79, c1_i32_69⟩
def k0_off104 (k0_t12 : Fin k0_t12_loop.trips) : Fin 4 → Nat :=
  let c0_i32_67 : BitVec 32 := 0#32
  let c1_i32_69 : BitVec 32 := 1#32
  let arg14 : BitVec 32 := Scf.iv c0_i32_67 c1_i32_69 k0_t12
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off105 (k0_t12 : Fin k0_t12_loop.trips) : Fin 5 → Nat :=
  let c2 : Index := 2#32
  let c0_i32_67 : BitVec 32 := 0#32
  let c1_i32_69 : BitVec 32 := 1#32
  let arg14 : BitVec 32 := Scf.iv c0_i32_67 c1_i32_69 k0_t12
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_164 : Index := 0#32
  let c0_165 : Index := 0#32
  ![2, v162.toNat, v163.toNat, 0, 0]
def k0_off106 (k0_t12 : Fin k0_t12_loop.trips) : Fin 3 → Nat :=
  let c0_i32_67 : BitVec 32 := 0#32
  let c1_i32_69 : BitVec 32 := 1#32
  let arg14 : BitVec 32 := Scf.iv c0_i32_67 c1_i32_69 k0_t12
  let v180 : Index := Scalar.indexCast arg14
  let c0_172 : Index := 0#32
  let c0_173 : Index := 0#32
  ![v180.toNat, 0, 0]
@[reducible] def k0_t13_loop : Scf.Loop 32 :=
  let c0_i32_107 : BitVec 32 := 0#32
  let c16_i32_108 : BitVec 32 := 16#32
  let v104 : BitVec 32 := Scalar.addi c0_i32_107 c16_i32_108
  let c1_i32_109 : BitVec 32 := 1#32
  ⟨c0_i32_107, v104, c1_i32_109⟩
def k0_off107 (k0_t13 : Fin k0_t13_loop.trips) : Fin 4 → Nat :=
  let c0_i32_107 : BitVec 32 := 0#32
  let c1_i32_109 : BitVec 32 := 1#32
  let arg14 : BitVec 32 := Scf.iv c0_i32_107 c1_i32_109 k0_t13
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off108 (k0_t13 : Fin k0_t13_loop.trips) : Fin 5 → Nat :=
  let c1 : Index := 1#32
  let c0_i32_107 : BitVec 32 := 0#32
  let c1_i32_109 : BitVec 32 := 1#32
  let arg14 : BitVec 32 := Scf.iv c0_i32_107 c1_i32_109 k0_t13
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_164 : Index := 0#32
  let c0_165 : Index := 0#32
  ![1, v162.toNat, v163.toNat, 0, 0]
def k0_off109 (k0_t13 : Fin k0_t13_loop.trips) : Fin 3 → Nat :=
  let c0_i32_107 : BitVec 32 := 0#32
  let c1_i32_109 : BitVec 32 := 1#32
  let arg14 : BitVec 32 := Scf.iv c0_i32_107 c1_i32_109 k0_t13
  let v180 : Index := Scalar.indexCast arg14
  let c0_172 : Index := 0#32
  let c0_173 : Index := 0#32
  ![v180.toNat, 0, 0]
@[reducible] def k0_t14_loop : Scf.Loop 32 :=
  let c0_i32_147 : BitVec 32 := 0#32
  let c16_i32_148 : BitVec 32 := 16#32
  let v129 : BitVec 32 := Scalar.addi c0_i32_147 c16_i32_148
  let c1_i32_149 : BitVec 32 := 1#32
  ⟨c0_i32_147, v129, c1_i32_149⟩
def k0_off110 (k0_t14 : Fin k0_t14_loop.trips) : Fin 4 → Nat :=
  let c0_i32_147 : BitVec 32 := 0#32
  let c1_i32_149 : BitVec 32 := 1#32
  let arg14 : BitVec 32 := Scf.iv c0_i32_147 c1_i32_149 k0_t14
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v157 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v158 : Index := Scalar.indexCast v156
  let c0 : Index := 0#32
  let c0_163 : Index := 0#32
  ![v157.toNat, v158.toNat, 0, 0]
def k0_off111 (k0_t14 : Fin k0_t14_loop.trips) : Fin 5 → Nat :=
  let c0_164 : Index := 0#32
  let c0_i32_147 : BitVec 32 := 0#32
  let c1_i32_149 : BitVec 32 := 1#32
  let arg14 : BitVec 32 := Scf.iv c0_i32_147 c1_i32_149 k0_t14
  let c0_i32_151 : BitVec 32 := 0#32
  let v131 : BitVec 1 := Scalar.cmpi .sgt arg14 c0_i32_151
  let v132 : BitVec 32 := Scalar.extui v131
  let c0_i32_152 : BitVec 32 := 0#32
  let v133 : BitVec 1 := Scalar.cmpi .slt arg14 c0_i32_152
  let v134 : BitVec 32 := Scalar.extui v133
  let v135 : BitVec 32 := Scalar.subi v132 v134
  let c8_i32 : BitVec 32 := 8#32
  let c0_i32_153 : BitVec 32 := 0#32
  let v136 : BitVec 1 := Scalar.cmpi .sgt c8_i32 c0_i32_153
  let v137 : BitVec 32 := Scalar.extui v136
  let c0_i32_154 : BitVec 32 := 0#32
  let v138 : BitVec 1 := Scalar.cmpi .slt c8_i32 c0_i32_154
  let v139 : BitVec 32 := Scalar.extui v138
  let v140 : BitVec 32 := Scalar.subi v137 v139
  let v141 : BitVec 1 := Scalar.cmpi .ne v135 v140
  let v142 : BitVec 32 := Scalar.remsi arg14 c8_i32
  let c0_i32_155 : BitVec 32 := 0#32
  let v143 : BitVec 1 := Scalar.cmpi .ne v142 c0_i32_155
  let v144 : BitVec 1 := Scalar.andi v141 v143
  let v130 : BitVec 32 := Scalar.divsi arg14 c8_i32
  let c1_i32_156 : BitVec 32 := 1#32
  let v145 : BitVec 32 := Scalar.subi v130 c1_i32_156
  let v146 : BitVec 32 := Scalar.select v144 v145 v130
  let v162 : Index := Scalar.indexCast v146
  let c8_i32_157 : BitVec 32 := 8#32
  let c0_i32_158 : BitVec 32 := 0#32
  let v147 : BitVec 1 := Scalar.cmpi .eq c8_i32_157 c0_i32_158
  let c1_i32_159 : BitVec 32 := 1#32
  let v148 : BitVec 32 := Scalar.select v147 c1_i32_159 c8_i32_157
  let v149 : BitVec 32 := Scalar.remsi arg14 v148
  let c0_i32_161 : BitVec 32 := 0#32
  let v151 : BitVec 1 := Scalar.cmpi .slt v149 c0_i32_161
  let c0_i32_162 : BitVec 32 := 0#32
  let v152 : BitVec 1 := Scalar.cmpi .slt v148 c0_i32_162
  let v153 : BitVec 1 := Scalar.xori v151 v152
  let c0_i32_160 : BitVec 32 := 0#32
  let v150 : BitVec 1 := Scalar.cmpi .ne v149 c0_i32_160
  let v154 : BitVec 1 := Scalar.andi v153 v150
  let v155 : BitVec 32 := Scalar.addi v149 v148
  let v156 : BitVec 32 := Scalar.select v154 v155 v149
  let v163 : Index := Scalar.indexCast v156
  let c0_165 : Index := 0#32
  let c0_166 : Index := 0#32
  ![0, v162.toNat, v163.toNat, 0, 0]
def k0_off112 (k0_t14 : Fin k0_t14_loop.trips) : Fin 3 → Nat :=
  let c0_i32_147 : BitVec 32 := 0#32
  let c1_i32_149 : BitVec 32 := 1#32
  let arg14 : BitVec 32 := Scf.iv c0_i32_147 c1_i32_149 k0_t14
  let v180 : Index := Scalar.indexCast arg14
  let c0_173 : Index := 0#32
  let c0_174 : Index := 0#32
  ![v180.toNat, 0, 0]
abbrev stage0_0 : Fin 1 → Memref sig .tc .vmem S2x8x64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x8x2048x2048, .f32⟩
  | .hbm, ⟨4, _⟩ => ⟨S_, .f32⟩
  | .hbm, ⟨5, _⟩ => ⟨S2x8x2048x2048, .f32⟩
  | .hbm, ⟨6, _⟩ => ⟨S2x8x2048x2048, .f32⟩
  | .hbm, ⟨7, _⟩ => ⟨S_, .f32⟩
  | .hbm, ⟨8, _⟩ => ⟨S2x8x2048, .f32⟩
  | .hbm, ⟨9, _⟩ => ⟨S2x8x2048x1, .f32⟩
  | .hbm, ⟨10, _⟩ => ⟨S2x8x2048x2048, .f32⟩
  | .hbm, ⟨11, _⟩ => ⟨S2x8x2048x2048, .f32⟩
  | .hbm, ⟨12, _⟩ => ⟨S2x8x2048x2048, .f32⟩
  | .hbm, ⟨13, _⟩ => ⟨S_, .f32⟩
  | .hbm, ⟨14, _⟩ => ⟨S2x8x2048, .f32⟩
  | .hbm, ⟨15, _⟩ => ⟨S2x8x2048x1, .f32⟩
  | .hbm, ⟨16, _⟩ => ⟨S2x8x2048x2048, .f32⟩
  | .hbm, ⟨17, _⟩ => ⟨S2x8x2048x2048, .f32⟩
  | .hbm, ⟨18, _⟩ => ⟨S2x8x64x2048, .f32⟩
  | .hbm, ⟨19, _⟩ => ⟨S2x2048x8x64, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Basics.lean ====
/-
  The exchange protocol of the attention kernel: the devices' coordinates, the keys of the messages, the slots the
  messages land in, the schedule of the semaphore cells and their levels.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.ValueLayout
public import Idealize.ShloMosaic.Lib.Pointwise.Index
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Devices -/

/-- A device's position on the z axis. -/
def zc (c : Dev nD) : Fin 4 := ⟨c.val % 4, Nat.mod_lt _ (by decide)⟩
/-- Whether a device is in the second x half: it sends values, the first half keys. -/
def bx (c : Dev nD) : Bool := decide (16 ≤ c.val)
/-- The neighbours: one down the z axis, one up, and the other x half. -/
def lt (c : Dev nD) : Dev nD := ⟨(c.val + 31) % 32, Nat.mod_lt _ (by decide)⟩
def rt (c : Dev nD) : Dev nD := ⟨(c.val + 1) % 32, Nat.mod_lt _ (by decide)⟩
def pt (c : Dev nD) : Dev nD := ⟨(c.val + 16) % 32, Nat.mod_lt _ (by decide)⟩
/-- The device of x half `b` and z position `o` on `c`'s y line. -/
def srcDev (b : Bool) (c : Dev nD) (o : Fin 4) : Dev nD :=
  ⟨(cond b 16 0) + 4 * (c.val / 4 % 4) + o.val, by have := o.isLt; have := Nat.mod_lt (c.val / 4) (by decide : 0 < 4); show _ < 32; cases b <;> simp only [cond] <;> omega⟩

/-! ## Messages: 0–5 up the z axis, 6–11 down it (stage, half), 12–19 across x (origin, half) -/

abbrev X : Type := Fin 20

def st (x : X) : Nat := x.val % 6 / 2
def hf (x : X) : Fin 2 := ⟨x.val % 2, Nat.mod_lt _ (by decide)⟩
def og (x : X) : Nat := (x.val - 12) / 2

/-- Whether the device at `z` sends message `x`, and receives it. -/
def actS (z : Fin 4) (x : X) : Bool :=
  if x.val < 6 then decide (z.val < 3) && decide (st x ≤ z.val)
  else if x.val < 12 then decide (0 < z.val) && decide (z.val + st x ≤ 3)
  else decide (og x ≠ z.val)
def actR (z : Fin 4) (x : X) : Bool :=
  if x.val < 6 then decide (st x + 1 ≤ z.val)
  else if x.val < 12 then decide (z.val + 1 + st x ≤ 3)
  else decide (og x ≠ z.val)
/-- The z position of the device whose block message `x` carries, at its sender and at its receiver. -/
def oS (z : Fin 4) (x : X) : Fin 4 :=
  ⟨(if x.val < 6 then z.val - st x else if x.val < 12 then z.val + st x else og x) % 4, Nat.mod_lt _ (by decide)⟩
def oR (z : Fin 4) (x : X) : Fin 4 :=
  ⟨(if x.val < 6 then z.val - 1 - st x else if x.val < 12 then z.val + 1 + st x else og x) % 4, Nat.mod_lt _ (by decide)⟩

/-- Where message `x` goes from `c`, and where it comes from to `c`. -/
def tgt (c : Dev nD) (x : X) : Dev nD := if x.val < 6 then rt c else if x.val < 12 then lt c else pt c
def fr (c : Dev nD) (x : X) : Dev nD := if x.val < 6 then lt c else if x.val < 12 then rt c else pt c
/-- Which of `c`'s buffers message `x` lands in. -/
def rb (c : Dev nD) (x : X) : Bool := if x.val < 12 then bx c else !bx c
/-- The barrier signal whose payload lets `x` be sent: 0 the other x half's, 1 the lower neighbour's, 2 the upper one's. -/
def cls (x : X) : Fin 3 := if x.val < 6 then 2 else if x.val < 12 then 1 else 0

theorem to_fr : ∀ (c : Dev nD) (x : X), tgt (fr c x) x = c := by decide +kernel
theorem fr_to : ∀ (c : Dev nD) (x : X), fr (tgt c x) x = c := by decide +kernel
theorem actR_to : ∀ (c : Dev nD) (x : X), actR (zc (tgt c x)) x = actS (zc c) x := by decide +kernel
theorem actS_fr : ∀ (c : Dev nD) (x : X), actS (zc (fr c x)) x = actR (zc c) x := by decide +kernel
theorem rb_to : ∀ (c : Dev nD) (x : X), actS (zc c) x = true → rb (tgt c x) x = bx c := by decide +kernel
theorem oR_to : ∀ (c : Dev nD) (x : X), actS (zc c) x = true → oR (zc (tgt c x)) x = oS (zc c) x := by decide +kernel
theorem src_to : ∀ (c : Dev nD) (x : X), actS (zc c) x = true → ∀ b o, srcDev b (tgt c x) o = srcDev b c o := by decide +kernel
theorem src_self : ∀ c : Dev nD, srcDev (bx c) c (zc c) = c := by decide +kernel

/-! ## Cells -/

/-- Keys of the cells: a message's send cell (`false`) and its receive cell (`true`). -/
abbrev K : Type := Bool × X

def semK (k : K) : DmaSem sig :=
  ⟨(if k.1 then (if k.2.val < 6 then 10 else if k.2.val < 12 then 16 else 24)
    else (if k.2.val < 6 then 4 else if k.2.val < 12 then 10 else 16)) + k.2.val, by
      have := k.2.isLt
      show _ < 44
      split <;> split <;> (try split) <;> omega⟩

def keyOf (i : DmaSem sig) : Option K :=
  if i.val < 4 then none
  else if h : i.val < 10 then some (false, ⟨i.val - 4, by omega⟩)
  else if h : i.val < 16 then some (true, ⟨i.val - 10, by omega⟩)
  else if h : i.val < 22 then some (false, ⟨i.val - 10, by omega⟩)
  else if h : i.val < 28 then some (true, ⟨i.val - 16, by omega⟩)
  else if h : i.val < 36 then some (false, ⟨i.val - 16, by omega⟩)
  else if h : i.val < 44 then some (true, ⟨i.val - 24, by omega⟩)
  else none

theorem keyOf_semK : ∀ k : K, keyOf (semK k) = some k := by decide +kernel
theorem semK_inj : Function.Injective semK := fun a b h => Option.some.inj ((keyOf_semK a).symm.trans ((congrArg keyOf h).trans (keyOf_semK b)))

abbrev cell (c : Dev nD) (k : K) : GSem nD τ sig := ((c : Thread nD τ), .dma (semK k))
abbrev bar (c : Dev nD) : GSem nD τ sig := ((c : Thread nD τ), .reg barrier0)

def act (z : Fin 4) (k : K) : Bool := if k.1 then actR z k.2 else actS z k.2

/-- The level of a message's receive cell. -/
def lvl (x : X) : ℕ := if x.val < 12 then 2 + x.val % 6 else 8

/-! ## Slots and blocks -/

/-- The landing buffers (keys, values) and the device's own staged keys and values. -/
def sbuf (b : Bool) : Memref sig .tc .vmem S4x2x8x64x512 .f32 := match b with
  | false => Memref.whole cc0_scratch0
  | true => Memref.whole cc0_scratch1
def stg (b : Bool) : Memref sig .tc .vmem S2x8x64x512 .f32 := match b with
  | false => Memref.whole cc0_stg1_0
  | true => Memref.whole cc0_stg2_0

def slotOff (o : Fin 4) (h : Fin 2) : Fin 5 → Nat := ![o.val, h.val, 0, 0, 0]
theorem slotOff_inb (o : Fin 4) (h : Fin 2) : ∀ a, slotOff o h a + S1x1x8x64x512.size a ≤ S4x2x8x64x512.size a := by
  revert o h; decide
def stgOff (h : Fin 2) : Fin 4 → Nat := ![h.val, 0, 0, 0]
theorem stgOff_inb (h : Fin 2) : ∀ a, stgOff h a + S1x8x64x512.size a ≤ S2x8x64x512.size a := by
  revert h; decide

/-- The slot of buffer `b` for origin `o`, half `h`. -/
def slotM (b : Bool) (o : Fin 4) (h : Fin 2) : Memref sig .tc .vmem S8x64x512 .f32 :=
  ((sbuf b).slice (Rect.unit (s := S4x2x8x64x512) (slotOff o h) S1x1x8x64x512.size (slotOff_inb o h)) (fun _ => rfl)).squeeze S8x64x512 squeezes_S1x1x8x64x512_S8x64x512
/-- Half `h` of the staged block. -/
def stgM (b : Bool) (h : Fin 2) : Memref sig .tc .vmem S8x64x512 .f32 :=
  ((stg b).slice (Rect.unit (s := S2x8x64x512) (stgOff h) S1x8x64x512.size (stgOff_inb h)) (fun _ => rfl)).squeeze S8x64x512 squeezes_S1x8x64x512_S8x64x512

/-- The source of message `x` at `c`, and its target at the receiver. -/
def srcM (c : Dev nD) (x : X) : Memref sig .tc .vmem S8x64x512 .f32 :=
  if oS (zc c) x = zc c then stgM (bx c) (hf x) else slotM (bx c) (oS (zc c) x) (hf x)
def dstM (c : Dev nD) (x : X) : Memref sig .tc .vmem S8x64x512 .f32 := slotM (bx c) (oS (zc c) x) (hf x)
/-- Where message `x` lands at `c`. -/
def rM (c : Dev nD) (x : X) : Memref sig .tc .vmem S8x64x512 .f32 := slotM (rb c x) (oR (zc c) x) (hf x)

theorem rM_to (c : Dev nD) (x : X) (h : actS (zc c) x = true) : rM (tgt c x) x = dstM c x := by
  unfold rM dstM; rw [rb_to c x h, oR_to c x h]

/-- What a completed copy of a block credits. -/
def N : ℕ := (slotM false 0 0).view.dmaCredit
theorem N_pos : 0 < N := View.dmaCredit_pos _ (by decide)
theorem credit_slot (b : Bool) (o : Fin 4) (h : Fin 2) : (slotM b o h).view.dmaCredit = N := by
  cases b <;> rfl

variable {F : FTy → Type} [FloatOps F]

/-! ## Assertions -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The elements of memref `M` on device `c` at share `q` reading `w`. -/
def pts (c : Dev nD) (M : Memref sig .tc .vmem S8x64x512 .f32) (q : PosShare TreeShare) (w : S8x64x512.Idx → Elt F .f32) : sProp 𝕄 :=
  M.view.loc (c : Thread nD τ) ↦[M.view.set]{q} M.view.rep w
/-- The same whole, at contents not named. -/
def anyPts (c : Dev nD) (M : Memref sig .tc .vmem S8x64x512 .f32) : sProp 𝕄 :=
  iprop(∃ f : Buf (Elt F) (M.view.loc (c : Thread nD τ)), M.view.loc (c : Thread nD τ) ↦[M.view.set]{fullShare} f)

variable (KV : Bool → Dev nD → S2x8x64x512.Idx → Elt F .f32)

/-- Half `h` of the block of kind `b` (keys, values) staged at device `d`. -/
def blk (b : Bool) (d : Dev nD) (h : Fin 2) : S8x64x512.Idx → Elt F .f32 := fun i => KV b d (ix4 h (i 0) (i 1) (i 2))
/-- What message `x` carries from `c`, and what it leaves at `c`. -/
def sv (c : Dev nD) (x : X) : S8x64x512.Idx → Elt F .f32 := blk KV (bx c) (srcDev (bx c) c (oS (zc c) x)) (hf x)
def rv (c : Dev nD) (x : X) : S8x64x512.Idx → Elt F .f32 := blk KV (rb c x) (srcDev (rb c x) c (oR (zc c) x)) (hf x)

omit [FloatOps F] in
theorem rv_to (c : Dev nD) (x : X) (h : actS (zc c) x = true) : rv KV (tgt c x) x = sv KV c x := by
  unfold rv sv; rw [rb_to c x h, oR_to c x h, src_to c x h]

/-- The share of its source a message's copy reads: an up send of the own block and a forward across x the left half,
    every other the middle one; the right one stays for the device's own reads. -/
abbrev qL : PosShare TreeShare := fullShare.left
abbrev qM : PosShare TreeShare := fullShare.right.left
abbrev qR : PosShare TreeShare := fullShare.right.right
def shS (x : X) : PosShare TreeShare := if x.val < 2 ∨ 12 ≤ x.val then qL else qM

def srcPts (c : Dev nD) (x : X) : sProp 𝕄 := pts c (srcM c x) (shS x) (sv KV c x)
def landPts (c : Dev nD) (x : X) : sProp 𝕄 := pts c (rM c x) fullShare (rv KV c x)

/-- What lets the sender of `x` write into device `c`: the slot, and that the receive cell is open. -/
def give (c : Dev nD) (x : X) : sProp 𝕄 := iprop(anyPts c (rM c x) ∗ reached ER (cell c (true, x)) 0)

/-- The payload of the barrier duty `j` of device `c`: all messages of the class that `c` sends. -/
def barPay (c : Dev nD) (j : Fin 3) : sProp 𝕄 :=
  bigSep (Finset.univ.filter fun x : X => actS (zc c) x = true ∧ cls x = j) fun x => give (tgt c x) x

def barD (z : Fin 4) : Finset (Fin 3) := Finset.univ.filter fun j => j = 0 ∨ (j = 1 ∧ 0 < z.val) ∨ (j = 2 ∧ z.val < 3)

def dutiesAt (z : Fin 4) : SemLoc sig → Finset (Fin 3)
  | .reg _ => barD z
  | .dma i => match keyOf i with
    | some k => if act z k = true then {0} else ∅
    | none => ∅

def payAt (c : Dev nD) : SemLoc sig → Fin 3 → sProp 𝕄
  | .reg _, j => barPay c j
  | .dma i, _ => match keyOf i with
    | some (false, x) => srcPts KV c x
    | some (true, x) => landPts KV c x
    | none => iprop(emp)

def amtAt : SemLoc sig → ℕ
  | .reg _ => 1
  | .dma _ => N

def Rd : Rounds.Schedule (GSem nD τ sig) (Fin 3) 𝕄 where
  duties g r := if r = 0 ∧ g.1.2 = .tc then dutiesAt (zc g.1.1) g.2 else ∅
  unitless _ := False
  amount g _ _ := amtAt g.2
  payload g _ d := payAt KV g.1.1 g.2 d
  amount_pos g _ _ _ := by
    rcases g with ⟨_, (_ | _)⟩
    · exact Nat.one_pos
    · exact N_pos

instance Rd_storable (g : GSem nD τ sig) (r : ℕ) (d : Fin 3) :
    BI.Storable (upEmb : UEmb _ 𝕄) ((Rd (F := F) KV).payload g r d) := by
  rcases g with ⟨⟨c, p⟩, (s | i)⟩
  · show BI.Storable upEmb (barPay c d)
    unfold barPay give anyPts; infer_instance
  · show BI.Storable upEmb (payAt KV c (.dma i) d)
    unfold payAt
    dsimp only
    split
    · unfold srcPts pts; infer_instance
    · unfold landPts pts; infer_instance
    · infer_instance

section Sched

variable (c : Dev nD)

theorem duties_cell (k : K) : (Rd (F := F) KV).duties (cell c k) 0 = if act (zc c) k = true then {0} else ∅ := by
  show (if (0 : ℕ) = 0 ∧ ((c : Thread nD τ).2 = .tc) then dutiesAt (zc c) (.dma (semK k)) else ∅) = _
  rw [if_pos ⟨rfl, rfl⟩]
  unfold dutiesAt
  dsimp only
  rw [keyOf_semK]
theorem duties_act (k : K) (h : act (zc c) k = true) : (Rd (F := F) KV).duties (cell c k) 0 = {0} := by
  rw [duties_cell, if_pos h]
theorem duties_bar : (Rd (F := F) KV).duties (bar c) 0 = barD (zc c) := by
  show (if (0 : ℕ) = 0 ∧ ((c : Thread nD τ).2 = .tc) then dutiesAt (zc c) (.reg barrier0) else ∅) = _
  rw [if_pos ⟨rfl, rfl⟩]
  rfl
theorem duties_later (g : GSem nD τ sig) : ∀ r, 1 ≤ r → (Rd (F := F) KV).duties g r = ∅ :=
  fun r hr => if_neg (fun h => by omega)

theorem amount_cell (k : K) (d : Fin 3) : (Rd (F := F) KV).amount (cell c k) 0 d = N := rfl
theorem amount_bar (d : Fin 3) : (Rd (F := F) KV).amount (bar c) 0 d = 1 := rfl

theorem payload_send (x : X) (d : Fin 3) : (Rd (F := F) KV).payload (cell c (false, x)) 0 d = srcPts KV c x := by
  show payAt KV c (.dma (semK (false, x))) d = _
  unfold payAt
  dsimp only
  rw [keyOf_semK]
theorem payload_recv (x : X) (d : Fin 3) : (Rd (F := F) KV).payload (cell c (true, x)) 0 d = landPts KV c x := by
  show payAt KV c (.dma (semK (true, x))) d = _
  unfold payAt
  dsimp only
  rw [keyOf_semK]
theorem payload_bar (j : Fin 3) : (Rd (F := F) KV).payload (bar c) 0 j = barPay c j := rfl

theorem expect_cell (k : K) (h : act (zc c) k = true) : (Rd (F := F) KV).expect (cell c k) 0 = N := by
  unfold Schedule.expect Schedule.amountOf; rw [duties_act KV c k h, Finset.sum_singleton]; rfl
theorem expect_bar : (Rd (F := F) KV).expect (bar c) 0 = (barD (zc c)).card := by
  unfold Schedule.expect Schedule.amountOf; rw [duties_bar, Finset.sum_congr rfl (fun d _ => amount_bar KV c d), Finset.sum_const, smul_eq_mul, mul_one]

theorem rest_send (x : X) (h : actS (zc c) x = true) :
    bigSep ((Rd (F := F) KV).duties (cell c (false, x)) 0 \ ∅) (fun u => (Rd (F := F) KV).payload (cell c (false, x)) 0 u) = srcPts KV c x := by
  rw [Finset.sdiff_empty, duties_act KV c (false, x) h, bigSep_singleton, payload_send]
theorem rest_recv (x : X) (h : actR (zc c) x = true) :
    bigSep ((Rd (F := F) KV).duties (cell c (true, x)) 0 \ ∅) (fun u => (Rd (F := F) KV).payload (cell c (true, x)) 0 u) = landPts KV c x := by
  rw [Finset.sdiff_empty, duties_act KV c (true, x) h, bigSep_singleton, payload_recv]

end Sched

/-! ## Levels -/

def L (g : GSem nD τ sig) : Finset Unit := if g.1.2 = .tc then {()} else ∅
def lvAt : SemLoc sig → ℕ
  | .reg _ => 1
  | .dma i => match keyOf i with
    | some (true, x) => lvl x
    | _ => 0
theorem lvAt_send (x : X) : lvAt (.dma (semK (false, x))) = 0 := by
  unfold lvAt; dsimp only; rw [keyOf_semK]
theorem lvAt_recv (x : X) : lvAt (.dma (semK (true, x))) = lvl x := by
  unfold lvAt; dsimp only; rw [keyOf_semK]
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (x : X) (u : Unit) : lv (cell c (true, x)) u = lvl x := by
  show lvAt (.dma (semK (true, x))) = _
  unfold lvAt
  dsimp only
  rw [keyOf_semK]
theorem lv_bar (c : Dev nD) (u : Unit) : lv (bar c) u = 1 := rfl

/-! ## What a device owes -/

/-- The credit message `x` puts on its receive cell. -/
def due (c : Dev nD) (x : X) : CellTallies nD τ sig Unit := tallyAt (cell (tgt c x) (true, x)) () N

/-- The messages not yet sent at phases `f`. -/
def pend (c : Dev nD) (f : K → Fin 4) : CellTallies nD τ sig Unit :=
  ∑ x ∈ Finset.univ.filter (fun x : X => actS (zc c) x = true ∧ (f (false, x)).val < 2), due c x

theorem pend_send (c : Dev nD) (f : K → Fin 4) (x : X) (ha : actS (zc c) x = true) (hp : (f (false, x)).val < 2) (v : Fin 4) (hv : 2 ≤ v.val) :
    pend c f = pend c (Function.update f (false, x) v) + due c x := by
  unfold pend
  rw [← Finset.sum_erase_add _ _ (Finset.mem_filter.mpr ⟨Finset.mem_univ x, ha, hp⟩)]
  congr 1
  refine Finset.sum_congr (Finset.ext fun y => ?_) (fun _ _ => rfl)
  simp only [Finset.mem_erase, Finset.mem_filter, Finset.mem_univ, true_and]
  by_cases hy : y = x
  · subst hy; simp only [Function.update_self]; constructor
    · rintro ⟨h, -⟩; exact absurd rfl h
    · rintro ⟨-, h⟩; omega
  · rw [Function.update_of_ne (fun h => hy (Prod.ext_iff.mp h).2)]; simp [hy]

theorem pend_same (c : Dev nD) (f : K → Fin 4) (k : K) (v : Fin 4) (h : k.1 = true ∨ ((f k).val < 2 ↔ v.val < 2)) :
    pend c (Function.update f k v) = pend c f := by
  unfold pend
  refine Finset.sum_congr (Finset.ext fun y => ?_) (fun _ _ => rfl)
  simp only [Finset.mem_filter, Finset.mem_univ, true_and]
  by_cases hy : (false, y) = k
  · subst hy; rw [Function.update_self]
    rcases h with h | h
    · cases h
    · rw [h]
  · rw [Function.update_of_ne hy]

theorem pend_pos {c : Dev nD} {f : K → Fin 4} {g : GSem nD τ sig} {u : Unit} (h : 0 < pend c f g u) :
    ∃ x : X, actS (zc c) x = true ∧ (f (false, x)).val < 2 ∧ g = cell (tgt c x) (true, x) := by
  unfold pend at h
  rw [Finset.sum_apply, Finsupp.finset_sum_apply] at h
  obtain ⟨x, hx, h⟩ := Finset.exists_ne_zero_of_sum_ne_zero (Nat.pos_iff_ne_zero.mp h)
  simp only [Finset.mem_filter, Finset.mem_univ, true_and] at hx
  refine ⟨x, hx.1, hx.2, ?_⟩
  unfold due at h
  rw [tallyAt_apply] at h
  split at h
  · next hg => exact hg.1
  · exact absurd rfl h

theorem mayWait (c : Dev nD) (sm : SemLoc sig) (f : K → Fin 4) (hl : ∀ x, actS (zc c) x = true → (f (false, x)).val < 2 → lvAt sm < lvl x) :
    (levAts L lv : sProp 𝕄) ⊢ MayWait (c : Thread nD τ) sm () (pend c f) :=
  MayOwe.of_cut (L := L) (lev := lv) (lvAt sm) (fun p hp => by rw [Finset.mem_singleton.mp hp, L_tc]; exact Finset.mem_singleton_self _)
    (fun g u hg => by obtain ⟨x, -, -, rfl⟩ := pend_pos hg; rw [L_tc]; exact Finset.mem_singleton_self _)
    (fun p hp => by rw [Finset.mem_singleton.mp hp]; exact le_rfl)
    (fun g u hg => by obtain ⟨x, h1, h2, rfl⟩ := pend_pos hg; rw [lv_recv]; exact hl x h1 h2)

end Cert.KProof

end
-- ==== Proof.Events.lean ====
/-
  The steps of the exchange: what a device holds of each message at each phase, and how a copy, a wait and a forward
  move it.
-/
module

public import proofs.«01_k».proof.Proof.Basics

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (KV : Bool → Dev nD → S2x8x64x512.Idx → Elt F .f32) (Kn : GSem nD τ sig → ℕ)

/-- What every device knows: the cells' invariants and the levels. -/
def ctx : sProp 𝕄 :=
  iprop((bigSep (Finset.univ : Finset (Dev nD × K)) fun p => cellInv ER (Rd KV) (Kn (cell p.1 p.2)) (cell p.1 p.2))
    ∗ (bigSep (Finset.univ : Finset (Dev nD)) fun c => cellInv ER (Rd KV) (Kn (bar c)) (bar c))
    ∗ levAts L lv)

instance ctx_persistent : Persistent (ctx KV Kn) := by unfold ctx; infer_instance

theorem all_at {I : Type} [DecidableEq I] [Fintype I] (Φ : I → sProp 𝕄) (i : I) : bigSep Finset.univ Φ ⊢ Φ i :=
  Idealize.SL.BI.bigSep_elim (Finset.mem_univ i)

theorem ctx_cell (c : Dev nD) (k : K) : ctx KV Kn ⊢ cellInv ER (Rd KV) (Kn (cell c k)) (cell c k) := by
  unfold ctx
  iintro ⟨#H, -⟩
  iapply (all_at (fun p : Dev nD × K => cellInv ER (Rd KV) (Kn (cell p.1 p.2)) (cell p.1 p.2)) (c, k))
  iexact H
theorem ctx_bar (c : Dev nD) : ctx KV Kn ⊢ cellInv ER (Rd KV) (Kn (bar c)) (bar c) := by
  unfold ctx
  iintro ⟨-, #H, -⟩
  iapply (all_at (fun c : Dev nD => cellInv ER (Rd KV) (Kn (bar c)) (bar c)) c)
  iexact H
theorem ctx_mayWait (c : Dev nD) (sm : SemLoc sig) (f : K → Fin 4) (hl : ∀ x, actS (zc c) x = true → (f (false, x)).val < 2 → lvAt sm < lvl x) :
    ctx KV Kn ⊢ MayWait (c : Thread nD τ) sm () (pend c f) :=
  have h : ctx KV Kn ⊢ (levAts L lv : sProp 𝕄) := by unfold ctx; iintro ⟨-, -, #H⟩; iexact H
  h.trans (mayWait c sm f hl)

/-- The send across x of what message `x` brought, and the send further along z. -/
def fwd (z : Fin 4) (x : X) : X := ⟨12 + 2 * (oR z x).val + (hf x).val, by have := (oR z x).isLt; have := (hf x).isLt; omega⟩
def nxt (x : X) : X := ⟨(x.val + 2) % 20, Nat.mod_lt _ (by decide)⟩
def nxtAct (z : Fin 4) (x : X) : Bool := decide (st x < 2) && actS z (nxt x)

/-- What stays with the device of what message `x` brought. -/
def rest (c : Dev nD) (x : X) : sProp 𝕄 :=
  if x.val < 12 then iprop(pts c (rM c x) qR (rv KV c x) ∗ if nxtAct (zc c) x = true then iprop(emp) else pts c (rM c x) qM (rv KV c x))
  else landPts KV c x

/-- The right to send `x`: the own cell's position, both duties' tokens, and the receiver's slot. -/
def right (c : Dev nD) (x : X) : sProp 𝕄 :=
  iprop(atPos ER (cell c (false, x)) 0 ∅ 0 ∗ reached ER (cell c (false, x)) 0 ∗ dutyTok ER (cell c (false, x)) 0 0
    ∗ dutyTok ER (cell (tgt c x) (true, x)) 0 0 ∗ give (tgt c x) x)

def resS (c : Dev nD) (x : X) (p : Fin 4) : sProp 𝕄 :=
  if actS (zc c) x = true then
    match p with
    | 0 => right c x
    | 1 => iprop(right c x ∗ srcPts KV c x)
    | 2 => iprop(atPos ER (cell c (false, x)) 0 ∅ 0 ∗ cred (tallyAt (cell c (false, x)) () N))
    | 3 => iprop(semVal (cell c (false, x)) 0 ∗ srcPts KV c x)
  else iprop(semVal (cell c (false, x)) 0 ∗ if x.val < 12 ∧ st x = 0 then srcPts KV c x else iprop(emp))

def resR (c : Dev nD) (x : X) (p : Fin 4) : sProp 𝕄 :=
  if actR (zc c) x = true then
    if p = 0 then iprop(atPos ER (cell c (true, x)) 0 ∅ 0 ∗ cred (tallyAt (cell c (true, x)) () N))
    else iprop(semVal (cell c (true, x)) 0 ∗ rest KV c x)
  else semVal (cell c (true, x)) 0

def res (c : Dev nD) (k : K) (p : Fin 4) : sProp 𝕄 := if k.1 = true then resR KV c k.2 p else resS KV c k.2 p

/-- The state of the exchange at device `c`, message by message at the phases `f`. -/
def St (c : Dev nD) (f : K → Fin 4) : sProp 𝕄 :=
  iprop(ctx KV Kn ∗ (∃ W, owes (c : Thread nD τ) (pend c f) W) ∗ bigSep Finset.univ fun k => res KV c k (f k))

theorem resS_act (c : Dev nD) (x : X) (ha : actS (zc c) x = true) (p : Fin 4) : res KV c (false, x) p = match p with
    | 0 => right c x
    | 1 => iprop(right c x ∗ srcPts KV c x)
    | 2 => iprop(atPos ER (cell c (false, x)) 0 ∅ 0 ∗ cred (tallyAt (cell c (false, x)) () N))
    | 3 => iprop(semVal (cell c (false, x)) 0 ∗ srcPts KV c x) := by
  show resS KV c x p = _
  unfold resS; rw [if_pos ha]
theorem resR_act (c : Dev nD) (x : X) (ha : actR (zc c) x = true) (p : Fin 4) : res KV c (true, x) p =
    if p = 0 then iprop(atPos ER (cell c (true, x)) 0 ∅ 0 ∗ cred (tallyAt (cell c (true, x)) () N))
    else iprop(semVal (cell c (true, x)) 0 ∗ rest KV c x) := by
  show resR KV c x p = _
  unfold resR; rw [if_pos ha]

theorem res_upd (c : Dev nD) (f : K → Fin 4) (k : K) (v : Fin 4) :
    iprop(res KV c k v ∗ bigSep (Finset.univ.erase k) fun j => res KV c j (f j))
      ⊢ bigSep Finset.univ fun j => res KV c j (Function.update f k v j) := by
  have h : bigSep (Finset.univ.erase k) (fun j => res KV c j (Function.update f k v j)) = bigSep (Finset.univ.erase k) fun j => res KV c j (f j) :=
    bigSep_congr fun j hj => congrArg (res KV c j) (Function.update_of_ne (Finset.ne_of_mem_erase hj) v f)
  rw [bigSep_univ_at (fun j => res KV c j (Function.update f k v j)) k, Function.update_self, h]

theorem land_eq (d : Dev nD) (M : Memref sig .tc .vmem S8x64x512 .f32) (w : S8x64x512.Idx → Elt F .f32) (fd : Buf (Elt F) (M.view.loc (d : Thread nD τ))) :
    (M.view.loc (d : Thread nD τ) ↦[M.view.set]{fullShare} (M.view.write (Elt F) fd w Finset.univ) : sProp 𝕄) = pts d M fullShare w := by
  unfold pts
  rw [pointsTo_rep (d : Thread nD τ) M _ fullShare, View.read_write_univ]

/-- A message whose source is at hand is sent. -/
theorem send_op {β : Type} (c : Dev nD) (f : K → Fin 4) (x : X) {src dst : Memref sig .tc .vmem S8x64x512 .f32} {d : Dev nD} {sS sR : DmaSem sig}
    (ha : actS (zc c) x = true) (hf : f (false, x) = 1)
    (hsrc : src = srcM c x) (hdst : dst = dstM c x) (hd : d = tgt c x) (hsS : sS = semK (false, x)) (hsR : sR = semK (true, x))
    {hsc : dst.view.ref.isScScratch = false} {h1 : src.view.WordExact} {h2 : dst.view.WordExact}
    {h3 : DmaTarget.Typed .vmem (.dma sR) (.remote (Dev.tc d) dst (.dma sS) hsc)}
    {k : Prog (TpuEff nD τ sig (Elt F) Λ₀ .tc) β} {R : sProp 𝕄} {Q : β → sProp 𝕄}
    (hk : iprop(St KV Kn c (Function.update f (false, x) 2) ∗ R) ⊢ wp frame (wpE (defs₀ (F := F)) 𝒱₀ (c : Thread nD τ) none) Set.univ k Q) :
    iprop(St KV Kn c f ∗ R) ⊢ wp frame (wpE (defs₀ (F := F)) 𝒱₀ (c : Thread nD τ) none) Set.univ
      (Prog.lift (.enqueueDma src (.remote (Dev.tc d) dst (.dma sS) hsc) (.dma sR) h1 h2 h3) >>= fun _ => k) Q := by
  have hrm : rM (tgt c x) x = dstM c x := rM_to c x ha
  have hrv : rv KV (tgt c x) x = sv KV c x := rv_to KV c x ha
  subst hsrc hdst hd hsS hsR
  show _ ⊢ wp frame _ Set.univ (.op (.enqueueDma (srcM c x) (.remote (Dev.tc (tgt c x)) (dstM c x) (.dma (semK (false, x))) hsc) (.dma (semK (true, x))) h1 h2 h3) fun _ => k) Q
  unfold St
  rw [bigSep_univ_at (fun k => res KV c k (f k)) (false, x), hf, pend_send c f x ha (by rw [hf]; decide) 2 (by decide)]
  have e1 : res KV c (false, x) 1 = iprop(right c x ∗ srcPts KV c x) := by
    show resS KV c x 1 = _
    unfold resS; rw [if_pos ha]
  rw [e1]; unfold right give srcPts anyPts pts
  rw [hrm]
  iintro ⟨⟨#Hctx, ⟨%W, HO⟩, ⟨⟨Hat, #HrS, HtS, HtR, ⟨%fd, Hd⟩, #HrR⟩, Hs⟩, Hrest⟩, HR⟩
  iapply (Rounds.wp_send_pointsTo 𝒱₀ ER (Rd KV) (c : Thread nD τ) none (c' := (tgt c x : Thread nD τ)) (src := srcM c x) (dst := dstM c x)
      (sS := .dma (semK (false, x))) (sem := .dma (semK (true, x))) (q := shS x) (fs := (srcM c x).view.rep (sv KV c x)) (κ₁ := Kn (cell c (false, x)))
      (κ₂ := Kn (cell (tgt c x) (true, x))) (r₁ := 0) (r₂ := 0) (d₁ := 0) (d₂ := 0) (fd := fd)
      (by show 0 ∈ (Rd KV).duties (cell c (false, x)) 0; rw [duties_act KV c (false, x) ha]; exact Finset.mem_singleton_self _)
      (by show 0 ∈ (Rd KV).duties (cell (tgt c x) (true, x)) 0; rw [duties_act KV (tgt c x) (true, x) ((actR_to c x).trans ha)]; exact Finset.mem_singleton_self _)
      () () N (credit_slot _ _ _) rfl rfl (pend c (Function.update f (false, x) 2)) rfl (W := W)
      (by show _ ⊢ (Rd KV).payload (cell c (false, x)) 0 0; rw [payload_send]; unfold srcPts pts; exact BI.Entails.refl _)
      (by show _ ⊢ (Rd KV).payload (cell (tgt c x) (true, x)) 0 0
          rw [payload_recv, View.read_rep, land_eq]; unfold landPts; rw [hrm, hrv])) $$ [Hs Hd HO HtS HtR]
  · isplitr; · iapply (ctx_cell KV Kn c (false, x)); iexact Hctx
    isplitr; · iapply (ctx_cell KV Kn (tgt c x) (true, x)); iexact Hctx
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply hk
  isplitr [HR]
  · unfold St
    isplitr; · iexact Hctx
    isplitl [HO]; · iexists W; iexact HO
    iapply (res_upd KV c f (false, x) 2)
    isplitr [Hrest]
    · rw [resS_act KV c x ha 2]; dsimp only
      isplitl [Hat]; · iexact Hat
      iexact Hc
    · iexact Hrest
  · iexact HR

/-- The device waits for a send of its own to be done. -/
theorem drain_op {β : Type} (c : Dev nD) (f : K → Fin 4) (x : X) {src dst : Memref sig .tc .vmem S8x64x512 .f32} {sS : DmaSem sig}
    (ha : actS (zc c) x = true) (hf : f (false, x) = 2) (hsS : sS = semK (false, x)) (hN : dst.view.dmaCredit = N)
    {h1 : src.view.WordExact} {h2 : dst.view.WordExact}
    {k : Prog (TpuEff nD τ sig (Elt F) Λ₀ .tc) β} {R : sProp 𝕄} {Q : β → sProp 𝕄}
    (hl : ∀ y, actS (zc c) y = true → (f (false, y)).val < 2 → 0 < lvl y)
    (hk : iprop(St KV Kn c (Function.update f (false, x) 3) ∗ R) ⊢ wp frame (wpE (defs₀ (F := F)) 𝒱₀ (c : Thread nD τ) none) Set.univ k Q) :
    iprop(St KV Kn c f ∗ R) ⊢ wp frame (wpE (defs₀ (F := F)) 𝒱₀ (c : Thread nD τ) none) Set.univ
      (Prog.lift (.waitDma2 sS src dst h1 h2) >>= fun _ => k) Q := by
  subst hsS
  have hmw := ctx_mayWait KV Kn c (.dma (semK (false, x))) f (fun y h1 h2 => (lvAt_send x).trans_lt (hl y h1 h2))
  show _ ⊢ wp frame _ Set.univ (.op (.waitDma2 (semK (false, x)) src dst h1 h2) fun _ => k) Q
  unfold St
  rw [bigSep_univ_at (fun k => res KV c k (f k)) (false, x), hf]
  have e1 : res KV c (false, x) 2 = iprop(atPos ER (cell c (false, x)) 0 ∅ 0 ∗ cred (tallyAt (cell c (false, x)) () N)) := by
    show resS KV c x 2 = _
    unfold resS; rw [if_pos ha]
  rw [e1, ← hN]
  iintro ⟨⟨#Hctx, ⟨%W, HO⟩, ⟨Hat, Hc⟩, Hrest⟩, HR⟩
  iapply (Rounds.wp_wait_rest_token 𝒱₀ ER (Rd KV) (c : Thread nD τ) none (κ := Kn (cell c (false, x)))
      (wpE_waitDma2_eq 𝒱₀ (c : Thread nD τ) none Set.univ) (Set.mem_univ _) () (O := pend c f) (W := W) (R := 0) (m := 0) (T := ∅)
      ((Nat.zero_add _).trans (hN.trans (expect_cell KV c (false, x) ha).symm))) $$ [Hc HO Hat]
  · isplitr; · iapply (ctx_cell KV Kn c (false, x)); iexact Hctx
    isplitl [Hc]; · iexact Hc
    isplitl [HO]; · iexact HO
    isplitr
    · iapply hmw
      iexact Hctx
    iexact Hat
  iintro ⟨HO, Hat, -, Hpay⟩
  ihave Hs := (Entails.of_eq (rest_send KV c x ha)) $$ Hpay
  imod (Rounds.cell_close ER (Rd KV) (Set.mem_univ (Kn (cell c (false, x)))) (fun h => h) (duties_later KV (cell c (false, x)))) $$ [Hat] with Hv
  · isplitr; · iapply (ctx_cell KV Kn c (false, x)); iexact Hctx
    iexact Hat
  iapply hk
  isplitr [HR]
  · unfold St
    isplitr; · iexact Hctx
    isplitl [HO]; · rw [pend_same c f (false, x) 3 (Or.inr (by rw [hf]; decide))]; iexists _; iexact HO
    iapply (res_upd KV c f (false, x) 3)
    isplitr [Hrest]
    · rw [resS_act KV c x ha 3]; dsimp only
      isplitl [Hv]; · iexact Hv
      iexact Hs
    · iexact Hrest
  · iexact HR

/-- The device waits for message `x`: the slot comes with what landed in it. -/
theorem recv_op {β : Type} (c : Dev nD) (f : K → Fin 4) (x : X) {src dst : Memref sig .tc .vmem S8x64x512 .f32} {sR : DmaSem sig}
    (ha : actR (zc c) x = true) (hf : f (true, x) = 0) (hsR : sR = semK (true, x)) (hN : dst.view.dmaCredit = N)
    {h1 : src.view.WordExact} {h2 : dst.view.WordExact}
    {k : Prog (TpuEff nD τ sig (Elt F) Λ₀ .tc) β} {R R' : sProp 𝕄} {Q : β → sProp 𝕄}
    (hl : ∀ y, actS (zc c) y = true → (f (false, y)).val < 2 → lvl x < lvl y)
    (hR : landPts KV c x ⊢ iprop(rest KV c x ∗ R'))
    (hk : iprop(St KV Kn c (Function.update f (true, x) 1) ∗ R' ∗ R) ⊢ wp frame (wpE (defs₀ (F := F)) 𝒱₀ (c : Thread nD τ) none) Set.univ k Q) :
    iprop(St KV Kn c f ∗ R) ⊢ wp frame (wpE (defs₀ (F := F)) 𝒱₀ (c : Thread nD τ) none) Set.univ
      (Prog.lift (.waitDma2 sR src dst h1 h2) >>= fun _ => k) Q := by
  subst hsR
  have hmw := ctx_mayWait KV Kn c (.dma (semK (true, x))) f (fun y h1 h2 => (lvAt_recv x).trans_lt (hl y h1 h2))
  show _ ⊢ wp frame _ Set.univ (.op (.waitDma2 (semK (true, x)) src dst h1 h2) fun _ => k) Q
  unfold St
  rw [bigSep_univ_at (fun k => res KV c k (f k)) (true, x), hf]
  have e1 : res KV c (true, x) 0 = iprop(atPos ER (cell c (true, x)) 0 ∅ 0 ∗ cred (tallyAt (cell c (true, x)) () N)) := by
    show resR KV c x 0 = _
    unfold resR; rw [if_pos ha, if_pos rfl]
  rw [e1, ← hN]
  iintro ⟨⟨#Hctx, ⟨%W, HO⟩, ⟨Hat, Hc⟩, Hrest⟩, HR⟩
  iapply (Rounds.wp_wait_rest_token 𝒱₀ ER (Rd KV) (c : Thread nD τ) none (κ := Kn (cell c (true, x)))
      (wpE_waitDma2_eq 𝒱₀ (c : Thread nD τ) none Set.univ) (Set.mem_univ _) () (O := pend c f) (W := W) (R := 0) (m := 0) (T := ∅)
      ((Nat.zero_add _).trans (hN.trans (expect_cell KV c (true, x) ha).symm))) $$ [Hc HO Hat]
  · isplitr; · iapply (ctx_cell KV Kn c (true, x)); iexact Hctx
    isplitl [Hc]; · iexact Hc
    isplitl [HO]; · iexact HO
    isplitr
    · iapply hmw
      iexact Hctx
    iexact Hat
  iintro ⟨HO, Hat, -, Hpay⟩
  ihave Hs := (Entails.of_eq (rest_recv KV c x ha)) $$ Hpay
  ihave Hs := hR $$ Hs
  icases Hs with ⟨Hs, HR'⟩
  imod (Rounds.cell_close ER (Rd KV) (Set.mem_univ (Kn (cell c (true, x)))) (fun h => h) (duties_later KV (cell c (true, x)))) $$ [Hat] with Hv
  · isplitr; · iapply (ctx_cell KV Kn c (true, x)); iexact Hctx
    iexact Hat
  iapply hk
  isplitr [HR HR']
  · unfold St
    isplitr; · iexact Hctx
    isplitl [HO]; · rw [pend_same c f (true, x) 1 (Or.inl rfl)]; iexists _; iexact HO
    iapply (res_upd KV c f (true, x) 1)
    isplitr [Hrest]
    · rw [resR_act KV c x ha 1, if_neg (by decide)]
      isplitl [Hv]; · iexact Hv
      iexact Hs
    · iexact Hrest
  · isplitl [HR']; · iexact HR'
    iexact HR

/-- A message's source comes to hand. -/
theorem arm (c : Dev nD) (f : K → Fin 4) (x : X) (ha : actS (zc c) x = true) (hf : f (false, x) = 0) :
    iprop(St KV Kn c f ∗ srcPts KV c x) ⊢ St KV Kn c (Function.update f (false, x) 1) := by
  unfold St
  rw [bigSep_univ_at (fun k => res KV c k (f k)) (false, x), hf, pend_same c f (false, x) 1 (Or.inr (by rw [hf]; decide))]
  have e1 : res KV c (false, x) 0 = right c x := by
    show resS KV c x 0 = _
    unfold resS; rw [if_pos ha]
  rw [e1]
  iintro ⟨⟨#Hctx, HO, Hr, Hrest⟩, Hs⟩
  isplitr; · iexact Hctx
  isplitl [HO]; · iexact HO
  iapply (res_upd KV c f (false, x) 1)
  isplitr [Hrest]
  · rw [resS_act KV c x ha 1]; dsimp only
    isplitl [Hr]; · iexact Hr
    iexact Hs
  · iexact Hrest

end Cert.KProof

end
-- ==== Proof.Steps.lean ====
/-
  The conditional statements of the exchange: each moves the phases by one rule of a device's z position, whether or
  not its condition holds there.
-/
module

public import proofs.«01_k».proof.Proof.Events

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

/-! ## Phases by z position -/

abbrev Ph : Type := Fin 4 → K → Fin 4

def evS (x : X) (p : Ph) : Ph := fun z => if actS z x = true then Function.update (p z) (false, x) 2 else p z
def okS (x : X) (p : Ph) : Prop := ∀ z, actS z x = true → p z (false, x) = 1
def evD (x : X) (p : Ph) : Ph := fun z => if actS z x = true then Function.update (p z) (false, x) 3 else p z
def okD (x : X) (p : Ph) : Prop := ∀ z, actS z x = true → p z (false, x) = 2
/-- Receive along z, arm what it enables, and forward across x. -/
def evF (x : X) (p : Ph) : Ph := fun z =>
  if actR z x = true then
    Function.update (if nxtAct z x = true then Function.update (Function.update (Function.update (p z) (true, x) 1) (false, fwd z x) 1) (false, nxt x) 1
      else Function.update (Function.update (p z) (true, x) 1) (false, fwd z x) 1) (false, fwd z x) 2
  else p z
def okF (x : X) (p : Ph) : Prop := ∀ z, actR z x = true → p z (true, x) = 0 ∧ p z (false, fwd z x) = 0 ∧ (nxtAct z x = true → p z (false, nxt x) = 0)
  ∧ ∀ y, actS z y = true → (p z (false, y)).val < 2 → lvl x < lvl y

instance (x : X) (p : Ph) : Decidable (okS x p) := by unfold okS; infer_instance
instance (x : X) (p : Ph) : Decidable (okD x p) := by unfold okD; infer_instance
instance (x : X) (p : Ph) : Decidable (okF x p) := by unfold okF; infer_instance

/-! ## Facts of the keys -/

theorem fwd_act : ∀ (z : Fin 4) (x : X), actR z x = true → x.val < 12 → actS z (fwd z x) = true ∧ oS z (fwd z x) = oR z x ∧ oR z x ≠ z ∧ hf (fwd z x) = hf x
    ∧ 12 ≤ (fwd z x).val := by decide +kernel
theorem nxt_act : ∀ (z : Fin 4) (x : X), actR z x = true → nxtAct z x = true → x.val < 12 → actS z (nxt x) = true ∧ oS z (nxt x) = oR z x ∧ hf (nxt x) = hf x
    ∧ 2 ≤ (nxt x).val ∧ (nxt x).val < 12 ∧ fwd z x ≠ nxt x := by decide +kernel
theorem lvl_pos (y : X) : 0 < lvl y := by unfold lvl; split <;> omega

theorem srcM_fwd (c : Dev nD) (x : X) (ha : actR (zc c) x = true) (hx : x.val < 12) : srcM c (fwd (zc c) x) = rM c x := by
  obtain ⟨-, h2, h3, h4, -⟩ := fwd_act (zc c) x ha hx
  unfold srcM rM rb; rw [h2, if_neg h3, if_pos hx, h4]
theorem dstM_fwd (c : Dev nD) (x : X) (ha : actR (zc c) x = true) (hx : x.val < 12) : dstM c (fwd (zc c) x) = rM c x := by
  obtain ⟨-, h2, h3, h4, -⟩ := fwd_act (zc c) x ha hx
  unfold dstM rM rb; rw [h2, if_pos hx, h4]

theorem srcPts_fwd (c : Dev nD) (x : X) (ha : actR (zc c) x = true) (hx : x.val < 12) : srcPts KV c (fwd (zc c) x) = pts c (rM c x) qL (rv KV c x) := by
  obtain ⟨-, h2, h3, h4, h5⟩ := fwd_act (zc c) x ha hx
  unfold srcPts shS
  rw [srcM_fwd c x ha hx, if_pos (Or.inr h5)]
  unfold sv rv rb; rw [h2, if_pos hx, h4]
theorem srcPts_nxt (c : Dev nD) (x : X) (ha : actR (zc c) x = true) (hn : nxtAct (zc c) x = true) (hx : x.val < 12) :
    srcPts KV c (nxt x) = pts c (rM c x) qM (rv KV c x) := by
  obtain ⟨-, -, h3, -, -⟩ := fwd_act (zc c) x ha hx
  obtain ⟨-, h2, h4, h5, h6, -⟩ := nxt_act (zc c) x ha hn hx
  unfold srcPts shS srcM
  rw [h2, if_neg h3, if_neg (show ¬((nxt x).val < 2 ∨ 12 ≤ (nxt x).val) by omega)]
  unfold sv rv rM rb; rw [h2, if_pos hx, h4]

theorem pts_split (c : Dev nD) (M : Memref sig .tc .vmem S8x64x512 .f32) (w : S8x64x512.Idx → Elt F .f32) :
    (pts c M fullShare w : sProp 𝕄) ⊣⊢ iprop(pts c M qL w ∗ pts c M qM w ∗ pts c M qR w) := by
  unfold pts
  have h1 := pointsTo_share (Ix := Unit) (Name := ℕ) (U := UU) (Lvl := ℕ) (ℓ := M.view.loc (c : Thread nD τ)) (I := M.view.set) (f := M.view.rep w)
    (PosShare.mem_left_op_right fullShare)
  have h2 := pointsTo_share (Ix := Unit) (Name := ℕ) (U := UU) (Lvl := ℕ) (ℓ := M.view.loc (c : Thread nD τ)) (I := M.view.set) (f := M.view.rep w)
    (PosShare.mem_left_op_right fullShare.right)
  exact h1.trans (sep_congr_right h2)

/-- What message `x` along z brought, divided among what it enables. -/
theorem land_split (c : Dev nD) (x : X) (ha : actR (zc c) x = true) (hx : x.val < 12) :
    landPts KV c x ⊢ iprop(rest KV c x ∗ (srcPts KV c (fwd (zc c) x) ∗ if nxtAct (zc c) x = true then srcPts KV c (nxt x) else iprop(emp))) := by
  rw [srcPts_fwd KV c x ha hx]
  unfold landPts rest
  rw [if_pos hx]
  refine (pts_split c _ _).1.trans ?_
  by_cases hn : nxtAct (zc c) x = true
  · rw [if_pos hn, if_pos hn, srcPts_nxt KV c x ha hn hx]
    iintro ⟨H1, H2, H3⟩
    isplitl [H3]; · isplitl [H3]; · iexact H3
                    iempintro
    isplitl [H1]; · iexact H1
    iexact H2
  · rw [if_neg hn, if_neg hn]
    iintro ⟨H1, H2, H3⟩
    isplitl [H2 H3]; · isplitl [H3]; · iexact H3
                       iexact H2
    isplitl [H1]; · iexact H1
    iempintro

/-! ## The statements -/

variable {β : Type} (c : Dev nD) (p : Ph)

theorem send_if (x : X) {cond : Prop} [Decidable cond] (hc : cond ↔ actS (zc c) x = true) (hok : okS x p)
    {src dst : cond → Memref sig .tc .vmem S8x64x512 .f32} {d : cond → Dev nD} {sS sR : cond → DmaSem sig}
    (hsrc : ∀ h, src h = srcM c x) (hdst : ∀ h, dst h = dstM c x) (hd : ∀ h, d h = tgt c x)
    (hsS : ∀ h, sS h = semK (false, x)) (hsR : ∀ h, sR h = semK (true, x))
    {hsc : ∀ h, (dst h).view.ref.isScScratch = false} {h1 : ∀ h, (src h).view.WordExact} {h2 : ∀ h, (dst h).view.WordExact}
    {h3 : ∀ h, DmaTarget.Typed .vmem (.dma (sR h)) (.remote (Dev.tc (d h)) (dst h) (.dma (sS h)) (hsc h))}
    {k : Prog (TpuEff nD τ sig (Elt F) Λ₀ .tc) β} {R : sProp 𝕄} {Q : β → sProp 𝕄}
    (hk : iprop(St KV Kn c (evS x p (zc c)) ∗ R) ⊢ wp frame (wpE (defs₀ (F := F)) 𝒱₀ (c : Thread nD τ) none) Set.univ k Q) :
    iprop(St KV Kn c (p (zc c)) ∗ R) ⊢ wp frame (wpE (defs₀ (F := F)) 𝒱₀ (c : Thread nD τ) none) Set.univ
      (dite cond (fun h => Prog.lift (.enqueueDma (src h) (.remote (Dev.tc (d h)) (dst h) (.dma (sS h)) (hsc h)) (.dma (sR h)) (h1 h) (h2 h) (h3 h)) >>= fun _ => k) (fun _ => k)) Q := by
  by_cases h : cond
  · rw [dif_pos h]
    have ha := hc.mp h
    unfold evS at hk; rw [if_pos ha] at hk
    exact send_op KV Kn c (p (zc c)) x ha (hok _ ha) (hsrc h) (hdst h) (hd h) (hsS h) (hsR h) hk
  · rw [dif_neg h]
    unfold evS at hk; rw [if_neg (fun ha => h (hc.mpr ha))] at hk
    exact hk

theorem drain_if (x : X) {cond : Prop} [Decidable cond] (hc : cond ↔ actS (zc c) x = true) (hok : okD x p)
    {src dst : cond → Memref sig .tc .vmem S8x64x512 .f32} {sS : cond → DmaSem sig}
    (hsS : ∀ h, sS h = semK (false, x)) (hN : ∀ h, (dst h).view.dmaCredit = N)
    {h1 : ∀ h, (src h).view.WordExact} {h2 : ∀ h, (dst h).view.WordExact}
    {k : Prog (TpuEff nD τ sig (Elt F) Λ₀ .tc) β} {R : sProp 𝕄} {Q : β → sProp 𝕄}
    (hk : iprop(St KV Kn c (evD x p (zc c)) ∗ R) ⊢ wp frame (wpE (defs₀ (F := F)) 𝒱₀ (c : Thread nD τ) none) Set.univ k Q) :
    iprop(St KV Kn c (p (zc c)) ∗ R) ⊢ wp frame (wpE (defs₀ (F := F)) 𝒱₀ (c : Thread nD τ) none) Set.univ
      (dite cond (fun h => Prog.lift (.waitDma2 (sS h) (src h) (dst h) (h1 h) (h2 h)) >>= fun _ => k) (fun _ => k)) Q := by
  by_cases h : cond
  · rw [dif_pos h]
    have ha := hc.mp h
    unfold evD at hk; rw [if_pos ha] at hk
    exact drain_op KV Kn c (p (zc c)) x ha (hok _ ha) (hsS h) (hN h) (fun y _ _ => lvl_pos y) hk
  · rw [dif_neg h]
    unfold evD at hk; rw [if_neg (fun ha => h (hc.mpr ha))] at hk
    exact hk

theorem recv_fwd_if (x : X) (hx : x.val < 12) {cond : Prop} [Decidable cond] (hc : cond ↔ actR (zc c) x = true) (hok : okF x p)
    {ws wd src dst : cond → Memref sig .tc .vmem S8x64x512 .f32} {d : cond → Dev nD} {sW sS sR : cond → DmaSem sig}
    (hsW : ∀ h, sW h = semK (true, x)) (hN : ∀ h, (wd h).view.dmaCredit = N)
    (hsrc : ∀ h, src h = rM c x) (hdst : ∀ h, dst h = rM c x) (hd : ∀ h, d h = pt c)
    (hsS : ∀ h, sS h = semK (false, fwd (zc c) x)) (hsR : ∀ h, sR h = semK (true, fwd (zc c) x))
    {w1 : ∀ h, (ws h).view.WordExact} {w2 : ∀ h, (wd h).view.WordExact}
    {hsc : ∀ h, (dst h).view.ref.isScScratch = false} {h1 : ∀ h, (src h).view.WordExact} {h2 : ∀ h, (dst h).view.WordExact}
    {h3 : ∀ h, DmaTarget.Typed .vmem (.dma (sR h)) (.remote (Dev.tc (d h)) (dst h) (.dma (sS h)) (hsc h))}
    {k : Prog (TpuEff nD τ sig (Elt F) Λ₀ .tc) β} {R : sProp 𝕄} {Q : β → sProp 𝕄}
    (hk : iprop(St KV Kn c (evF x p (zc c)) ∗ R) ⊢ wp frame (wpE (defs₀ (F := F)) 𝒱₀ (c : Thread nD τ) none) Set.univ k Q) :
    iprop(St KV Kn c (p (zc c)) ∗ R) ⊢ wp frame (wpE (defs₀ (F := F)) 𝒱₀ (c : Thread nD τ) none) Set.univ
      (dite cond (fun h => Prog.lift (.waitDma2 (sW h) (ws h) (wd h) (w1 h) (w2 h)) >>= fun _ =>
        Prog.lift (.enqueueDma (src h) (.remote (Dev.tc (d h)) (dst h) (.dma (sS h)) (hsc h)) (.dma (sR h)) (h1 h) (h2 h) (h3 h)) >>= fun _ => k) (fun _ => k)) Q := by
  by_cases h : cond
  · rw [dif_pos h]
    have ha := hc.mp h
    unfold evF at hk; rw [if_pos ha] at hk
    obtain ⟨o1, o2, o3, o4⟩ := hok _ ha
    obtain ⟨f1, f2, f3, f4, f5⟩ := fwd_act (zc c) x ha hx
    refine recv_op KV Kn c (p (zc c)) x ha o1 (hsW h) (hN h) o4 (land_split KV c x ha hx) ?_
    have hd' : d h = tgt c (fwd (zc c) x) := (hd h).trans (by unfold tgt; rw [if_neg (by omega), if_neg (by omega)])
    have n1 : (false, fwd (zc c) x) ≠ (true, x) := fun e => Bool.noConfusion (Prod.ext_iff.mp e).1
    by_cases hn : nxtAct (zc c) x = true
    · obtain ⟨g1, g2, g3, g4, g5, g6⟩ := nxt_act (zc c) x ha hn hx
      rw [if_pos hn] at hk ⊢
      have n2 : (false, nxt x) ≠ (true, x) := fun e => Bool.noConfusion (Prod.ext_iff.mp e).1
      have n3 : (false, fwd (zc c) x) ≠ (false, nxt x) := fun e => g6 (Prod.ext_iff.mp e).2
      have a1 := arm KV Kn c (Function.update (p (zc c)) (true, x) 1) (fwd (zc c) x) f1 ((Function.update_of_ne n1 _ _).trans o2)
      have a2 := arm KV Kn c (Function.update (Function.update (p (zc c)) (true, x) 1) (false, fwd (zc c) x) 1) (nxt x) g1
        ((Function.update_of_ne n3.symm _ _).trans ((Function.update_of_ne n2 _ _).trans (o3 hn)))
      have s := send_op KV Kn c _ (fwd (zc c) x) f1 ((Function.update_of_ne n3 _ _).trans (Function.update_self _ _ _))
        ((hsrc h).trans (srcM_fwd c x ha hx).symm) ((hdst h).trans (dstM_fwd c x ha hx).symm) hd' (hsS h) (hsR h) (hsc := hsc h) (h1 := h1 h) (h2 := h2 h) (h3 := h3 h) hk
      refine BIBase.Entails.trans ?_ s
      iintro ⟨H, ⟨H1, H2⟩, HR⟩
      isplitr [HR]
      · iapply a2
        isplitr [H2]
        · iapply a1
          isplitl [H]; · iexact H
          iexact H1
        · iexact H2
      · iexact HR
    · rw [if_neg hn] at hk ⊢
      have a1 := arm KV Kn c (Function.update (p (zc c)) (true, x) 1) (fwd (zc c) x) f1 ((Function.update_of_ne n1 _ _).trans o2)
      have s := send_op KV Kn c _ (fwd (zc c) x) f1 (Function.update_self _ _ _)
        ((hsrc h).trans (srcM_fwd c x ha hx).symm) ((hdst h).trans (dstM_fwd c x ha hx).symm) hd' (hsS h) (hsR h) (hsc := hsc h) (h1 := h1 h) (h2 := h2 h) (h3 := h3 h) hk
      refine BIBase.Entails.trans ?_ s
      iintro ⟨H, ⟨H1, -⟩, HR⟩
      isplitr [HR]
      · iapply a1
        isplitl [H]; · iexact H
        iexact H1
      · iexact HR
  · rw [dif_neg h]
    unfold evF at hk; rw [if_neg (fun ha => h (hc.mpr ha))] at hk
    exact hk

/-! ## The names the program gives -/

theorem slot_eq (b : Bool) (o : Fin 4) (h : Fin 2) {off : Fin 5 → Nat} {hi} (e : off = slotOff o h) :
    ((sbuf b).slice (Rect.unit (s := S4x2x8x64x512) off S1x1x8x64x512.size hi) (fun _ => rfl)).squeeze S8x64x512 squeezes_S1x1x8x64x512_S8x64x512 = slotM b o h := by
  subst e; rfl
theorem stg_eq (b : Bool) (h : Fin 2) {off : Fin 4 → Nat} {hi} (e : off = stgOff h) :
    ((stg b).slice (Rect.unit (s := S2x8x64x512) off S1x8x64x512.size hi) (fun _ => rfl)).squeeze S8x64x512 squeezes_S1x8x64x512_S8x64x512 = stgM b h := by
  subst e; rfl
theorem credit_eq (b : Bool) {off : Fin 5 → Nat} {hi} :
    (((sbuf b).slice (Rect.unit (s := S4x2x8x64x512) off S1x1x8x64x512.size hi) (fun _ => rfl)).squeeze S8x64x512 squeezes_S1x1x8x64x512_S8x64x512).view.dmaCredit = N := by
  cases b <;> rfl

/-- The semaphore at position `o`, half `h` of the arrays of the exchange across x. -/
theorem xsem_eq (b : Bool) (o : Fin 4) (h : Fin 2) {off : Fin 2 → Nat} {hi} (e : off = ![o.val, h.val]) :
    (((if b then cc0_scratch9 else cc0_scratch8 : DmaSems sig S4x2).slice (Rect.unit (s := S4x2) off S1x1.size hi)).squeeze S_ squeezes_S1x1_S_).sem
      = semK (b, ⟨12 + 2 * o.val + h.val, by omega⟩) := by
  subst e; revert b o h hi; decide

theorem rM_eq {c : Dev nD} {b : Bool} (hb : bx c = b) (x : X) (hx : x.val < 12) : slotM b (oR (zc c) x) (hf x) = rM c x := by
  unfold rM rb; rw [if_pos hx, hb]
theorem dstM_eq {c : Dev nD} {b : Bool} (hb : bx c = b) (x : X) : slotM b (oS (zc c) x) (hf x) = dstM c x := by
  unfold dstM; rw [hb]
theorem oS_own : ∀ (z : Fin 4) (x : X), x.val < 12 → st x = 0 → oS z x = z := by decide +kernel
theorem oS_far : ∀ (z : Fin 4) (x : X), x.val < 12 → actS z x = true → 0 < st x → oS z x ≠ z := by decide +kernel
theorem srcM_own {c : Dev nD} {b : Bool} (hb : bx c = b) (x : X) (hx : x.val < 12) (h : st x = 0) : stgM b (hf x) = srcM c x := by
  unfold srcM; rw [if_pos (oS_own _ x hx h), hb]
theorem srcM_far {c : Dev nD} {b : Bool} (hb : bx c = b) (x : X) (hx : x.val < 12) (ha : actS (zc c) x = true) (h : 0 < st x) :
    slotM b (oS (zc c) x) (hf x) = srcM c x := by
  unfold srcM; rw [if_neg (oS_far _ x hx ha h), hb]

end Cert.KProof

end
-- ==== Proof.Flash.lean ====
module

public import proofs.«01_k».proof.Proof.Steps
public import Idealize.ShloMosaic.Lib.Pointwise.IndexBridge
public import Idealize.ShloMosaic.Lib.ValueLayout

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

/-! ### The rows of the flash loops -/

abbrev bt (t : Fin 16) : Fin 2 := ⟨t.val / 8, by have := t.isLt; omega⟩
abbrev ht (t : Fin 16) : Fin 8 := ⟨t.val % 8, by omega⟩
abbrev tt (b : Fin 2) (h : Fin 8) : Fin 16 := ⟨8 * b.val + h.val, by have := b.isLt; have := h.isLt; omega⟩
theorem bt_tt (b : Fin 2) (h : Fin 8) : bt (tt b h) = b := by revert b h; decide
theorem ht_tt (b : Fin 2) (h : Fin 8) : ht (tt b h) = h := by revert b h; decide
theorem tt_bt (t : Fin 16) : tt (bt t) (ht t) = t := by revert t; decide

def rd4 (A : S2x8x64x512.Idx → Elt F .f32) (t : Fin 16) : Vec F S1x1x64x512 .f32 := fun y => A (ix4 (bt t) (ht t) (y 2) (y 3))
def rd5 (A : S2x8x64x512.Idx → Elt F .f32) (t : Fin 16) : Vec F S1x1x1x64x512 .f32 := fun y => A (ix4 (bt t) (ht t) (y 3) (y 4))
def rd3 (A : S16x1x512.Idx → Elt F .f32) (t : Fin 16) : Vec F S1x1x512 .f32 := fun y => A (ix3 t 0 (y 2))

/-- The row sums and the weighted sums after the own chunk. -/
def ownL (q k : S2x8x64x512.Idx → Elt F .f32) : S16x1x512.Idx → Elt F .f32 := fun i =>
  k0_pay7 (k0_pay5 (rd4 q (i 0)) (rd4 k (i 0))) (ix3 0 0 (i 2))
def ownA (q k v : S2x8x64x512.Idx → Elt F .f32) : S2x8x64x512.Idx → Elt F .f32 := fun i =>
  k0_pay8 (k0_pay5 (rd4 q (tt (i 0) (i 1))) (rd4 k (tt (i 0) (i 1)))) (rd4 v (tt (i 0) (i 1))) (ix4 0 0 (i 2) (i 3))
/-- One more chunk. -/
def accL (q k : S2x8x64x512.Idx → Elt F .f32) (l : S16x1x512.Idx → Elt F .f32) : S16x1x512.Idx → Elt F .f32 := fun i =>
  k0_pay20 (k0_pay13 (rd4 q (i 0)) (rd5 k (i 0))) k0_pay14 (rd3 l (i 0)) (ix3 0 0 (i 2))
def accA (q k v a : S2x8x64x512.Idx → Elt F .f32) : S2x8x64x512.Idx → Elt F .f32 := fun i =>
  k0_pay21 (k0_pay13 (rd4 q (tt (i 0) (i 1))) (rd5 k (tt (i 0) (i 1)))) k0_pay14 (rd5 v (tt (i 0) (i 1))) (rd4 a (tt (i 0) (i 1))) (ix4 0 0 (i 2) (i 3))
/-- The last chunk, and the quotient. -/
def finO (q k v : S2x8x64x512.Idx → Elt F .f32) (l : S16x1x512.Idx → Elt F .f32) (a : S2x8x64x512.Idx → Elt F .f32) : S2x8x64x512.Idx → Elt F .f32 := fun i =>
  k0_pay1 (k0_pay13 (rd4 q (tt (i 0) (i 1))) (rd5 k (tt (i 0) (i 1)))) k0_pay14 (rd5 v (tt (i 0) (i 1))) (rd3 l (tt (i 0) (i 1))) (rd4 a (tt (i 0) (i 1))) (ix4 0 0 (i 2) (i 3))

/-- The rows before `n` new, the others old. -/
def mix3 (n : ℕ) (A B : S16x1x512.Idx → Elt F .f32) : S16x1x512.Idx → Elt F .f32 := fun i => if (i 0).val < n then A i else B i
def mix4 (n : ℕ) (A B : S2x8x64x512.Idx → Elt F .f32) : S2x8x64x512.Idx → Elt F .f32 := fun i => if (tt (i 0) (i 1)).val < n then A i else B i
theorem mix3_zero (A B : S16x1x512.Idx → Elt F .f32) : mix3 0 A B = B := by funext i; exact if_neg (Nat.not_lt_zero _)
theorem mix4_zero (A B : S2x8x64x512.Idx → Elt F .f32) : mix4 0 A B = B := by funext i; exact if_neg (Nat.not_lt_zero _)
theorem mix3_last (A B : S16x1x512.Idx → Elt F .f32) : mix3 16 A B = A := by funext i; exact if_pos (i 0).isLt
theorem mix4_last (A B : S2x8x64x512.Idx → Elt F .f32) : mix4 16 A B = A := by funext i; exact if_pos (tt (i 0) (i 1)).isLt
theorem rd3_mix (t : Fin 16) (A B : S16x1x512.Idx → Elt F .f32) : rd3 (mix3 t.val A B) t = rd3 B t := by
  funext y; exact if_neg (lt_irrefl _)
theorem rd4_mix (t : Fin 16) (A B : S2x8x64x512.Idx → Elt F .f32) : rd4 (mix4 t.val A B) t = rd4 B t := by
  funext y
  refine if_neg ?_
  show ¬ (tt (bt t) (ht t)).val < t.val
  rw [tt_bt]; exact lt_irrefl _

/-! ### The rectangles -/

abbrev off4 (t : Fin 16) : Fin 4 → Nat := ![t.val / 8, t.val % 8, 0, 0]
abbrev off5 (o : Fin 4) (t : Fin 16) : Fin 5 → Nat := ![o.val, t.val / 8, t.val % 8, 0, 0]
abbrev off3 (t : Fin 16) : Fin 3 → Nat := ![t.val, 0, 0]
theorem off4_inb (t : Fin 16) : ∀ a, off4 t a + S1x1x64x512.size a ≤ S2x8x64x512.size a := by revert t; decide
theorem off5_inb (o : Fin 4) (t : Fin 16) : ∀ a, off5 o t a + S1x1x1x64x512.size a ≤ S4x2x8x64x512.size a := by revert o t; decide
theorem off3_inb (t : Fin 16) : ∀ a, off3 t a + S1x1x512.size a ≤ S16x1x512.size a := by revert t; decide
abbrev r4 (t : Fin 16) : Rect S2x8x64x512 := Rect.unit (s := S2x8x64x512) (off4 t) S1x1x64x512.size (off4_inb t)
abbrev r5 (o : Fin 4) (t : Fin 16) : Rect S4x2x8x64x512 := Rect.unit (s := S4x2x8x64x512) (off5 o t) S1x1x1x64x512.size (off5_inb o t)
abbrev r3 (t : Fin 16) : Rect S16x1x512 := Rect.unit (s := S16x1x512) (off3 t) S1x1x512.size (off3_inb t)

theorem r4_idx (t : Fin 16) (y : S1x1x64x512.Idx) : (r4 t).idx y = ix4 (bt t) (ht t) (y 2) (y 3) := by
  funext a
  have h0 : (y 0).val = 0 := by have := (y 0).isLt; exact Nat.lt_one_iff.mp this
  have h1 : (y 1).val = 0 := by have := (y 1).isLt; exact Nat.lt_one_iff.mp this
  match a with
  | ⟨0, _⟩ => apply Fin.ext; show t.val / 8 + 1 * (y 0).val = t.val / 8; omega
  | ⟨1, _⟩ => apply Fin.ext; show t.val % 8 + 1 * (y 1).val = t.val % 8; omega
  | ⟨2, _⟩ => apply Fin.ext; show 0 + 1 * (y 2).val = (y 2).val; omega
  | ⟨3, _⟩ => apply Fin.ext; show 0 + 1 * (y 3).val = (y 3).val; omega
theorem r3_idx (t : Fin 16) (y : S1x1x512.Idx) : (r3 t).idx y = ix3 t 0 (y 2) := by
  funext a
  have h0 : (y 0).val = 0 := by have := (y 0).isLt; exact Nat.lt_one_iff.mp this
  have h1 : (y 1).val = 0 := by have := (y 1).isLt; exact Nat.lt_one_iff.mp this
  match a with
  | ⟨0, _⟩ => apply Fin.ext; show t.val + 1 * (y 0).val = t.val; omega
  | ⟨1, _⟩ => apply Fin.ext; show 0 + 1 * (y 1).val = 0; omega
  | ⟨2, _⟩ => apply Fin.ext; show 0 + 1 * (y 2).val = (y 2).val; omega

theorem r5_idx (o : Fin 4) (t : Fin 16) (y : S1x1x1x64x512.Idx) : (r5 o t).idx y = ix5 o (bt t) (ht t) (y 3) (y 4) := by
  funext a
  have h0 : (y 0).val = 0 := by have := (y 0).isLt; exact Nat.lt_one_iff.mp this
  have h1 : (y 1).val = 0 := by have := (y 1).isLt; exact Nat.lt_one_iff.mp this
  have h2 : (y 2).val = 0 := by have := (y 2).isLt; exact Nat.lt_one_iff.mp this
  match a with
  | ⟨0, _⟩ => apply Fin.ext; show o.val + 1 * (y 0).val = o.val; omega
  | ⟨1, _⟩ => apply Fin.ext; show t.val / 8 + 1 * (y 1).val = t.val / 8; omega
  | ⟨2, _⟩ => apply Fin.ext; show t.val % 8 + 1 * (y 2).val = t.val % 8; omega
  | ⟨3, _⟩ => apply Fin.ext; show 0 + 1 * (y 3).val = (y 3).val; omega
  | ⟨4, _⟩ => apply Fin.ext; show 0 + 1 * (y 4).val = (y 4).val; omega

/-- Where half `h` of the staged block lies. -/
theorem stg_emb (b : Bool) (h : Fin 2) (j : Fin 8) (m : Fin 64) (n : Fin 512) :
    (stgM b h).view.emb (ix3 j m n) = (stg b).view.emb (ix4 h j m n) := by
  show (stg b).view.emb ((Rect.unit (s := S2x8x64x512) (stgOff h) S1x8x64x512.size (stgOff_inb h)).idx (Shape.reshapeEquiv _ (ix3 j m n))) = _
  congr 1
  rw [ix3_eq_valueIdx, ValueIdx.reshapeEquiv_ix3_1abc]
  funext a
  match a with
  | ⟨0, _⟩ => apply Fin.ext; show h.val + 1 * 0 = h.val; omega
  | ⟨1, _⟩ => apply Fin.ext; show 0 + 1 * j.val = j.val; omega
  | ⟨2, _⟩ => apply Fin.ext; show 0 + 1 * m.val = m.val; omega
  | ⟨3, _⟩ => apply Fin.ext; show 0 + 1 * n.val = n.val; omega
/-- Where the slot for origin `o`, half `h` lies. -/
theorem slot_emb (b : Bool) (o : Fin 4) (h : Fin 2) (j : Fin 8) (m : Fin 64) (n : Fin 512) :
    (slotM b o h).view.emb (ix3 j m n) = (sbuf b).view.emb (ix5 o h j m n) := by
  show (sbuf b).view.emb ((Rect.unit (s := S4x2x8x64x512) (slotOff o h) S1x1x8x64x512.size (slotOff_inb o h)).idx (Shape.reshapeEquiv _ (ix3 j m n))) = _
  congr 1
  rw [ix3_eq_valueIdx, ValueIdx.reshapeEquiv_ix3_11abc]
  funext a
  match a with
  | ⟨0, _⟩ => apply Fin.ext; show o.val + 1 * 0 = o.val; omega
  | ⟨1, _⟩ => apply Fin.ext; show h.val + 1 * 0 = h.val; omega
  | ⟨2, _⟩ => apply Fin.ext; show 0 + 1 * j.val = j.val; omega
  | ⟨3, _⟩ => apply Fin.ext; show 0 + 1 * m.val = m.val; omega
  | ⟨4, _⟩ => apply Fin.ext; show 0 + 1 * n.val = n.val; omega

theorem r4_at (t : Fin 16) {i : S2x8x64x512.Idx} (hi : i ∈ (r4 t).toLoadRect.set) : ∃ m n, i = ix4 (bt t) (ht t) m n := by
  refine ⟨i 2, i 3, ?_⟩
  have h := (LoadRect.mem_set _).mp hi
  obtain ⟨a0, l0, e0⟩ := h 0
  obtain ⟨a1, l1, e1⟩ := h 1
  have l0' : a0 < 1 := l0
  have l1' : a1 < 1 := l1
  have e0' : (i 0).val = t.val / 8 + 1 * a0 := e0
  have e1' : (i 1).val = t.val % 8 + 1 * a1 := e1
  funext a
  match a with
  | ⟨0, _⟩ => apply Fin.ext; show (i 0).val = t.val / 8; omega
  | ⟨1, _⟩ => apply Fin.ext; show (i 1).val = t.val % 8; omega
  | ⟨2, _⟩ => rfl
  | ⟨3, _⟩ => rfl
theorem r5_at (o : Fin 4) (t : Fin 16) {i : S4x2x8x64x512.Idx} (hi : i ∈ (r5 o t).toLoadRect.set) : ∃ m n, i = ix5 o (bt t) (ht t) m n := by
  refine ⟨i 3, i 4, ?_⟩
  have h := (LoadRect.mem_set _).mp hi
  obtain ⟨a0, l0, e0⟩ := h 0
  obtain ⟨a1, l1, e1⟩ := h 1
  obtain ⟨a2, l2, e2⟩ := h 2
  have l0' : a0 < 1 := l0
  have l1' : a1 < 1 := l1
  have l2' : a2 < 1 := l2
  have e0' : (i 0).val = o.val + 1 * a0 := e0
  have e1' : (i 1).val = t.val / 8 + 1 * a1 := e1
  have e2' : (i 2).val = t.val % 8 + 1 * a2 := e2
  funext a
  match a with
  | ⟨0, _⟩ => apply Fin.ext; show (i 0).val = o.val; omega
  | ⟨1, _⟩ => apply Fin.ext; show (i 1).val = t.val / 8; omega
  | ⟨2, _⟩ => apply Fin.ext; show (i 2).val = t.val % 8; omega
  | ⟨3, _⟩ => rfl
  | ⟨4, _⟩ => rfl

theorem stg_cov (b : Bool) (t : Fin 16) : (stg b).view.setOn (r4 t).toLoadRect.set ⊆ (stgM b (bt t)).view.set := by
  intro i hi
  obtain ⟨j, hj, rfl⟩ := Finset.mem_map.mp hi
  obtain ⟨m, n, rfl⟩ := r4_at t hj
  rw [← stg_emb]
  exact View.emb_mem_set _ _
theorem slot_cov (b : Bool) (o : Fin 4) (t : Fin 16) : (sbuf b).view.setOn (r5 o t).toLoadRect.set ⊆ (slotM b o (bt t)).view.set := by
  intro i hi
  obtain ⟨j, hj, rfl⟩ := Finset.mem_map.mp hi
  obtain ⟨m, n, rfl⟩ := r5_at o t hj
  rw [← slot_emb]
  exact View.emb_mem_set _ _

/-- A slot's contents, every slot holding the same block. -/
def slots (A : S2x8x64x512.Idx → Elt F .f32) : S4x2x8x64x512.Idx → Elt F .f32 := fun i => A (ix4 (i 1) (i 2) (i 3) (i 4))

variable (KV : Bool → Dev nD → S2x8x64x512.Idx → Elt F .f32)

section Contents
variable (c d : Dev nD) (o : Fin 4) (h : Fin 2) (q : PosShare TreeShare)

theorem pts_stg_k : (pts c (stgM false h) q (blk KV false d h) : sProp 𝕄)
    = ((Memref.whole cc0_stg1_0).view.loc (c : Thread nD τ) ↦[(stgM false h).view.set]{q} (KV false d)) := by
  refine pointsTo_congr fun i hi => ?_
  obtain ⟨y, -, rfl⟩ := Finset.mem_map.mp hi
  rw [View.rep_emb]
  show KV false d (ix4 h (y 0) (y 1) (y 2)) = KV false d ((stgM false h).view.emb y)
  congr 1
  refine Eq.trans ?_ (congrArg (stgM false h).view.emb (ix3_eta y))
  exact (stg_emb false h (y 0) (y 1) (y 2)).symm
theorem pts_slot_k : (pts c (slotM false o h) q (blk KV false d h) : sProp 𝕄)
    = ((Memref.whole cc0_scratch0).view.loc (c : Thread nD τ) ↦[(slotM false o h).view.set]{q} (slots (KV false d))) := by
  refine pointsTo_congr fun i hi => ?_
  obtain ⟨y, -, rfl⟩ := Finset.mem_map.mp hi
  rw [View.rep_emb]
  show KV false d (ix4 h (y 0) (y 1) (y 2)) = slots (KV false d) ((slotM false o h).view.emb y)
  have e : (slotM false o h).view.emb y = ix5 o h (y 0) (y 1) (y 2) :=
    (congrArg (slotM false o h).view.emb (ix3_eta y)).symm.trans (slot_emb false o h (y 0) (y 1) (y 2))
  exact (congrArg (slots (KV false d)) e).symm
theorem pts_stg_v : (pts c (stgM true h) q (blk KV true d h) : sProp 𝕄)
    = ((Memref.whole cc0_stg2_0).view.loc (c : Thread nD τ) ↦[(stgM true h).view.set]{q} (KV true d)) := by
  refine pointsTo_congr fun i hi => ?_
  obtain ⟨y, -, rfl⟩ := Finset.mem_map.mp hi
  rw [View.rep_emb]
  show KV true d (ix4 h (y 0) (y 1) (y 2)) = KV true d ((stgM true h).view.emb y)
  congr 1
  refine Eq.trans ?_ (congrArg (stgM true h).view.emb (ix3_eta y))
  exact (stg_emb true h (y 0) (y 1) (y 2)).symm
theorem pts_slot_v : (pts c (slotM true o h) q (blk KV true d h) : sProp 𝕄)
    = ((Memref.whole cc0_scratch1).view.loc (c : Thread nD τ) ↦[(slotM true o h).view.set]{q} (slots (KV true d))) := by
  refine pointsTo_congr fun i hi => ?_
  obtain ⟨y, -, rfl⟩ := Finset.mem_map.mp hi
  rw [View.rep_emb]
  show KV true d (ix4 h (y 0) (y 1) (y 2)) = slots (KV true d) ((slotM true o h).view.emb y)
  have e : (slotM true o h).view.emb y = ix5 o h (y 0) (y 1) (y 2) :=
    (congrArg (slotM true o h).view.emb (ix3_eta y)).symm.trans (slot_emb true o h (y 0) (y 1) (y 2))
  exact (congrArg (slots (KV true d)) e).symm
end Contents

omit KV

/-! ### Stores of a row -/

theorem write_split {sp : Space} {s : Shape} {e : EltTy} (v : View sig .tc sp s e) (f g : v.ty.Contents (Elt F)) (w : s.Idx → Elt F e)
    (hin : ∀ x, _root_.cast (congrArg (Elt F) v.elt_eq.symm) (w x) = g (v.emb x))
    (hout : ∀ i, (∀ x, i ≠ v.emb x) → f i = g i) : v.write (Elt F) f w Finset.univ = g := by
  funext i
  by_cases h : ∃ x, i = v.emb x
  · obtain ⟨x, rfl⟩ := h
    rw [View.write_emb_of_mem f w (Finset.mem_univ x)]; exact hin x
  · rw [View.write_of_not_mem]
    · exact hout i fun x hx => h ⟨x, hx⟩
    · intro hm
      obtain ⟨y, -, hy⟩ := Finset.mem_map.mp hm
      exact h ⟨y, hy.symm⟩

theorem mix4_in (t : Fin 16) (A B : S2x8x64x512.Idx → Elt F .f32) (w : Vec F S1x1x64x512 .f32)
    (hw : ∀ m n, w (ix4 0 0 m n) = A (ix4 (bt t) (ht t) m n)) (x : S1x1x64x512.Idx) : w x = mix4 (t.val + 1) A B ((r4 t).idx x) := by
  rw [r4_idx]
  have h0 : x 0 = (0 : Fin 1) := Fin.ext (Nat.lt_one_iff.mp (x 0).isLt)
  have h1 : x 1 = (0 : Fin 1) := Fin.ext (Nat.lt_one_iff.mp (x 1).isLt)
  have ex : x = ix4 (0 : Fin 1) (0 : Fin 1) (x 2) (x 3) := by
    funext a
    match a with
    | ⟨0, _⟩ => exact h0
    | ⟨1, _⟩ => exact h1
    | ⟨2, _⟩ => rfl
    | ⟨3, _⟩ => rfl
  refine (congrArg w ex).trans ((hw _ _).trans (if_pos ?_).symm)
  show (tt (bt t) (ht t)).val < t.val + 1
  rw [tt_bt]; omega
theorem mix4_out (t : Fin 16) (A B : S2x8x64x512.Idx → Elt F .f32) (i : S2x8x64x512.Idx) (h : ∀ x, i ≠ (r4 t).idx x) :
    mix4 t.val A B i = mix4 (t.val + 1) A B i := by
  have h' : (tt (i 0) (i 1)).val ≠ t.val := by
    intro e
    have e' : tt (i 0) (i 1) = t := Fin.ext e
    apply h (ix4 (0 : Fin 1) (0 : Fin 1) (i 2) (i 3))
    rw [r4_idx, ← e']
    funext a
    match a with
    | ⟨0, _⟩ => exact (bt_tt _ _).symm
    | ⟨1, _⟩ => exact (ht_tt _ _).symm
    | ⟨2, _⟩ => rfl
    | ⟨3, _⟩ => rfl
  unfold mix4
  by_cases h2 : (tt (i 0) (i 1)).val < t.val
  · rw [if_pos h2, if_pos (by omega)]
  · rw [if_neg h2, if_neg (by omega)]
theorem mix3_in (t : Fin 16) (A B : S16x1x512.Idx → Elt F .f32) (w : Vec F S1x1x512 .f32)
    (hw : ∀ n, w (ix3 0 0 n) = A (ix3 t 0 n)) (x : S1x1x512.Idx) : w x = mix3 (t.val + 1) A B ((r3 t).idx x) := by
  rw [r3_idx]
  have h0 : x 0 = (0 : Fin 1) := Fin.ext (Nat.lt_one_iff.mp (x 0).isLt)
  have h1 : x 1 = (0 : Fin 1) := Fin.ext (Nat.lt_one_iff.mp (x 1).isLt)
  have ex : x = ix3 (0 : Fin 1) (0 : Fin 1) (x 2) := by
    funext a
    match a with
    | ⟨0, _⟩ => exact h0
    | ⟨1, _⟩ => exact h1
    | ⟨2, _⟩ => rfl
  refine (congrArg w ex).trans ((hw _).trans (if_pos ?_).symm)
  show t.val < t.val + 1
  omega
theorem mix3_out (t : Fin 16) (A B : S16x1x512.Idx → Elt F .f32) (i : S16x1x512.Idx) (h : ∀ x, i ≠ (r3 t).idx x) :
    mix3 t.val A B i = mix3 (t.val + 1) A B i := by
  have h' : (i 0).val ≠ t.val := by
    intro e
    have e' : i 0 = t := Fin.ext e
    apply h (ix3 (0 : Fin 1) (0 : Fin 1) (i 2))
    rw [r3_idx, ← e']
    funext a
    match a with
    | ⟨0, _⟩ => rfl
    | ⟨1, _⟩ => exact Fin.ext (Nat.lt_one_iff.mp (i 1).isLt)
    | ⟨2, _⟩ => rfl
  unfold mix3
  by_cases h2 : (i 0).val < t.val
  · rw [if_pos h2, if_pos (by omega)]
  · rw [if_neg h2, if_neg (by omega)]

theorem st4_a (t : Fin 16) (A B : S2x8x64x512.Idx → Elt F .f32) (w : Vec F S1x1x64x512 .f32) (hw : ∀ m n, w (ix4 0 0 m n) = A (ix4 (bt t) (ht t) m n)) :
    ((Memref.whole cc0_scratch3).access (r4 t)).write (Elt F) (mix4 t.val A B) w Finset.univ = mix4 (t.val + 1) A B :=
  write_split ((Memref.whole cc0_scratch3).access (r4 t)) _ _ _ (mix4_in t A B w hw) (mix4_out t A B)
theorem st4_o (t : Fin 16) (A B : S2x8x64x512.Idx → Elt F .f32) (w : Vec F S1x1x64x512 .f32) (hw : ∀ m n, w (ix4 0 0 m n) = A (ix4 (bt t) (ht t) m n)) :
    ((Memref.whole cc0_stg3_0).access (r4 t)).write (Elt F) (mix4 t.val A B) w Finset.univ = mix4 (t.val + 1) A B :=
  write_split ((Memref.whole cc0_stg3_0).access (r4 t)) _ _ _ (mix4_in t A B w hw) (mix4_out t A B)
theorem st3_a (t : Fin 16) (A B : S16x1x512.Idx → Elt F .f32) (w : Vec F S1x1x512 .f32) (hw : ∀ n, w (ix3 0 0 n) = A (ix3 t 0 n)) :
    ((Memref.whole cc0_scratch2).access (r3 t)).write (Elt F) (mix3 t.val A B) w Finset.univ = mix3 (t.val + 1) A B :=
  write_split ((Memref.whole cc0_scratch2).access (r3 t)) _ _ _ (mix3_in t A B w hw) (mix3_out t A B)

theorem rd4_whole_a (A : S2x8x64x512.Idx → Elt F .f32) (t : Fin 16) :
    (Memref.whole cc0_scratch3).view.readAt (Elt F) (r4 t).toLoadRect A = rd4 A t := by
  funext y
  show A ((r4 t).idx y) = _
  rw [r4_idx]; rfl
theorem rd4_whole_q (A : S2x8x64x512.Idx → Elt F .f32) (t : Fin 16) :
    (Memref.whole cc0_stg0_0).view.readAt (Elt F) (r4 t).toLoadRect A = rd4 A t := by
  funext y
  show A ((r4 t).idx y) = _
  rw [r4_idx]; rfl
theorem rd3_whole (A : S16x1x512.Idx → Elt F .f32) (t : Fin 16) :
    (Memref.whole cc0_scratch2).view.readAt (Elt F) (r3 t).toLoadRect A = rd3 A t := by
  funext y
  show A ((r3 t).idx y) = _
  rw [r3_idx]; rfl
theorem rd4_whole_k (A : S2x8x64x512.Idx → Elt F .f32) (t : Fin 16) :
    (Memref.whole cc0_stg1_0).view.readAt (Elt F) (r4 t).toLoadRect A = rd4 A t := by
  funext y
  show A ((r4 t).idx y) = _
  rw [r4_idx]; rfl
theorem rd4_whole_v (A : S2x8x64x512.Idx → Elt F .f32) (t : Fin 16) :
    (Memref.whole cc0_stg2_0).view.readAt (Elt F) (r4 t).toLoadRect A = rd4 A t := by
  funext y
  show A ((r4 t).idx y) = _
  rw [r4_idx]; rfl
theorem rd5_whole_k (A : S2x8x64x512.Idx → Elt F .f32) (o : Fin 4) (t : Fin 16) :
    (Memref.whole cc0_scratch0).view.readAt (Elt F) (r5 o t).toLoadRect (slots A) = rd5 A t := by
  funext y
  show slots A ((r5 o t).idx y) = _
  rw [r5_idx]; rfl
theorem rd5_whole_v (A : S2x8x64x512.Idx → Elt F .f32) (o : Fin 4) (t : Fin 16) :
    (Memref.whole cc0_scratch1).view.readAt (Elt F) (r5 o t).toLoadRect (slots A) = rd5 A t := by
  funext y
  show slots A ((r5 o t).idx y) = _
  rw [r5_idx]; rfl
-- ==== Proof.Loops.lean ====
module

public import proofs.«01_k».proof.Proof.Flash

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

/-! ### What the loops hold -/

/-- The row sums and the weighted sums. -/
def flashSt (c : Dev nD) (l : S16x1x512.Idx → Elt F .f32) (a : S2x8x64x512.Idx → Elt F .f32) : sProp 𝕄 :=
  iprop(((Memref.whole cc0_scratch2).view.loc (c : Thread nD τ) ↦[Finset.univ]{fullShare} l)
    ∗ ((Memref.whole cc0_scratch3).view.loc (c : Thread nD τ) ↦[Finset.univ]{fullShare} a))
/-- The queries, and the output's block. -/
def qIn (c : Dev nD) (q : S2x8x64x512.Idx → Elt F .f32) : sProp 𝕄 :=
  (Memref.whole cc0_stg0_0).view.loc (c : Thread nD τ) ↦[Finset.univ]{fullShare} q
def oOut (c : Dev nD) (a : S2x8x64x512.Idx → Elt F .f32) : sProp 𝕄 :=
  (Memref.whole cc0_stg3_0).view.loc (c : Thread nD τ) ↦[Finset.univ]{fullShare} a

/-- A family over the two kinds and the two halves. -/
def quad (P : Bool → Fin 2 → sProp 𝕄) : sProp 𝕄 := iprop((P false 0 ∗ P false 1) ∗ (P true 0 ∗ P true 1))
theorem quad_take (P : Bool → Fin 2 → sProp 𝕄) (b : Bool) (h : Fin 2) : quad P ⊢ iprop(P b h ∗ (P b h -∗ quad P)) := by
  unfold quad
  cases b
  · match h with
    | 0 => iintro ⟨⟨H1, H2⟩, H3⟩; isplitl [H1]; · iexact H1
           iintro H1; isplitl [H1 H2]; · isplitl [H1] <;> iassumption
           iexact H3
    | 1 => iintro ⟨⟨H1, H2⟩, H3⟩; isplitl [H2]; · iexact H2
           iintro H2; isplitl [H1 H2]; · isplitl [H1] <;> iassumption
           iexact H3
  · match h with
    | 0 => iintro ⟨H3, H1, H2⟩; isplitl [H1]; · iexact H1
           iintro H1; isplitl [H3]; · iexact H3
           isplitl [H1] <;> iassumption
    | 1 => iintro ⟨H3, H1, H2⟩; isplitl [H2]; · iexact H2
           iintro H2; isplitl [H3]; · iexact H3
           isplitl [H1] <;> iassumption

/-- The shares of the own staged blocks that the loops read through. -/
def ownP (c : Dev nD) : sProp 𝕄 := quad fun b h => pts c (stgM b h) qR (blk KV b c h)
def cq (c : Dev nD) (b : Bool) : PosShare TreeShare := if b = bx c then qR else fullShare
/-- The slots of origin `o`, both kinds. -/
def chunkP (c : Dev nD) (o : Fin 4) : sProp 𝕄 := quad fun b h => pts c (slotM b o h) (cq c b) (blk KV b (srcDev b c o) h)

/-! ### The loops' bodies -/

abbrev In4 (o4 : Fin 4 → Nat) : Prop := ∀ a, o4 a + S1x1x64x512.size a ≤ S2x8x64x512.size a
abbrev In5 (o5 : Fin 5 → Nat) : Prop := ∀ a, o5 a + S1x1x1x64x512.size a ≤ S4x2x8x64x512.size a
abbrev In3 (o3 : Fin 3 → Nat) : Prop := ∀ a, o3 a + S1x1x512.size a ≤ S16x1x512.size a

/-- One trip over the own chunk. -/
def ownBody (o4 : Fin 4 → Nat) (i4 : In4 o4) (o3 : Fin 3 → Nat) (i3 : In3 o3) : Prog (TpuEff nD τ sig (Elt F) Λ₀ .tc) Unit := do
  let q : Vec F S1x1x64x512 .f32 ← Prog.lift (.load (Memref.whole cc0_stg0_0) (Rect.unit (s := S2x8x64x512) o4 S1x1x64x512.size i4).toLoadRect (View.loadsAt_vmem h_S1x1x64x512))
  let k : Vec F S1x1x64x512 .f32 ← Prog.lift (.load (Memref.whole cc0_stg1_0) (Rect.unit (s := S2x8x64x512) o4 S1x1x64x512.size i4).toLoadRect (View.loadsAt_vmem h_S1x1x64x512))
  let v : Vec F S1x1x64x512 .f32 ← Prog.lift (.load (Memref.whole cc0_stg2_0) (Rect.unit (s := S2x8x64x512) o4 S1x1x64x512.size i4).toLoadRect (View.loadsAt_vmem h_S1x1x64x512))
  let _ : Vec F S1x1x512 .f32 ← Prog.lift (.load (Memref.whole cc0_scratch2) (Rect.unit (s := S16x1x512) o3 S1x1x512.size i3).toLoadRect (View.loadsAt_vmem h_S1x1x512))
  Prog.lift (.store (Memref.whole cc0_scratch2) (Rect.unit (s := S16x1x512) o3 S1x1x512.size i3) (k0_pay7 (k0_pay5 q k)) Finset.univ (View.stores_vmem_bits_univ h_S1x1x512 rfl) (.inl rfl))
  let _ : Vec F S1x1x64x512 .f32 ← Prog.lift (.load (Memref.whole cc0_scratch3) (Rect.unit (s := S2x8x64x512) o4 S1x1x64x512.size i4).toLoadRect (View.loadsAt_vmem h_S1x1x64x512))
  Prog.lift (.store (Memref.whole cc0_scratch3) (Rect.unit (s := S2x8x64x512) o4 S1x1x64x512.size i4) (k0_pay8 (k0_pay5 q k) v) Finset.univ (View.stores_vmem_bits_univ h_S1x1x64x512 rfl) (.inl rfl))
  pure ⟨⟩

/-- One trip over another chunk. -/
def accBody (o4 : Fin 4 → Nat) (i4 : In4 o4) (o5 : Fin 5 → Nat) (i5 : In5 o5) (o3 : Fin 3 → Nat) (i3 : In3 o3) : Prog (TpuEff nD τ sig (Elt F) Λ₀ .tc) Unit := do
  let q : Vec F S1x1x64x512 .f32 ← Prog.lift (.load (Memref.whole cc0_stg0_0) (Rect.unit (s := S2x8x64x512) o4 S1x1x64x512.size i4).toLoadRect (View.loadsAt_vmem h_S1x1x64x512))
  let k : Vec F S1x1x1x64x512 .f32 ← Prog.lift (.load (Memref.whole cc0_scratch0) (Rect.unit (s := S4x2x8x64x512) o5 S1x1x1x64x512.size i5).toLoadRect (View.loadsAt_vmem h_S1x1x1x64x512))
  let v : Vec F S1x1x1x64x512 .f32 ← Prog.lift (.load (Memref.whole cc0_scratch1) (Rect.unit (s := S4x2x8x64x512) o5 S1x1x1x64x512.size i5).toLoadRect (View.loadsAt_vmem h_S1x1x1x64x512))
  let l : Vec F S1x1x512 .f32 ← Prog.lift (.load (Memref.whole cc0_scratch2) (Rect.unit (s := S16x1x512) o3 S1x1x512.size i3).toLoadRect (View.loadsAt_vmem h_S1x1x512))
  let a : Vec F S1x1x64x512 .f32 ← Prog.lift (.load (Memref.whole cc0_scratch3) (Rect.unit (s := S2x8x64x512) o4 S1x1x64x512.size i4).toLoadRect (View.loadsAt_vmem h_S1x1x64x512))
  let _ : Vec F S1x1x512 .f32 ← Prog.lift (.load (Memref.whole cc0_scratch2) (Rect.unit (s := S16x1x512) o3 S1x1x512.size i3).toLoadRect (View.loadsAt_vmem h_S1x1x512))
  Prog.lift (.store (Memref.whole cc0_scratch2) (Rect.unit (s := S16x1x512) o3 S1x1x512.size i3) (k0_pay20 (k0_pay13 q k) k0_pay14 l) Finset.univ (View.stores_vmem_bits_univ h_S1x1x512 rfl) (.inl rfl))
  let _ : Vec F S1x1x64x512 .f32 ← Prog.lift (.load (Memref.whole cc0_scratch3) (Rect.unit (s := S2x8x64x512) o4 S1x1x64x512.size i4).toLoadRect (View.loadsAt_vmem h_S1x1x64x512))
  Prog.lift (.store (Memref.whole cc0_scratch3) (Rect.unit (s := S2x8x64x512) o4 S1x1x64x512.size i4) (k0_pay21 (k0_pay13 q k) k0_pay14 v a) Finset.univ (View.stores_vmem_bits_univ h_S1x1x64x512 rfl) (.inl rfl))
  pure ⟨⟩

/-- One trip over the last chunk. -/
def finBody (o4 : Fin 4 → Nat) (i4 : In4 o4) (o5 : Fin 5 → Nat) (i5 : In5 o5) (o3 : Fin 3 → Nat) (i3 : In3 o3) : Prog (TpuEff nD τ sig (Elt F) Λ₀ .tc) Unit := do
  let q : Vec F S1x1x64x512 .f32 ← Prog.lift (.load (Memref.whole cc0_stg0_0) (Rect.unit (s := S2x8x64x512) o4 S1x1x64x512.size i4).toLoadRect (View.loadsAt_vmem h_S1x1x64x512))
  let k : Vec F S1x1x1x64x512 .f32 ← Prog.lift (.load (Memref.whole cc0_scratch0) (Rect.unit (s := S4x2x8x64x512) o5 S1x1x1x64x512.size i5).toLoadRect (View.loadsAt_vmem h_S1x1x1x64x512))
  let v : Vec F S1x1x1x64x512 .f32 ← Prog.lift (.load (Memref.whole cc0_scratch1) (Rect.unit (s := S4x2x8x64x512) o5 S1x1x1x64x512.size i5).toLoadRect (View.loadsAt_vmem h_S1x1x1x64x512))
  let l : Vec F S1x1x512 .f32 ← Prog.lift (.load (Memref.whole cc0_scratch2) (Rect.unit (s := S16x1x512) o3 S1x1x512.size i3).toLoadRect (View.loadsAt_vmem h_S1x1x512))
  let a : Vec F S1x1x64x512 .f32 ← Prog.lift (.load (Memref.whole cc0_scratch3) (Rect.unit (s := S2x8x64x512) o4 S1x1x64x512.size i4).toLoadRect (View.loadsAt_vmem h_S1x1x64x512))
  let _ : Vec F S1x1x64x512 .f32 ← Prog.lift (.load (Memref.whole cc0_stg3_0) (Rect.unit (s := S2x8x64x512) o4 S1x1x64x512.size i4).toLoadRect (View.loadsAt_vmem h_S1x1x64x512))
  Prog.lift (.store (Memref.whole cc0_stg3_0) (Rect.unit (s := S2x8x64x512) o4 S1x1x64x512.size i4) (k0_pay1 (k0_pay13 q k) k0_pay14 v l a) Finset.univ (View.stores_vmem_bits_univ h_S1x1x64x512 rfl) (.inl rfl))
  pure ⟨⟩

section Trips
variable (c : Dev nD) (q : S2x8x64x512.Idx → Elt F .f32) (l : S16x1x512.Idx → Elt F .f32) (a : S2x8x64x512.Idx → Elt F .f32) (t : Fin 16)

theorem ownA_at (k v : S2x8x64x512.Idx → Elt F .f32) (m : Fin 64) (n : Fin 512) :
    ownA q k v (ix4 (bt t) (ht t) m n) = k0_pay8 (k0_pay5 (rd4 q t) (rd4 k t)) (rd4 v t) (ix4 0 0 m n) := by
  show k0_pay8 (k0_pay5 (rd4 q (tt (bt t) (ht t))) (rd4 k (tt (bt t) (ht t)))) (rd4 v (tt (bt t) (ht t))) (ix4 0 0 m n) = _
  rw [tt_bt]
theorem accA_at (k v : S2x8x64x512.Idx → Elt F .f32) (m : Fin 64) (n : Fin 512) :
    accA q k v a (ix4 (bt t) (ht t) m n) = k0_pay21 (k0_pay13 (rd4 q t) (rd5 k t)) k0_pay14 (rd5 v t) (rd4 a t) (ix4 0 0 m n) := by
  show k0_pay21 (k0_pay13 (rd4 q (tt (bt t) (ht t))) (rd5 k (tt (bt t) (ht t)))) k0_pay14 (rd5 v (tt (bt t) (ht t))) (rd4 a (tt (bt t) (ht t))) (ix4 0 0 m n) = _
  rw [tt_bt]
theorem finO_at (k v : S2x8x64x512.Idx → Elt F .f32) (m : Fin 64) (n : Fin 512) :
    finO q k v l a (ix4 (bt t) (ht t) m n) = k0_pay1 (k0_pay13 (rd4 q t) (rd5 k t)) k0_pay14 (rd5 v t) (rd3 l t) (rd4 a t) (ix4 0 0 m n) := by
  show k0_pay1 (k0_pay13 (rd4 q (tt (bt t) (ht t))) (rd5 k (tt (bt t) (ht t)))) k0_pay14 (rd5 v (tt (bt t) (ht t))) (rd3 l (tt (bt t) (ht t))) (rd4 a (tt (bt t) (ht t))) (ix4 0 0 m n) = _
  rw [tt_bt]

def ownInv (n : ℕ) : sProp 𝕄 :=
  iprop(flashSt c (mix3 n (ownL q (KV false c)) l) (mix4 n (ownA q (KV false c) (KV true c)) a) ∗ qIn c q ∗ ownP KV c)

theorem own_trip (o4 : Fin 4 → Nat) (i4 : In4 o4) (o3 : Fin 3 → Nat) (i3 : In3 o3) (e4 : o4 = off4 t) (e3 : o3 = off3 t) :
    ownInv KV c q l a t.val ⊢ wp frame (wpE (defs₀ (F := F)) 𝒱₀ (c : Thread nD τ) none) Set.univ
      (ownBody o4 i4 o3 i3) (fun _ => ownInv KV c q l a (t.val + 1)) := by
  subst e4 e3
  unfold ownInv flashSt qIn ownP ownBody
  iintro ⟨⟨HL, HA⟩, HQ, HO⟩
  iapply (wp_load 𝒱₀ (c : Thread nD τ) none Set.univ (m := Memref.whole cc0_stg0_0) (Finset.subset_univ _)) $$ HQ; iintro HQ
  ihave HO' := (quad_take (fun b h => pts c (stgM b h) qR (blk KV b c h)) false (bt t)) $$ HO
  icases HO' with ⟨Hk, HO⟩
  ihave Hk' := (Entails.of_eq (pts_stg_k KV c c (bt t) qR)) $$ Hk
  iapply (wp_load 𝒱₀ (c : Thread nD τ) none Set.univ (m := Memref.whole cc0_stg1_0) (stg_cov false t)) $$ Hk'; iintro Hk'
  ihave Hk := (Entails.of_eq (pts_stg_k KV c c (bt t) qR).symm) $$ Hk'
  ihave HO := HO $$ Hk
  ihave HO' := (quad_take (fun b h => pts c (stgM b h) qR (blk KV b c h)) true (bt t)) $$ HO
  icases HO' with ⟨Hk, HO⟩
  ihave Hk' := (Entails.of_eq (pts_stg_v KV c c (bt t) qR)) $$ Hk
  iapply (wp_load 𝒱₀ (c : Thread nD τ) none Set.univ (m := Memref.whole cc0_stg2_0) (stg_cov true t)) $$ Hk'; iintro Hk'
  ihave Hk := (Entails.of_eq (pts_stg_v KV c c (bt t) qR).symm) $$ Hk'
  ihave HO := HO $$ Hk
  iapply (wp_load 𝒱₀ (c : Thread nD τ) none Set.univ (m := Memref.whole cc0_scratch2) (Finset.subset_univ _)) $$ HL; iintro HL
  iapply (wp_store 𝒱₀ (c : Thread nD τ) none Set.univ (m := Memref.whole cc0_scratch2) (r := r3 t) (Mk := Finset.univ) (Finset.subset_univ _)) $$ HL; iintro HL
  iapply (wp_load 𝒱₀ (c : Thread nD τ) none Set.univ (m := Memref.whole cc0_scratch3) (Finset.subset_univ _)) $$ HA; iintro HA
  iapply (wp_store 𝒱₀ (c : Thread nD τ) none Set.univ (m := Memref.whole cc0_scratch3) (r := r4 t) (Mk := Finset.univ) (Finset.subset_univ _)) $$ HA; iintro HA
  rw [rd4_whole_q q t, rd4_whole_k (KV false c) t, rd4_whole_v (KV true c) t, st3_a t _ _ _ (fun _ => rfl), st4_a t _ _ _ (fun m n => (ownA_at q t (KV false c) (KV true c) m n).symm)]
  iapply (le_wp_ret frame _ _ PUnit.unit _)
  isplitl [HL HA]
  · isplitl [HL]
    · iexact HL
    · iexact HA
  isplitl [HQ]
  · iexact HQ
  iexact HO

variable (o : Fin 4)

def accInv (n : ℕ) : sProp 𝕄 :=
  iprop(flashSt c (mix3 n (accL q (KV false (srcDev false c o)) l) l) (mix4 n (accA q (KV false (srcDev false c o)) (KV true (srcDev true c o)) a) a)
    ∗ qIn c q ∗ chunkP KV c o)

theorem acc_trip (o4 : Fin 4 → Nat) (i4 : In4 o4) (o5 : Fin 5 → Nat) (i5 : In5 o5) (o3 : Fin 3 → Nat) (i3 : In3 o3)
    (e4 : o4 = off4 t) (e5 : o5 = off5 o t) (e3 : o3 = off3 t) :
    accInv KV c q l a o t.val ⊢ wp frame (wpE (defs₀ (F := F)) 𝒱₀ (c : Thread nD τ) none) Set.univ
      (accBody o4 i4 o5 i5 o3 i3) (fun _ => accInv KV c q l a o (t.val + 1)) := by
  subst e4 e5 e3
  unfold accInv flashSt qIn chunkP accBody
  iintro ⟨⟨HL, HA⟩, HQ, HO⟩
  iapply (wp_load 𝒱₀ (c : Thread nD τ) none Set.univ (m := Memref.whole cc0_stg0_0) (Finset.subset_univ _)) $$ HQ; iintro HQ
  ihave HO' := (quad_take (fun b h => pts c (slotM b o h) (cq c b) (blk KV b (srcDev b c o) h)) false (bt t)) $$ HO
  icases HO' with ⟨Hk, HO⟩
  ihave Hk' := (Entails.of_eq (pts_slot_k KV c (srcDev false c o) o (bt t) (cq c false))) $$ Hk
  iapply (wp_load 𝒱₀ (c : Thread nD τ) none Set.univ (m := Memref.whole cc0_scratch0) (slot_cov false o t)) $$ Hk'; iintro Hk'
  ihave Hk := (Entails.of_eq (pts_slot_k KV c (srcDev false c o) o (bt t) (cq c false)).symm) $$ Hk'
  ihave HO := HO $$ Hk
  ihave HO' := (quad_take (fun b h => pts c (slotM b o h) (cq c b) (blk KV b (srcDev b c o) h)) true (bt t)) $$ HO
  icases HO' with ⟨Hk, HO⟩
  ihave Hk' := (Entails.of_eq (pts_slot_v KV c (srcDev true c o) o (bt t) (cq c true))) $$ Hk
  iapply (wp_load 𝒱₀ (c : Thread nD τ) none Set.univ (m := Memref.whole cc0_scratch1) (slot_cov true o t)) $$ Hk'; iintro Hk'
  ihave Hk := (Entails.of_eq (pts_slot_v KV c (srcDev true c o) o (bt t) (cq c true)).symm) $$ Hk'
  ihave HO := HO $$ Hk
  iapply (wp_load 𝒱₀ (c : Thread nD τ) none Set.univ (m := Memref.whole cc0_scratch2) (Finset.subset_univ _)) $$ HL; iintro HL
  iapply (wp_load 𝒱₀ (c : Thread nD τ) none Set.univ (m := Memref.whole cc0_scratch3) (Finset.subset_univ _)) $$ HA; iintro HA
  iapply (wp_load 𝒱₀ (c : Thread nD τ) none Set.univ (m := Memref.whole cc0_scratch2) (Finset.subset_univ _)) $$ HL; iintro HL
  iapply (wp_store 𝒱₀ (c : Thread nD τ) none Set.univ (m := Memref.whole cc0_scratch2) (r := r3 t) (Mk := Finset.univ) (Finset.subset_univ _)) $$ HL; iintro HL
  iapply (wp_load 𝒱₀ (c : Thread nD τ) none Set.univ (m := Memref.whole cc0_scratch3) (Finset.subset_univ _)) $$ HA; iintro HA
  iapply (wp_store 𝒱₀ (c : Thread nD τ) none Set.univ (m := Memref.whole cc0_scratch3) (r := r4 t) (Mk := Finset.univ) (Finset.subset_univ _)) $$ HA; iintro HA
  rw [rd4_whole_q q t, rd5_whole_k _ o t, rd5_whole_v _ o t, rd3_whole _ t, rd3_mix, rd4_whole_a _ t, rd4_mix, st3_a t _ _ _ (fun _ => rfl),
    st4_a t _ _ _ (fun m n => (accA_at q a t (KV false (srcDev false c o)) (KV true (srcDev true c o)) m n).symm)]
  iapply (le_wp_ret frame _ _ PUnit.unit _)
  isplitl [HL HA]
  · isplitl [HL]
    · iexact HL
    · iexact HA
  isplitl [HQ]
  · iexact HQ
  iexact HO

def finInv (r : S2x8x64x512.Idx → Elt F .f32) (n : ℕ) : sProp 𝕄 :=
  iprop(flashSt c l a ∗ oOut c (mix4 n (finO q (KV false (srcDev false c o)) (KV true (srcDev true c o)) l a) r)
    ∗ qIn c q ∗ chunkP KV c o)

theorem fin_trip (r : S2x8x64x512.Idx → Elt F .f32) (o4 : Fin 4 → Nat) (i4 : In4 o4) (o5 : Fin 5 → Nat) (i5 : In5 o5) (o3 : Fin 3 → Nat) (i3 : In3 o3)
    (e4 : o4 = off4 t) (e5 : o5 = off5 o t) (e3 : o3 = off3 t) :
    finInv KV c q l a o r t.val ⊢ wp frame (wpE (defs₀ (F := F)) 𝒱₀ (c : Thread nD τ) none) Set.univ
      (finBody o4 i4 o5 i5 o3 i3) (fun _ => finInv KV c q l a o r (t.val + 1)) := by
  subst e4 e5 e3
  unfold finInv flashSt qIn oOut chunkP finBody
  iintro ⟨⟨HL, HA⟩, HR, HQ, HO⟩
  iapply (wp_load 𝒱₀ (c : Thread nD τ) none Set.univ (m := Memref.whole cc0_stg0_0) (Finset.subset_univ _)) $$ HQ; iintro HQ
  ihave HO' := (quad_take (fun b h => pts c (slotM b o h) (cq c b) (blk KV b (srcDev b c o) h)) false (bt t)) $$ HO
  icases HO' with ⟨Hk, HO⟩
  ihave Hk' := (Entails.of_eq (pts_slot_k KV c (srcDev false c o) o (bt t) (cq c false))) $$ Hk
  iapply (wp_load 𝒱₀ (c : Thread nD τ) none Set.univ (m := Memref.whole cc0_scratch0) (slot_cov false o t)) $$ Hk'; iintro Hk'
  ihave Hk := (Entails.of_eq (pts_slot_k KV c (srcDev false c o) o (bt t) (cq c false)).symm) $$ Hk'
  ihave HO := HO $$ Hk
  ihave HO' := (quad_take (fun b h => pts c (slotM b o h) (cq c b) (blk KV b (srcDev b c o) h)) true (bt t)) $$ HO
  icases HO' with ⟨Hk, HO⟩
  ihave Hk' := (Entails.of_eq (pts_slot_v KV c (srcDev true c o) o (bt t) (cq c true))) $$ Hk
  iapply (wp_load 𝒱₀ (c : Thread nD τ) none Set.univ (m := Memref.whole cc0_scratch1) (slot_cov true o t)) $$ Hk'; iintro Hk'
  ihave Hk := (Entails.of_eq (pts_slot_v KV c (srcDev true c o) o (bt t) (cq c true)).symm) $$ Hk'
  ihave HO := HO $$ Hk
  iapply (wp_load 𝒱₀ (c : Thread nD τ) none Set.univ (m := Memref.whole cc0_scratch2) (Finset.subset_univ _)) $$ HL; iintro HL
  iapply (wp_load 𝒱₀ (c : Thread nD τ) none Set.univ (m := Memref.whole cc0_scratch3) (Finset.subset_univ _)) $$ HA; iintro HA
  iapply (wp_load 𝒱₀ (c : Thread nD τ) none Set.univ (m := Memref.whole cc0_stg3_0) (Finset.subset_univ _)) $$ HR; iintro HR
  iapply (wp_store 𝒱₀ (c : Thread nD τ) none Set.univ (m := Memref.whole cc0_stg3_0) (r := r4 t) (Mk := Finset.univ) (Finset.subset_univ _)) $$ HR; iintro HR
  rw [rd4_whole_q q t, rd5_whole_k _ o t, rd5_whole_v _ o t, rd3_whole _ t, rd4_whole_a _ t,
    st4_o t _ _ _ (fun m n => (finO_at q l a t (KV false (srcDev false c o)) (KV true (srcDev true c o)) m n).symm)]
  iapply (le_wp_ret frame _ _ PUnit.unit _)
  isplitl [HL HA]
  · isplitl [HL]
    · iexact HL
    · iexact HA
  isplitl [HR]
  · iexact HR
  isplitl [HQ]
  · iexact HQ
  iexact HO

/-! ### The loops -/

/-- A loop of sixteen trips, by an invariant. -/
theorem loop16 {β : Type} (I : ℕ → sProp 𝕄) (lp : Scf.Loop 32) (hok : lp.OK) (hn : lp.trips = 16) (body : Fin lp.trips → Unit → Prog (TpuEff nD τ sig (Elt F) Λ₀ .tc) Unit)
    (hb : ∀ t : Fin lp.trips, I t.val ⊢ wp frame (wpE (defs₀ (F := F)) 𝒱₀ (c : Thread nD τ) none) Set.univ (body t ()) (fun _ => I (t.val + 1)))
    {kk : Unit → Prog (TpuEff nD τ sig (Elt F) Λ₀ .tc) β} {R : sProp 𝕄} {Q : β → sProp 𝕄}
    (hk : iprop(I 16 ∗ R) ⊢ wp frame (wpE (defs₀ (F := F)) 𝒱₀ (c : Thread nD τ) none) Set.univ (kk ()) Q) :
    iprop(I 0 ∗ R) ⊢ wp frame (wpE (defs₀ (F := F)) 𝒱₀ (c : Thread nD τ) none) Set.univ (Scf.Loop.for lp hok () body >>= kk) Q := by
  iintro ⟨HI, HR⟩
  iapply (Scf.wp_for_bind frame (wpE (defs₀ (F := F)) 𝒱₀ (c : Thread nD τ) none) Set.univ lp.lb lp.ub lp.st hok () body (fun n _ => I n) (fun t _ => hb t)) $$ HI
  iintro %u HI
  iapply hk
  isplitl [HI]
  · have e : I (Scf.trips lp.lb lp.ub lp.st) = I 16 := congrArg I hn
    rw [← e]; iexact HI
  · iexact HR

variable (lp : Scf.Loop 32) (hok : lp.OK) (hn : lp.trips = 16) (body : Fin lp.trips → Unit → Prog (TpuEff nD τ sig (Elt F) Λ₀ .tc) Unit)

theorem own_loop {β : Type} {kk : Unit → Prog (TpuEff nD τ sig (Elt F) Λ₀ .tc) β} {R : sProp 𝕄} {Q : β → sProp 𝕄} (hb : ∀ t, ∃ o4 i4 o3 i3, body t () = ownBody o4 i4 o3 i3 ∧ o4 = off4 (t.cast hn) ∧ o3 = off3 (t.cast hn))
    (hk : iprop(flashSt c (ownL q (KV false c)) (ownA q (KV false c) (KV true c)) ∗ qIn c q ∗ ownP KV c ∗ R)
      ⊢ wp frame (wpE (defs₀ (F := F)) 𝒱₀ (c : Thread nD τ) none) Set.univ (kk ()) Q) :
    iprop(flashSt c l a ∗ qIn c q ∗ ownP KV c ∗ R)
      ⊢ wp frame (wpE (defs₀ (F := F)) 𝒱₀ (c : Thread nD τ) none) Set.univ (Scf.Loop.for lp hok () body >>= kk) Q := by
  have h := loop16 c (ownInv KV c q l a) lp hok hn body (fun t => by
    obtain ⟨o4, i4, o3, i3, e, e4, e3⟩ := hb t
    rw [e]; exact own_trip KV c q l a (t.cast hn) o4 i4 o3 i3 e4 e3) (R := R) (kk := kk) (Q := Q)
    (by unfold ownInv; rw [mix3_last, mix4_last]; refine .trans ?_ hk
        iintro ⟨⟨H1, H2, H3⟩, H4⟩
        isplitl [H1]; · iexact H1
        isplitl [H2]; · iexact H2
        isplitl [H3]; · iexact H3
        iexact H4)
  refine .trans ?_ h
  unfold ownInv; rw [mix3_zero, mix4_zero]
  iintro ⟨H1, H2, H3, H4⟩
  isplitr [H4]
  · isplitl [H1]; · iexact H1
    isplitl [H2]; · iexact H2
    iexact H3
  · iexact H4

theorem acc_loop {β : Type} {kk : Unit → Prog (TpuEff nD τ sig (Elt F) Λ₀ .tc) β} {R : sProp 𝕄} {Q : β → sProp 𝕄} (hb : ∀ t, ∃ o4 i4 o5 i5 o3 i3, body t () = accBody o4 i4 o5 i5 o3 i3 ∧ o4 = off4 (t.cast hn) ∧ o5 = off5 o (t.cast hn) ∧ o3 = off3 (t.cast hn))
    (hk : iprop(flashSt c (accL q (KV false (srcDev false c o)) l) (accA q (KV false (srcDev false c o)) (KV true (srcDev true c o)) a) ∗ qIn c q ∗ chunkP KV c o ∗ R)
      ⊢ wp frame (wpE (defs₀ (F := F)) 𝒱₀ (c : Thread nD τ) none) Set.univ (kk ()) Q) :
    iprop(flashSt c l a ∗ qIn c q ∗ chunkP KV c o ∗ R)
      ⊢ wp frame (wpE (defs₀ (F := F)) 𝒱₀ (c : Thread nD τ) none) Set.univ (Scf.Loop.for lp hok () body >>= kk) Q := by
  have h := loop16 c (accInv KV c q l a o) lp hok hn body (fun t => by
    obtain ⟨o4, i4, o5, i5, o3, i3, e, e4, e5, e3⟩ := hb t
    rw [e]; exact acc_trip KV c q l a (t.cast hn) o o4 i4 o5 i5 o3 i3 e4 e5 e3) (R := R) (kk := kk) (Q := Q)
    (by unfold accInv; rw [mix3_last, mix4_last]; refine .trans ?_ hk
        iintro ⟨⟨H1, H2, H3⟩, H4⟩
        isplitl [H1]; · iexact H1
        isplitl [H2]; · iexact H2
        isplitl [H3]; · iexact H3
        iexact H4)
  refine .trans ?_ h
  unfold accInv; rw [mix3_zero, mix4_zero]
  iintro ⟨H1, H2, H3, H4⟩
  isplitr [H4]
  · isplitl [H1]; · iexact H1
    isplitl [H2]; · iexact H2
    iexact H3
  · iexact H4

theorem fin_loop {β : Type} {kk : Unit → Prog (TpuEff nD τ sig (Elt F) Λ₀ .tc) β} {R : sProp 𝕄} {Q : β → sProp 𝕄} (r : S2x8x64x512.Idx → Elt F .f32) (hb : ∀ t, ∃ o4 i4 o5 i5 o3 i3, body t () = finBody o4 i4 o5 i5 o3 i3 ∧ o4 = off4 (t.cast hn) ∧ o5 = off5 o (t.cast hn) ∧ o3 = off3 (t.cast hn))
    (hk : iprop(flashSt c l a ∗ oOut c (finO q (KV false (srcDev false c o)) (KV true (srcDev true c o)) l a) ∗ qIn c q ∗ chunkP KV c o ∗ R)
      ⊢ wp frame (wpE (defs₀ (F := F)) 𝒱₀ (c : Thread nD τ) none) Set.univ (kk ()) Q) :
    iprop(flashSt c l a ∗ oOut c r ∗ qIn c q ∗ chunkP KV c o ∗ R)
      ⊢ wp frame (wpE (defs₀ (F := F)) 𝒱₀ (c : Thread nD τ) none) Set.univ (Scf.Loop.for lp hok () body >>= kk) Q := by
  have h := loop16 c (finInv KV c q l a o r) lp hok hn body (fun t => by
    obtain ⟨o4, i4, o5, i5, o3, i3, e, e4, e5, e3⟩ := hb t
    rw [e]; exact fin_trip KV c q l a (t.cast hn) o r o4 i4 o5 i5 o3 i3 e4 e5 e3) (R := R) (kk := kk) (Q := Q)
    (by unfold finInv; rw [mix4_last]; refine .trans ?_ hk
        iintro ⟨⟨H1, H2, H3, H5⟩, H4⟩
        isplitl [H1]; · iexact H1
        isplitl [H2]; · iexact H2
        isplitl [H3]; · iexact H3
        isplitl [H5]; · iexact H5
        iexact H4)
  refine .trans ?_ h
  unfold finInv; rw [mix4_zero]
  iintro ⟨H1, H2, H3, H5, H4⟩
  isplitr [H4]
  · isplitl [H1]; · iexact H1
    isplitl [H2]; · iexact H2
    isplitl [H3]; · iexact H3
    iexact H5
  · iexact H4

end Trips
-- ==== Proof.Rules.lean ====
module

public import proofs.«01_k».proof.Proof.Loops

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

/-! ## The statements of the parts of the body, as the program names them -/

/-- A program runs on device `c`. -/
abbrev wpc (c : Dev nD) {β : Type} (e : Prog (TpuEff nD τ sig (Elt F) Λ₀ .tc) β) (Q : β → sProp 𝕄) : sProp 𝕄 :=
  wp frame (wpE (defs₀ (F := F)) 𝒱₀ (c : Thread nD τ) none) Set.univ e Q

/-- A part of the body calls another. -/
theorem call {c : Dev nD} {β γ : Type} {e : Prog (TpuEff nD τ sig (Elt F) Λ₀ .tc) β} {kk : β → Prog (TpuEff nD τ sig (Elt F) Λ₀ .tc) γ}
    {P : sProp 𝕄} {Q : γ → sProp 𝕄} (h : P ⊢ wpc c e (fun b => wpc c (kk b) Q)) : P ⊢ wpc c (e >>= kk) Q :=
  by
  unfold wpc at h ⊢; rw [wp_bind]; exact h

theorem done {c : Dev nD} {β : Type} {v : β} {P : sProp 𝕄} {Q : β → sProp 𝕄} (h : P ⊢ Q v) : P ⊢ wpc c (pure v) Q :=
  h.trans (le_wp_ret frame _ _ v Q)

/-- What the program reads of a device's z position. -/
def W8 (c : Dev nD) : BitVec 32 := Scalar.remsi (Scalar.divsi (Dev.word c) 1#32) 4#32
def W9 (c : Dev nD) : BitVec 1 := Scalar.cmpi .sgt (W8 c) 0#32
def W10 (c : Dev nD) : BitVec 1 := Scalar.cmpi .slt (W8 c) 3#32
/-- Whether a device sends toward greater z, or toward less z, in step `s`. -/
def goR (c : Dev nD) (s : BitVec 32) : BitVec 32 := Scalar.extui (Scalar.andi (W10 c) (Scalar.cmpi .sge (Scalar.subi (W8 c) s) 0#32))
def goL (c : Dev nD) (s : BitVec 32) : BitVec 32 := Scalar.extui (Scalar.andi (W9 c) (Scalar.cmpi .sle (Scalar.addi (W8 c) s) 3#32))
theorem goR_iff : ∀ (c : Dev nD) (s : Fin 3) (h : Fin 2), Scalar.cmpi .ne (goR c (BitVec.ofNat 32 s.val)) 0#32 = 1#1 ↔ actS (zc c) ⟨2 * s.val + h.val, by omega⟩ = true := by decide +kernel
theorem goL_iff : ∀ (c : Dev nD) (s : Fin 3) (h : Fin 2), Scalar.cmpi .ne (goL c (BitVec.ofNat 32 s.val)) 0#32 = 1#1 ↔ actS (zc c) ⟨6 + 2 * s.val + h.val, by omega⟩ = true := by decide +kernel

section
variable {β : Type} (c : Dev nD) (p : Ph) (b : Bool) (hb : bx c = b)
include hb

/-- Send a half of the own shard. -/
theorem sendOwn (x : X) (hx : x.val < 12 ∧ st x = 0) (cf : Dev nD → BitVec 1) (off : Dev nD → Fin 5 → Nat) (dev : Dev nD → Nat)
    (hf' : ∀ c, (cf c = 1#1 ↔ actS (zc c) x = true) ∧ (cf c = 1#1 → off c = slotOff (oS (zc c) x) (hf x) ∧ dev c = (tgt c x).val)) (hok : okS x p)
    {so : Fin 4 → Nat} {hso} (eso : so = stgOff (hf x)) {hi : cf c = 1#1 → _} {hd : cf c = 1#1 → dev c < nD} {sS sR : cf c = 1#1 → DmaSem sig}
    (hsS : ∀ h, sS h = semK (false, x)) (hsR : ∀ h, sR h = semK (true, x)) {hsc : ∀ h : cf c = 1#1, _} {h1 : ∀ h : cf c = 1#1, _} {h2 : ∀ h : cf c = 1#1, _} {h3 : ∀ h : cf c = 1#1, _}
    {k : Prog (TpuEff nD τ sig (Elt F) Λ₀ .tc) β} {R : sProp 𝕄} {Q : β → sProp 𝕄}
    (hk : iprop(St KV Kn c (evS x p (zc c)) ∗ R) ⊢ wpc c k Q) :
    iprop(St KV Kn c (p (zc c)) ∗ R) ⊢ wpc c
      (dite (cf c = 1#1) (fun h => Prog.lift (.enqueueDma
          (((stg b).slice (Rect.unit (s := S2x8x64x512) so S1x8x64x512.size hso) (fun _ => rfl)).squeeze S8x64x512 squeezes_S1x8x64x512_S8x64x512)
          (.remote (Dev.tc (⟨dev c, hd h⟩ : Dev nD)) (((sbuf b).slice (Rect.unit (s := S4x2x8x64x512) (off c) S1x1x8x64x512.size (hi h)) (fun _ => rfl)).squeeze S8x64x512 squeezes_S1x1x8x64x512_S8x64x512)
            (.dma (sS h)) (hsc h)) (.dma (sR h)) (h1 h) (h2 h) (h3 h)) >>= fun _ => k) (fun _ => k)) Q :=
  send_if KV Kn c p x (hf' c).1 hok (fun _ => (stg_eq b _ eso).trans (srcM_own hb x hx.1 hx.2))
    (fun h => (slot_eq b _ _ ((hf' c).2 h).1).trans (dstM_eq hb x)) (fun h => Fin.ext ((hf' c).2 h).2) hsS hsR hk

/-- Send on a half received along z. -/
theorem sendFar (x : X) (hx : x.val < 12 ∧ 0 < st x) (cf : Dev nD → BitVec 1) (off : Dev nD → Fin 5 → Nat) (dev : Dev nD → Nat)
    (hf' : ∀ c, (cf c = 1#1 ↔ actS (zc c) x = true) ∧ (cf c = 1#1 → off c = slotOff (oS (zc c) x) (hf x) ∧ dev c = (tgt c x).val)) (hok : okS x p)
    {hi hi' : cf c = 1#1 → _} {hd : cf c = 1#1 → dev c < nD} {sS sR : cf c = 1#1 → DmaSem sig}
    (hsS : ∀ h, sS h = semK (false, x)) (hsR : ∀ h, sR h = semK (true, x)) {hsc : ∀ h : cf c = 1#1, _} {h1 : ∀ h : cf c = 1#1, _} {h2 : ∀ h : cf c = 1#1, _} {h3 : ∀ h : cf c = 1#1, _}
    {k : Prog (TpuEff nD τ sig (Elt F) Λ₀ .tc) β} {R : sProp 𝕄} {Q : β → sProp 𝕄}
    (hk : iprop(St KV Kn c (evS x p (zc c)) ∗ R) ⊢ wpc c k Q) :
    iprop(St KV Kn c (p (zc c)) ∗ R) ⊢ wpc c
      (dite (cf c = 1#1) (fun h => Prog.lift (.enqueueDma
          (((sbuf b).slice (Rect.unit (s := S4x2x8x64x512) (off c) S1x1x8x64x512.size (hi' h)) (fun _ => rfl)).squeeze S8x64x512 squeezes_S1x1x8x64x512_S8x64x512)
          (.remote (Dev.tc (⟨dev c, hd h⟩ : Dev nD)) (((sbuf b).slice (Rect.unit (s := S4x2x8x64x512) (off c) S1x1x8x64x512.size (hi h)) (fun _ => rfl)).squeeze S8x64x512 squeezes_S1x1x8x64x512_S8x64x512)
            (.dma (sS h)) (hsc h)) (.dma (sR h)) (h1 h) (h2 h) (h3 h)) >>= fun _ => k) (fun _ => k)) Q :=
  send_if KV Kn c p x (hf' c).1 hok (fun h => (slot_eq b _ _ ((hf' c).2 h).1).trans (srcM_far hb x hx.1 (((hf' c).1).mp h) hx.2))
    (fun h => (slot_eq b _ _ ((hf' c).2 h).1).trans (dstM_eq hb x)) (fun h => Fin.ext ((hf' c).2 h).2) hsS hsR hk

/-- Receive a half along z and send it across x. -/
theorem recvFwd (x : X) (hx : x.val < 12) (cf : Dev nD → BitVec 1) (off : Dev nD → Fin 5 → Nat) (so : Dev nD → Fin 2 → Nat) (dev : Dev nD → Nat)
    (hf' : ∀ c, (cf c = 1#1 ↔ actR (zc c) x = true) ∧ (cf c = 1#1 → off c = slotOff (oR (zc c) x) (hf x) ∧ so c = ![(oR (zc c) x).val, (hf x).val] ∧ dev c = (pt c).val)) (hok : okF x p)
    {hi hi' hj hj' : cf c = 1#1 → _} {hs hs' : cf c = 1#1 → _} {hd : cf c = 1#1 → dev c < nD} {sW : cf c = 1#1 → DmaSem sig}
    (hsW : ∀ h, sW h = semK (true, x)) {hsc : ∀ h : cf c = 1#1, _} {h1 : ∀ h : cf c = 1#1, _} {h2 : ∀ h : cf c = 1#1, _} {h3 : ∀ h : cf c = 1#1, _} {w1 : ∀ h : cf c = 1#1, _} {w2 : ∀ h : cf c = 1#1, _}
    {k : Prog (TpuEff nD τ sig (Elt F) Λ₀ .tc) β} {R : sProp 𝕄} {Q : β → sProp 𝕄}
    (hk : iprop(St KV Kn c (evF x p (zc c)) ∗ R) ⊢ wpc c k Q) :
    iprop(St KV Kn c (p (zc c)) ∗ R) ⊢ wpc c
      (dite (cf c = 1#1) (fun h => Prog.lift (.waitDma2 (sW h)
            (((sbuf b).slice (Rect.unit (s := S4x2x8x64x512) (off c) S1x1x8x64x512.size (hj' h)) (fun _ => rfl)).squeeze S8x64x512 squeezes_S1x1x8x64x512_S8x64x512)
            (((sbuf b).slice (Rect.unit (s := S4x2x8x64x512) (off c) S1x1x8x64x512.size (hj h)) (fun _ => rfl)).squeeze S8x64x512 squeezes_S1x1x8x64x512_S8x64x512) (w1 h) (w2 h)) >>= fun _ =>
        Prog.lift (.enqueueDma
          (((sbuf b).slice (Rect.unit (s := S4x2x8x64x512) (off c) S1x1x8x64x512.size (hi' h)) (fun _ => rfl)).squeeze S8x64x512 squeezes_S1x1x8x64x512_S8x64x512)
          (.remote (Dev.tc (⟨dev c, hd h⟩ : Dev nD)) (((sbuf b).slice (Rect.unit (s := S4x2x8x64x512) (off c) S1x1x8x64x512.size (hi h)) (fun _ => rfl)).squeeze S8x64x512 squeezes_S1x1x8x64x512_S8x64x512)
            (.dma (((cc0_scratch8).slice (Rect.unit (s := S4x2) (so c) S1x1.size (hs h))).squeeze S_ squeezes_S1x1_S_).sem) (hsc h))
            (.dma (((cc0_scratch9).slice (Rect.unit (s := S4x2) (so c) S1x1.size (hs' h))).squeeze S_ squeezes_S1x1_S_).sem) (h1 h) (h2 h) (h3 h)) >>= fun _ => k) (fun _ => k)) Q :=
  recv_fwd_if KV Kn c p x hx (hf' c).1 hok hsW (fun _ => credit_eq b) (fun h => (slot_eq b _ _ ((hf' c).2 h).1).trans (rM_eq hb x hx))
    (fun h => (slot_eq b _ _ ((hf' c).2 h).1).trans (rM_eq hb x hx)) (fun h => Fin.ext ((hf' c).2 h).2.2) (fun h => xsem_eq false _ _ ((hf' c).2 h).2.1) (fun h => xsem_eq true _ _ ((hf' c).2 h).2.1) hk

omit hb in
/-- Wait for a send to have left. -/
theorem drain (x : X) {cond : Prop} [Decidable cond] (hc : cond ↔ actS (zc c) x = true) (hok : okD x p)
    {off off' : cond → Fin 5 → Nat} {hi : ∀ h : cond, _} {hi' : ∀ h : cond, _} {sS : cond → DmaSem sig} (hsS : ∀ h, sS h = semK (false, x)) {w1 : ∀ h : cond, _} {w2 : ∀ h : cond, _}
    {k : Prog (TpuEff nD τ sig (Elt F) Λ₀ .tc) β} {R : sProp 𝕄} {Q : β → sProp 𝕄}
    (hk : iprop(St KV Kn c (evD x p (zc c)) ∗ R) ⊢ wpc c k Q) :
    iprop(St KV Kn c (p (zc c)) ∗ R) ⊢ wpc c
      (dite cond (fun h => Prog.lift (.waitDma2 (sS h)
            (((sbuf b).slice (Rect.unit (s := S4x2x8x64x512) (off' h) S1x1x8x64x512.size (hi' h)) (fun _ => rfl)).squeeze S8x64x512 squeezes_S1x1x8x64x512_S8x64x512)
            (((sbuf b).slice (Rect.unit (s := S4x2x8x64x512) (off h) S1x1x8x64x512.size (hi h)) (fun _ => rfl)).squeeze S8x64x512 squeezes_S1x1x8x64x512_S8x64x512) (w1 h) (w2 h)) >>= fun _ => k) (fun _ => k)) Q :=
  drain_if KV Kn c p x hc hok hsS (fun _ => credit_eq b) hk
end

/-- The state around a loop, and back. -/
theorem toLoop {f : K → Fin 4} (c : Dev nD) {A B C R : sProp 𝕄} : iprop(St KV Kn c f ∗ A ∗ B ∗ C ∗ R) ⊢ iprop(A ∗ B ∗ C ∗ (St KV Kn c f ∗ R)) := by
  iintro ⟨H, HA, HB, HC, HR⟩
  isplitl [HA]; · iexact HA
  isplitl [HB]; · iexact HB
  isplitl [HC]; · iexact HC
  isplitl [H]; · iexact H
  iexact HR
theorem ofLoop {f : K → Fin 4} (c : Dev nD) {A B C R : sProp 𝕄} : iprop(A ∗ B ∗ C ∗ (St KV Kn c f ∗ R)) ⊢ iprop(St KV Kn c f ∗ A ∗ B ∗ C ∗ R) := by
  iintro ⟨HA, HB, HC, H, HR⟩
  isplitl [H]; · iexact H
  isplitl [HA]; · iexact HA
  isplitl [HB]; · iexact HB
  isplitl [HC]; · iexact HC
  iexact HR

end Cert.KProof

end
-- ==== Proof.PartsK.lean ====
/-
  The parts of the body that exchange keys along z and forward them across x: what each moves.
-/
module

public import proofs.«01_k».proof.Proof.Rules

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

theorem part2 (c : Dev nD) (p : Ph) (hb : bx c = false) (v2 v5 v8 v9 v10 v12 v14 k0_h3 ) (hok : okS 0 p ∧ okS 6 (evS 0 p))
    {R : sProp 𝕄} {Q : (Σ' (_ : BitVec 1), BitVec 32) → sProp 𝕄} (hk : ∀ r, iprop(St KV Kn c ((evS 6 (evS 0 p)) (zc c)) ∗ R) ⊢ Q r) :
    iprop(St KV Kn c (p (zc c)) ∗ R) ⊢ wpc c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 k0_h3 ) Q := by
  rw [k0_part2_eq_skeleton]; unfold k0_part2_skel
  refine sendOwn KV Kn c _ false hb 0 (by decide) k0_cond4 k0_off1 k0_dev4 (by decide +kernel) hok.1 rfl (fun _ => rfl) (fun _ => rfl) ?_
  refine sendOwn KV Kn c _ false hb 6 (by decide) k0_cond5 k0_off2 k0_dev5 (by decide +kernel) hok.2 rfl (fun _ => rfl) (fun _ => rfl) ?_
  exact done (hk _)

theorem part3 (c : Dev nD) (p : Ph) (hb : bx c = false) (v2 v5 v8 v9 v10 v12 v14 v15 k0_h3 a1 a2) (hok : okS 1 p ∧ okS 7 (evS 1 p) ∧ okF 0 (evS 7 (evS 1 p)))
    {R : sProp 𝕄} {Q : (Σ' (_ : BitVec 32), BitVec 32) → sProp 𝕄} (hk : ∀ r, iprop(St KV Kn c ((evF 0 (evS 7 (evS 1 p))) (zc c)) ∗ R) ⊢ Q r) :
    iprop(St KV Kn c (p (zc c)) ∗ R) ⊢ wpc c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h3 a1 a2) Q := by
  rw [k0_part3_eq_skeleton]; unfold k0_part3_skel
  refine sendOwn KV Kn c _ false hb 1 (by decide) k0_cond6 k0_off3 k0_dev6 (by decide +kernel) hok.1 rfl (fun _ => rfl) (fun _ => rfl) ?_
  refine sendOwn KV Kn c _ false hb 7 (by decide) k0_cond7 k0_off4 k0_dev7 (by decide +kernel) hok.2.1 rfl (fun _ => rfl) (fun _ => rfl) ?_
  refine recvFwd KV Kn c _ false hb 0 (by decide) k0_cond8 k0_off5 k0_off6 k0_dev8 (by decide +kernel) hok.2.2 (fun _ => rfl) ?_
  exact done (hk _)

theorem part4 (c : Dev nD) (p : Ph) (hb : bx c = false) (v2 v5 v8 v9 v10 v12 v14 v15 k0_h3 a1 a2) (hok : okF 6 p ∧ okS 2 (evF 6 p) ∧ okS 8 (evS 2 (evF 6 p)))
    {R : sProp 𝕄} {Q : (Σ' (_ : BitVec 1), BitVec 32) → sProp 𝕄} (hk : ∀ r, iprop(St KV Kn c ((evS 8 (evS 2 (evF 6 p))) (zc c)) ∗ R) ⊢ Q r) :
    iprop(St KV Kn c (p (zc c)) ∗ R) ⊢ wpc c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h3 a1 a2) Q := by
  rw [k0_part4_eq_skeleton]; unfold k0_part4_skel
  refine recvFwd KV Kn c _ false hb 6 (by decide) k0_cond9 k0_off7 k0_off8 k0_dev9 (by decide +kernel) hok.1 (fun _ => rfl) ?_
  refine sendFar KV Kn c _ false hb 2 (by decide) k0_cond10 k0_off9 k0_dev10 (by decide +kernel) hok.2.1 (fun _ => rfl) (fun _ => rfl) ?_
  refine sendFar KV Kn c _ false hb 8 (by decide) k0_cond11 k0_off10 k0_dev11 (by decide +kernel) hok.2.2 (fun _ => rfl) (fun _ => rfl) ?_
  exact done (hk _)

theorem part5 (c : Dev nD) (p : Ph) (hb : bx c = false) (v2 v5 v8 v9 v10 v12 v14 v15 k0_h3 a1 a2) (hok : okF 1 p ∧ okF 7 (evF 1 p) ∧ okS 3 (evF 7 (evF 1 p)))
    {R : sProp 𝕄} {Q : (BitVec 32) → sProp 𝕄} (hk : ∀ r, iprop(St KV Kn c ((evS 3 (evF 7 (evF 1 p))) (zc c)) ∗ R) ⊢ Q r) :
    iprop(St KV Kn c (p (zc c)) ∗ R) ⊢ wpc c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h3 a1 a2) Q := by
  rw [k0_part5_eq_skeleton]; unfold k0_part5_skel
  refine recvFwd KV Kn c _ false hb 1 (by decide) k0_cond12 k0_off11 k0_off12 k0_dev12 (by decide +kernel) hok.1 (fun _ => rfl) ?_
  refine recvFwd KV Kn c _ false hb 7 (by decide) k0_cond13 k0_off13 k0_off14 k0_dev13 (by decide +kernel) hok.2.1 (fun _ => rfl) ?_
  refine sendFar KV Kn c _ false hb 3 (by decide) k0_cond14 k0_off15 k0_dev14 (by decide +kernel) hok.2.2 (fun _ => rfl) (fun _ => rfl) ?_
  exact done (hk _)

theorem part6 (c : Dev nD) (p : Ph) (hb : bx c = false) (q : S2x8x64x512.Idx → Elt F .f32) (l : S16x1x512.Idx → Elt F .f32) (a : S2x8x64x512.Idx → Elt F .f32) (v2 v5 v8 v9 v10 v12 v14 v15 k0_h3 a1) (hok : okS 9 p ∧ okF 2 (evS 9 p) ∧ okF 8 (evF 2 (evS 9 p)))
    {R : sProp 𝕄} {Q : PUnit → sProp 𝕄} (hk : ∀ r, iprop(St KV Kn c ((evF 8 (evF 2 (evS 9 p))) (zc c)) ∗ flashSt c (ownL q (KV false c)) (ownA q (KV false c) (KV true c)) ∗ qIn c q ∗ ownP KV c ∗ R) ⊢ Q r) :
    iprop(St KV Kn c (p (zc c)) ∗ flashSt c l a ∗ qIn c q ∗ ownP KV c ∗ R) ⊢ wpc c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h3 a1) Q := by
  rw [k0_part6_eq_skeleton]; unfold k0_part6_skel
  refine sendFar KV Kn c _ false hb 9 (by decide) k0_cond15 k0_off16 k0_dev15 (by decide +kernel) hok.1 (fun _ => rfl) (fun _ => rfl) ?_
  refine .trans (toLoop KV Kn c) (own_loop KV c q l a _ _ (by decide +kernel) _ (fun t => ⟨k0_off17 t, k0_off17_inb c t k0_h3, k0_off18 t, k0_off18_inb c t k0_h3, rfl, (by decide +kernel : ∀ t : Fin k0_t1_loop.trips, k0_off17 t = off4 (t.cast (by decide +kernel))) t, (by decide +kernel : ∀ t : Fin k0_t1_loop.trips, k0_off18 t = off3 (t.cast (by decide +kernel))) t⟩) (.trans (ofLoop KV Kn c) ?_))
  refine recvFwd KV Kn c _ false hb 2 (by decide) k0_cond16 k0_off19 k0_off20 k0_dev16 (by decide +kernel) hok.2.1 (fun _ => rfl) ?_
  refine recvFwd KV Kn c _ false hb 8 (by decide) k0_cond17 k0_off21 k0_off22 k0_dev17 (by decide +kernel) hok.2.2 (fun _ => rfl) ?_
  exact done (hk _)

theorem part7 (c : Dev nD) (p : Ph) (hb : bx c = false) (v2 v5 v8 v9 v10 v12 v14 k0_h3 ) (hok : okS 4 p ∧ okS 10 (evS 4 p))
    {R : sProp 𝕄} {Q : (Σ' (_ : BitVec 1), BitVec 1) → sProp 𝕄} (hk : ∀ r, iprop(St KV Kn c ((evS 10 (evS 4 p)) (zc c)) ∗ R) ⊢ Q r) :
    iprop(St KV Kn c (p (zc c)) ∗ R) ⊢ wpc c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 k0_h3 ) Q := by
  rw [k0_part7_eq_skeleton]; unfold k0_part7_skel
  refine sendFar KV Kn c _ false hb 4 (by decide) k0_cond18 k0_off23 k0_dev18 (by decide +kernel) hok.1 (fun _ => rfl) (fun _ => rfl) ?_
  refine sendFar KV Kn c _ false hb 10 (by decide) k0_cond19 k0_off24 k0_dev19 (by decide +kernel) hok.2 (fun _ => rfl) (fun _ => rfl) ?_
  exact done (hk _)

theorem part8 (c : Dev nD) (p : Ph) (hb : bx c = false) (v2 v5 v8 v9 v10 v12 v14 v15 k0_h3 a1 a2) (hok : okF 3 p ∧ okF 9 (evF 3 p) ∧ okS 5 (evF 9 (evF 3 p)) ∧ okS 11 (evS 5 (evF 9 (evF 3 p))))
    {R : sProp 𝕄} {Q : (BitVec 32) → sProp 𝕄} (hk : ∀ r, iprop(St KV Kn c ((evS 11 (evS 5 (evF 9 (evF 3 p)))) (zc c)) ∗ R) ⊢ Q r) :
    iprop(St KV Kn c (p (zc c)) ∗ R) ⊢ wpc c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h3 a1 a2) Q := by
  rw [k0_part8_eq_skeleton]; unfold k0_part8_skel
  refine recvFwd KV Kn c _ false hb 3 (by decide) k0_cond20 k0_off25 k0_off26 k0_dev20 (by decide +kernel) hok.1 (fun _ => rfl) ?_
  refine recvFwd KV Kn c _ false hb 9 (by decide) k0_cond21 k0_off27 k0_off28 k0_dev21 (by decide +kernel) hok.2.1 (fun _ => rfl) ?_
  refine sendFar KV Kn c _ false hb 5 (by decide) k0_cond22 k0_off29 k0_dev22 (by decide +kernel) hok.2.2.1 (fun _ => rfl) (fun _ => rfl) ?_
  refine sendFar KV Kn c _ false hb 11 (by decide) k0_cond23 k0_off30 k0_dev23 (by decide +kernel) hok.2.2.2 (fun _ => rfl) (fun _ => rfl) ?_
  exact done (hk _)

theorem part9 (c : Dev nD) (p : Ph) (hb : bx c = false) (v2 v5 v8 v9 v10 v12 v14 v15 k0_h3 a1) (hok : okF 4 p ∧ okF 10 (evF 4 p))
    {R : sProp 𝕄} {Q : (Σ' (_ : BitVec 1) (_ : BitVec 32), BitVec 32) → sProp 𝕄} (hk : ∀ r, iprop(St KV Kn c ((evF 10 (evF 4 p)) (zc c)) ∗ R) ⊢ Q r) :
    iprop(St KV Kn c (p (zc c)) ∗ R) ⊢ wpc c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h3 a1) Q := by
  rw [k0_part9_eq_skeleton]; unfold k0_part9_skel
  refine recvFwd KV Kn c _ false hb 4 (by decide) k0_cond24 k0_off31 k0_off32 k0_dev24 (by decide +kernel) hok.1 (fun _ => rfl) ?_
  refine recvFwd KV Kn c _ false hb 10 (by decide) k0_cond25 k0_off33 k0_off34 k0_dev25 (by decide +kernel) hok.2 (fun _ => rfl) ?_
  exact done (hk _)

theorem part10 (c : Dev nD) (p : Ph) (hb : bx c = false) (v2 v5 v8 v9 v10 v12 v14 v15 k0_h3 a1 a2 a3) (e8 : v8 = W8 c) (e9 : v9 = W9 c) (e10 : v10 = W10 c) (hok : okF 5 p ∧ okF 11 (evF 5 p) ∧ okD 0 (evF 11 (evF 5 p)))
    {R : sProp 𝕄} {Q : (BitVec 32) → sProp 𝕄} (hk : ∀ r, (Scalar.cmpi .ne r 0#32 = 1#1 ↔ actS (zc c) 6 = true) → iprop(St KV Kn c ((evD 0 (evF 11 (evF 5 p))) (zc c)) ∗ R) ⊢ Q r) :
    iprop(St KV Kn c (p (zc c)) ∗ R) ⊢ wpc c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h3 a1 a2 a3) Q := by
  subst e8; subst e9; subst e10
  rw [k0_part10_eq_skeleton]; unfold k0_part10_skel
  refine recvFwd KV Kn c _ false hb 5 (by decide) k0_cond26 k0_off35 k0_off36 k0_dev26 (by decide +kernel) hok.1 (fun _ => rfl) ?_
  refine recvFwd KV Kn c _ false hb 11 (by decide) k0_cond27 k0_off37 k0_off38 k0_dev27 (by decide +kernel) hok.2.1 (fun _ => rfl) ?_
  refine drain KV Kn c _ false 0 (goR_iff c 0 0) hok.2.2 (fun _ => rfl) ?_
  exact done (hk _ (goL_iff c 0 0))

theorem part11 (c : Dev nD) (p : Ph) (v8 v9 v10 a1) (e8 : v8 = W8 c) (e9 : v9 = W9 c) (e10 : v10 = W10 c) (hr : Scalar.cmpi .ne a1 0#32 = 1#1 ↔ actS (zc c) 6 = true) (hok : okD 6 p ∧ okD 1 (evD 6 p) ∧ okD 7 (evD 1 (evD 6 p)) ∧ okD 2 (evD 7 (evD 1 (evD 6 p))))
    {R : sProp 𝕄} {Q : (BitVec 1) → sProp 𝕄} (hk : ∀ r, (Scalar.cmpi .ne (Scalar.extui r : BitVec 32) 0#32 = 1#1 ↔ actS (zc c) 8 = true) → iprop(St KV Kn c ((evD 2 (evD 7 (evD 1 (evD 6 p)))) (zc c)) ∗ R) ⊢ Q r) :
    iprop(St KV Kn c (p (zc c)) ∗ R) ⊢ wpc c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      v8 v9 v10 a1) Q := by
  subst e8; subst e9; subst e10
  rw [k0_part11_eq_skeleton]; unfold k0_part11_skel
  refine drain KV Kn c _ false 6 hr hok.1 (fun _ => rfl) ?_
  refine drain KV Kn c _ false 1 (goR_iff c 0 1) hok.2.1 (fun _ => rfl) ?_
  refine drain KV Kn c _ false 7 (goL_iff c 0 1) hok.2.2.1 (fun _ => rfl) ?_
  refine drain KV Kn c _ false 2 (goR_iff c 1 0) hok.2.2.2 (fun _ => rfl) ?_
  exact done (hk _ (goL_iff c 1 0))

theorem part12 (c : Dev nD) (p : Ph) (v8 v9 v10 a1) (e8 : v8 = W8 c) (e9 : v9 = W9 c) (e10 : v10 = W10 c) (hr : Scalar.cmpi .ne (Scalar.extui a1 : BitVec 32) 0#32 = 1#1 ↔ actS (zc c) 8 = true) (hok : okD 8 p ∧ okD 3 (evD 8 p) ∧ okD 9 (evD 3 (evD 8 p)))
    {R : sProp 𝕄} {Q : (BitVec 32) → sProp 𝕄} (hk : ∀ r, (Scalar.cmpi .ne r 0#32 = 1#1 ↔ actS (zc c) 4 = true) → iprop(St KV Kn c ((evD 9 (evD 3 (evD 8 p))) (zc c)) ∗ R) ⊢ Q r) :
    iprop(St KV Kn c (p (zc c)) ∗ R) ⊢ wpc c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      v8 v9 v10 a1) Q := by
  subst e8; subst e9; subst e10
  rw [k0_part12_eq_skeleton]; unfold k0_part12_skel
  refine drain KV Kn c _ false 8 hr hok.1 (fun _ => rfl) ?_
  refine drain KV Kn c _ false 3 (goR_iff c 1 1) hok.2.1 (fun _ => rfl) ?_
  refine drain KV Kn c _ false 9 (goL_iff c 1 1) hok.2.2 (fun _ => rfl) ?_
  exact done (hk _ (goR_iff c 2 0))

end Cert.KProof

end
-- ==== Proof.PartsV.lean ====
/-
  The parts of the body that exchange values along z and forward them across x: what each moves.
-/
module

public import proofs.«01_k».proof.Proof.Rules

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

theorem part15 (c : Dev nD) (p : Ph) (hb : bx c = true) (v2 v5 v8 v9 v10 v12 v14 k0_h40 ) (hok : okS 0 p ∧ okS 6 (evS 0 p))
    {R : sProp 𝕄} {Q : (Σ' (_ : BitVec 1), BitVec 32) → sProp 𝕄} (hk : ∀ r, iprop(St KV Kn c ((evS 6 (evS 0 p)) (zc c)) ∗ R) ⊢ Q r) :
    iprop(St KV Kn c (p (zc c)) ∗ R) ⊢ wpc c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 k0_h40 ) Q := by
  rw [k0_part15_eq_skeleton]; unfold k0_part15_skel
  refine sendOwn KV Kn c _ true hb 0 (by decide) k0_cond41 k0_off39 k0_dev28 (by decide +kernel) hok.1 rfl (fun _ => rfl) (fun _ => rfl) ?_
  refine sendOwn KV Kn c _ true hb 6 (by decide) k0_cond42 k0_off40 k0_dev29 (by decide +kernel) hok.2 rfl (fun _ => rfl) (fun _ => rfl) ?_
  exact done (hk _)

theorem part16 (c : Dev nD) (p : Ph) (hb : bx c = true) (v2 v5 v8 v9 v10 v12 v14 v15 k0_h40 a1 a2) (hok : okS 1 p ∧ okS 7 (evS 1 p) ∧ okF 0 (evS 7 (evS 1 p)))
    {R : sProp 𝕄} {Q : (Σ' (_ : BitVec 32), BitVec 32) → sProp 𝕄} (hk : ∀ r, iprop(St KV Kn c ((evF 0 (evS 7 (evS 1 p))) (zc c)) ∗ R) ⊢ Q r) :
    iprop(St KV Kn c (p (zc c)) ∗ R) ⊢ wpc c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h40 a1 a2) Q := by
  rw [k0_part16_eq_skeleton]; unfold k0_part16_skel
  refine sendOwn KV Kn c _ true hb 1 (by decide) k0_cond43 k0_off41 k0_dev30 (by decide +kernel) hok.1 rfl (fun _ => rfl) (fun _ => rfl) ?_
  refine sendOwn KV Kn c _ true hb 7 (by decide) k0_cond44 k0_off42 k0_dev31 (by decide +kernel) hok.2.1 rfl (fun _ => rfl) (fun _ => rfl) ?_
  refine recvFwd KV Kn c _ true hb 0 (by decide) k0_cond45 k0_off43 k0_off44 k0_dev32 (by decide +kernel) hok.2.2 (fun _ => rfl) ?_
  exact done (hk _)

theorem part17 (c : Dev nD) (p : Ph) (hb : bx c = true) (v2 v5 v8 v9 v10 v12 v14 v15 k0_h40 a1 a2) (hok : okF 6 p ∧ okS 2 (evF 6 p) ∧ okS 8 (evS 2 (evF 6 p)))
    {R : sProp 𝕄} {Q : (Σ' (_ : BitVec 1), BitVec 32) → sProp 𝕄} (hk : ∀ r, iprop(St KV Kn c ((evS 8 (evS 2 (evF 6 p))) (zc c)) ∗ R) ⊢ Q r) :
    iprop(St KV Kn c (p (zc c)) ∗ R) ⊢ wpc c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h40 a1 a2) Q := by
  rw [k0_part17_eq_skeleton]; unfold k0_part17_skel
  refine recvFwd KV Kn c _ true hb 6 (by decide) k0_cond46 k0_off45 k0_off46 k0_dev33 (by decide +kernel) hok.1 (fun _ => rfl) ?_
  refine sendFar KV Kn c _ true hb 2 (by decide) k0_cond47 k0_off47 k0_dev34 (by decide +kernel) hok.2.1 (fun _ => rfl) (fun _ => rfl) ?_
  refine sendFar KV Kn c _ true hb 8 (by decide) k0_cond48 k0_off48 k0_dev35 (by decide +kernel) hok.2.2 (fun _ => rfl) (fun _ => rfl) ?_
  exact done (hk _)

theorem part18 (c : Dev nD) (p : Ph) (hb : bx c = true) (v2 v5 v8 v9 v10 v12 v14 v15 k0_h40 a1 a2) (hok : okF 1 p ∧ okF 7 (evF 1 p) ∧ okS 3 (evF 7 (evF 1 p)))
    {R : sProp 𝕄} {Q : (BitVec 32) → sProp 𝕄} (hk : ∀ r, iprop(St KV Kn c ((evS 3 (evF 7 (evF 1 p))) (zc c)) ∗ R) ⊢ Q r) :
    iprop(St KV Kn c (p (zc c)) ∗ R) ⊢ wpc c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h40 a1 a2) Q := by
  rw [k0_part18_eq_skeleton]; unfold k0_part18_skel
  refine recvFwd KV Kn c _ true hb 1 (by decide) k0_cond49 k0_off49 k0_off50 k0_dev36 (by decide +kernel) hok.1 (fun _ => rfl) ?_
  refine recvFwd KV Kn c _ true hb 7 (by decide) k0_cond50 k0_off51 k0_off52 k0_dev37 (by decide +kernel) hok.2.1 (fun _ => rfl) ?_
  refine sendFar KV Kn c _ true hb 3 (by decide) k0_cond51 k0_off53 k0_dev38 (by decide +kernel) hok.2.2 (fun _ => rfl) (fun _ => rfl) ?_
  exact done (hk _)

theorem part19 (c : Dev nD) (p : Ph) (hb : bx c = true) (q : S2x8x64x512.Idx → Elt F .f32) (l : S16x1x512.Idx → Elt F .f32) (a : S2x8x64x512.Idx → Elt F .f32) (v2 v5 v8 v9 v10 v12 v14 v15 k0_h40 a1) (hok : okS 9 p ∧ okF 2 (evS 9 p) ∧ okF 8 (evF 2 (evS 9 p)))
    {R : sProp 𝕄} {Q : PUnit → sProp 𝕄} (hk : ∀ r, iprop(St KV Kn c ((evF 8 (evF 2 (evS 9 p))) (zc c)) ∗ flashSt c (ownL q (KV false c)) (ownA q (KV false c) (KV true c)) ∗ qIn c q ∗ ownP KV c ∗ R) ⊢ Q r) :
    iprop(St KV Kn c (p (zc c)) ∗ flashSt c l a ∗ qIn c q ∗ ownP KV c ∗ R) ⊢ wpc c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h40 a1) Q := by
  rw [k0_part19_eq_skeleton]; unfold k0_part19_skel
  refine sendFar KV Kn c _ true hb 9 (by decide) k0_cond52 k0_off54 k0_dev39 (by decide +kernel) hok.1 (fun _ => rfl) (fun _ => rfl) ?_
  refine .trans (toLoop KV Kn c) (own_loop KV c q l a _ _ (by decide +kernel) _ (fun t => ⟨k0_off55 t, k0_off55_inb c t k0_h40, k0_off56 t, k0_off56_inb c t k0_h40, rfl, (by decide +kernel : ∀ t : Fin k0_t2_loop.trips, k0_off55 t = off4 (t.cast (by decide +kernel))) t, (by decide +kernel : ∀ t : Fin k0_t2_loop.trips, k0_off56 t = off3 (t.cast (by decide +kernel))) t⟩) (.trans (ofLoop KV Kn c) ?_))
  refine recvFwd KV Kn c _ true hb 2 (by decide) k0_cond53 k0_off57 k0_off58 k0_dev40 (by decide +kernel) hok.2.1 (fun _ => rfl) ?_
  refine recvFwd KV Kn c _ true hb 8 (by decide) k0_cond54 k0_off59 k0_off60 k0_dev41 (by decide +kernel) hok.2.2 (fun _ => rfl) ?_
  exact done (hk _)

theorem part20 (c : Dev nD) (p : Ph) (hb : bx c = true) (v2 v5 v8 v9 v10 v12 v14 k0_h40 ) (hok : okS 4 p ∧ okS 10 (evS 4 p))
    {R : sProp 𝕄} {Q : (Σ' (_ : BitVec 1), BitVec 1) → sProp 𝕄} (hk : ∀ r, iprop(St KV Kn c ((evS 10 (evS 4 p)) (zc c)) ∗ R) ⊢ Q r) :
    iprop(St KV Kn c (p (zc c)) ∗ R) ⊢ wpc c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 k0_h40 ) Q := by
  rw [k0_part20_eq_skeleton]; unfold k0_part20_skel
  refine sendFar KV Kn c _ true hb 4 (by decide) k0_cond55 k0_off61 k0_dev42 (by decide +kernel) hok.1 (fun _ => rfl) (fun _ => rfl) ?_
  refine sendFar KV Kn c _ true hb 10 (by decide) k0_cond56 k0_off62 k0_dev43 (by decide +kernel) hok.2 (fun _ => rfl) (fun _ => rfl) ?_
  exact done (hk _)

theorem part21 (c : Dev nD) (p : Ph) (hb : bx c = true) (v2 v5 v8 v9 v10 v12 v14 v15 k0_h40 a1 a2) (hok : okF 3 p ∧ okF 9 (evF 3 p) ∧ okS 5 (evF 9 (evF 3 p)) ∧ okS 11 (evS 5 (evF 9 (evF 3 p))))
    {R : sProp 𝕄} {Q : (BitVec 32) → sProp 𝕄} (hk : ∀ r, iprop(St KV Kn c ((evS 11 (evS 5 (evF 9 (evF 3 p)))) (zc c)) ∗ R) ⊢ Q r) :
    iprop(St KV Kn c (p (zc c)) ∗ R) ⊢ wpc c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h40 a1 a2) Q := by
  rw [k0_part21_eq_skeleton]; unfold k0_part21_skel
  refine recvFwd KV Kn c _ true hb 3 (by decide) k0_cond57 k0_off63 k0_off64 k0_dev44 (by decide +kernel) hok.1 (fun _ => rfl) ?_
  refine recvFwd KV Kn c _ true hb 9 (by decide) k0_cond58 k0_off65 k0_off66 k0_dev45 (by decide +kernel) hok.2.1 (fun _ => rfl) ?_
  refine sendFar KV Kn c _ true hb 5 (by decide) k0_cond59 k0_off67 k0_dev46 (by decide +kernel) hok.2.2.1 (fun _ => rfl) (fun _ => rfl) ?_
  refine sendFar KV Kn c _ true hb 11 (by decide) k0_cond60 k0_off68 k0_dev47 (by decide +kernel) hok.2.2.2 (fun _ => rfl) (fun _ => rfl) ?_
  exact done (hk _)

theorem part22 (c : Dev nD) (p : Ph) (hb : bx c = true) (v2 v5 v8 v9 v10 v12 v14 v15 k0_h40 a1) (hok : okF 4 p ∧ okF 10 (evF 4 p))
    {R : sProp 𝕄} {Q : (Σ' (_ : BitVec 1) (_ : BitVec 32), BitVec 32) → sProp 𝕄} (hk : ∀ r, iprop(St KV Kn c ((evF 10 (evF 4 p)) (zc c)) ∗ R) ⊢ Q r) :
    iprop(St KV Kn c (p (zc c)) ∗ R) ⊢ wpc c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h40 a1) Q := by
  rw [k0_part22_eq_skeleton]; unfold k0_part22_skel
  refine recvFwd KV Kn c _ true hb 4 (by decide) k0_cond61 k0_off69 k0_off70 k0_dev48 (by decide +kernel) hok.1 (fun _ => rfl) ?_
  refine recvFwd KV Kn c _ true hb 10 (by decide) k0_cond62 k0_off71 k0_off72 k0_dev49 (by decide +kernel) hok.2 (fun _ => rfl) ?_
  exact done (hk _)

theorem part23 (c : Dev nD) (p : Ph) (hb : bx c = true) (v2 v5 v8 v9 v10 v12 v14 v15 k0_h40 a1 a2 a3) (e8 : v8 = W8 c) (e9 : v9 = W9 c) (e10 : v10 = W10 c) (hok : okF 5 p ∧ okF 11 (evF 5 p) ∧ okD 0 (evF 11 (evF 5 p)))
    {R : sProp 𝕄} {Q : (BitVec 32) → sProp 𝕄} (hk : ∀ r, (Scalar.cmpi .ne r 0#32 = 1#1 ↔ actS (zc c) 6 = true) → iprop(St KV Kn c ((evD 0 (evF 11 (evF 5 p))) (zc c)) ∗ R) ⊢ Q r) :
    iprop(St KV Kn c (p (zc c)) ∗ R) ⊢ wpc c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h40 a1 a2 a3) Q := by
  subst e8; subst e9; subst e10
  rw [k0_part23_eq_skeleton]; unfold k0_part23_skel
  refine recvFwd KV Kn c _ true hb 5 (by decide) k0_cond63 k0_off73 k0_off74 k0_dev50 (by decide +kernel) hok.1 (fun _ => rfl) ?_
  refine recvFwd KV Kn c _ true hb 11 (by decide) k0_cond64 k0_off75 k0_off76 k0_dev51 (by decide +kernel) hok.2.1 (fun _ => rfl) ?_
  refine drain KV Kn c _ true 0 (goR_iff c 0 0) hok.2.2 (fun _ => rfl) ?_
  exact done (hk _ (goL_iff c 0 0))

theorem part24 (c : Dev nD) (p : Ph) (v8 v9 v10 a1) (e8 : v8 = W8 c) (e9 : v9 = W9 c) (e10 : v10 = W10 c) (hr : Scalar.cmpi .ne a1 0#32 = 1#1 ↔ actS (zc c) 6 = true) (hok : okD 6 p ∧ okD 1 (evD 6 p) ∧ okD 7 (evD 1 (evD 6 p)) ∧ okD 2 (evD 7 (evD 1 (evD 6 p))))
    {R : sProp 𝕄} {Q : (BitVec 1) → sProp 𝕄} (hk : ∀ r, (Scalar.cmpi .ne (Scalar.extui r : BitVec 32) 0#32 = 1#1 ↔ actS (zc c) 8 = true) → iprop(St KV Kn c ((evD 2 (evD 7 (evD 1 (evD 6 p)))) (zc c)) ∗ R) ⊢ Q r) :
    iprop(St KV Kn c (p (zc c)) ∗ R) ⊢ wpc c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      v8 v9 v10 a1) Q := by
  subst e8; subst e9; subst e10
  rw [k0_part24_eq_skeleton]; unfold k0_part24_skel
  refine drain KV Kn c _ true 6 hr hok.1 (fun _ => rfl) ?_
  refine drain KV Kn c _ true 1 (goR_iff c 0 1) hok.2.1 (fun _ => rfl) ?_
  refine drain KV Kn c _ true 7 (goL_iff c 0 1) hok.2.2.1 (fun _ => rfl) ?_
  refine drain KV Kn c _ true 2 (goR_iff c 1 0) hok.2.2.2 (fun _ => rfl) ?_
  exact done (hk _ (goL_iff c 1 0))

theorem part25 (c : Dev nD) (p : Ph) (v8 v9 v10 a1) (e8 : v8 = W8 c) (e9 : v9 = W9 c) (e10 : v10 = W10 c) (hr : Scalar.cmpi .ne (Scalar.extui a1 : BitVec 32) 0#32 = 1#1 ↔ actS (zc c) 8 = true) (hok : okD 8 p ∧ okD 3 (evD 8 p) ∧ okD 9 (evD 3 (evD 8 p)))
    {R : sProp 𝕄} {Q : (BitVec 32) → sProp 𝕄} (hk : ∀ r, (Scalar.cmpi .ne r 0#32 = 1#1 ↔ actS (zc c) 4 = true) → iprop(St KV Kn c ((evD 9 (evD 3 (evD 8 p))) (zc c)) ∗ R) ⊢ Q r) :
    iprop(St KV Kn c (p (zc c)) ∗ R) ⊢ wpc c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      v8 v9 v10 a1) Q := by
  subst e8; subst e9; subst e10
  rw [k0_part25_eq_skeleton]; unfold k0_part25_skel
  refine drain KV Kn c _ true 8 hr hok.1 (fun _ => rfl) ?_
  refine drain KV Kn c _ true 3 (goR_iff c 1 1) hok.2.1 (fun _ => rfl) ?_
  refine drain KV Kn c _ true 9 (goL_iff c 1 1) hok.2.2 (fun _ => rfl) ?_
  exact done (hk _ (goR_iff c 2 0))

end Cert.KProof

end
-- ==== Proof.BodyA.lean ====
/-
  The exchange as one half of the devices runs it: keys in the first, values in the second.
-/
module

public import proofs.«01_k».proof.Proof.PartsK
public import proofs.«01_k».proof.Proof.PartsV

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

/-! ## The phases through the exchange -/

/-- At the start the own halves are at hand. -/
def ph0 : Ph := fun _ k => if k.1 = false ∧ k.2.val < 12 ∧ st k.2 = 0 then 1 else 0
def pa2 : Ph := evS 6 (evS 0 ph0)
def pa3 : Ph := evF 0 (evS 7 (evS 1 pa2))
def pa4 : Ph := evS 8 (evS 2 (evF 6 pa3))
def pa5 : Ph := evS 3 (evF 7 (evF 1 pa4))
def pa6 : Ph := evF 8 (evF 2 (evS 9 pa5))
def pa7 : Ph := evS 10 (evS 4 pa6)
def pa8 : Ph := evS 11 (evS 5 (evF 9 (evF 3 pa7)))
def pa9 : Ph := evF 10 (evF 4 pa8)
def pa10 : Ph := evD 0 (evF 11 (evF 5 pa9))
def pa11 : Ph := evD 2 (evD 7 (evD 1 (evD 6 pa10)))
def pa12 : Ph := evD 9 (evD 3 (evD 8 pa11))
def pa13 : Ph := evD 5 (evD 10 (evD 4 pa12))
/-- After it the messages along z are sent and received, those across x on their way. -/
def ph2 : Ph := fun z k =>
  if act z k = true then (if k.2.val < 12 then (if k.1 then 1 else 3) else (if k.1 then 0 else 2)) else ph0 z k
theorem pa_end : evD 11 pa13 = ph2 := funext fun z => funext fun k =>
  (by decide +kernel : ∀ (z : Fin 4) (k : K), evD 11 pa13 z k = ph2 z k) z k

theorem ok2 : okS 0 ph0 ∧ okS 6 (evS 0 ph0) := by decide +kernel
theorem ok3 : okS 1 pa2 ∧ okS 7 (evS 1 pa2) ∧ okF 0 (evS 7 (evS 1 pa2)) := by decide +kernel
theorem ok4 : okF 6 pa3 ∧ okS 2 (evF 6 pa3) ∧ okS 8 (evS 2 (evF 6 pa3)) := by decide +kernel
theorem ok5 : okF 1 pa4 ∧ okF 7 (evF 1 pa4) ∧ okS 3 (evF 7 (evF 1 pa4)) := by decide +kernel
theorem ok6 : okS 9 pa5 ∧ okF 2 (evS 9 pa5) ∧ okF 8 (evF 2 (evS 9 pa5)) := by decide +kernel
theorem ok7 : okS 4 pa6 ∧ okS 10 (evS 4 pa6) := by decide +kernel
theorem ok8 : okF 3 pa7 ∧ okF 9 (evF 3 pa7) ∧ okS 5 (evF 9 (evF 3 pa7)) ∧ okS 11 (evS 5 (evF 9 (evF 3 pa7))) := by decide +kernel
theorem ok9 : okF 4 pa8 ∧ okF 10 (evF 4 pa8) := by decide +kernel
theorem ok10 : okF 5 pa9 ∧ okF 11 (evF 5 pa9) ∧ okD 0 (evF 11 (evF 5 pa9)) := by decide +kernel
theorem ok11 : okD 6 pa10 ∧ okD 1 (evD 6 pa10) ∧ okD 7 (evD 1 (evD 6 pa10)) ∧ okD 2 (evD 7 (evD 1 (evD 6 pa10))) := by decide +kernel
theorem ok12 : okD 8 pa11 ∧ okD 3 (evD 8 pa11) ∧ okD 9 (evD 3 (evD 8 pa11)) := by decide +kernel
theorem ok13 : okD 4 pa12 ∧ okD 10 (evD 4 pa12) ∧ okD 5 (evD 10 (evD 4 pa12)) := by decide +kernel
theorem ok14 : okD 11 pa13 := by decide +kernel

/-- The exchange of keys, up to its last wait. -/
theorem part13 (c : Dev nD) (hb : bx c = false) (q : S2x8x64x512.Idx → Elt F .f32) (l : S16x1x512.Idx → Elt F .f32) (a : S2x8x64x512.Idx → Elt F .f32) (v2 v5 v8 v9 v10 v12 v14 v15 k0_h3)
    (e8 : v8 = W8 c) (e9 : v9 = W9 c) (e10 : v10 = W10 c) {R : sProp 𝕄} {Q : BitVec 32 → sProp 𝕄}
    (hk : ∀ r, (Scalar.cmpi .ne r 0#32 = 1#1 ↔ actS (zc c) 11 = true) → iprop(St KV Kn c (pa13 (zc c)) ∗ flashSt c (ownL q (KV false c)) (ownA q (KV false c) (KV true c)) ∗ qIn c q ∗ ownP KV c ∗ R) ⊢ Q r) :
    iprop(St KV Kn c (ph0 (zc c)) ∗ flashSt c l a ∗ qIn c q ∗ ownP KV c ∗ R) ⊢ wpc c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h3) Q := by
  rw [k0_part13_eq_skeleton]; unfold k0_part13_skel
  refine call (part2 KV Kn c ph0 hb v2 v5 v8 v9 v10 v12 v14 _ ok2 fun r => ?_)
  obtain ⟨r1, r2⟩ := r; dsimp only
  refine call (part3 KV Kn c pa2 hb v2 v5 v8 v9 v10 v12 v14 v15 _ r1 r2 ok3 fun r => ?_)
  obtain ⟨r1, r2⟩ := r; dsimp only
  refine call (part4 KV Kn c pa3 hb v2 v5 v8 v9 v10 v12 v14 v15 _ r1 r2 ok4 fun r => ?_)
  obtain ⟨r1, r2⟩ := r; dsimp only
  refine call (part5 KV Kn c pa4 hb v2 v5 v8 v9 v10 v12 v14 v15 _ r1 r2 ok5 fun r => ?_)
  refine call (part6 KV Kn c pa5 hb q l a v2 v5 v8 v9 v10 v12 v14 v15 _ r ok6 fun r => ?_)
  refine call (part7 KV Kn c pa6 hb v2 v5 v8 v9 v10 v12 v14 _ ok7 fun r => ?_)
  obtain ⟨r1, r2⟩ := r; dsimp only
  refine call (part8 KV Kn c pa7 hb v2 v5 v8 v9 v10 v12 v14 v15 _ r1 r2 ok8 fun r => ?_)
  refine call (part9 KV Kn c pa8 hb v2 v5 v8 v9 v10 v12 v14 v15 _ r ok9 fun r => ?_)
  obtain ⟨r1, r2, r3⟩ := r; dsimp only
  refine call (part10 KV Kn c pa9 hb v2 v5 v8 v9 v10 v12 v14 v15 _ r1 r2 r3 e8 e9 e10 ok10 fun r hr => ?_)
  refine call (part11 KV Kn c pa10 v8 v9 v10 r e8 e9 e10 hr ok11 fun r hr => ?_)
  refine call (part12 KV Kn c pa11 v8 v9 v10 r e8 e9 e10 hr ok12 fun r hr => ?_)
  subst e8; subst e9; subst e10
  refine drain KV Kn c pa12 false 4 hr ok13.1 (fun _ => rfl) ?_
  refine drain KV Kn c _ false 10 (goL_iff c 2 0) ok13.2.1 (fun _ => rfl) ?_
  refine drain KV Kn c _ false 5 (goR_iff c 2 1) ok13.2.2 (fun _ => rfl) ?_
  exact done (hk _ (goL_iff c 2 1))

/-- The exchange of values, up to its last wait. -/
theorem part26 (c : Dev nD) (hb : bx c = true) (q : S2x8x64x512.Idx → Elt F .f32) (l : S16x1x512.Idx → Elt F .f32) (a : S2x8x64x512.Idx → Elt F .f32) (v2 v5 v8 v9 v10 v12 v14 v15 k0_h40)
    (e8 : v8 = W8 c) (e9 : v9 = W9 c) (e10 : v10 = W10 c) {R : sProp 𝕄} {Q : BitVec 32 → sProp 𝕄}
    (hk : ∀ r, (Scalar.cmpi .ne r 0#32 = 1#1 ↔ actS (zc c) 11 = true) → iprop(St KV Kn c (pa13 (zc c)) ∗ flashSt c (ownL q (KV false c)) (ownA q (KV false c) (KV true c)) ∗ qIn c q ∗ ownP KV c ∗ R) ⊢ Q r) :
    iprop(St KV Kn c (ph0 (zc c)) ∗ flashSt c l a ∗ qIn c q ∗ ownP KV c ∗ R) ⊢ wpc c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v2 v5 v8 v9 v10 v12 v14 v15 k0_h40) Q := by
  rw [k0_part26_eq_skeleton]; unfold k0_part26_skel
  refine call (part15 KV Kn c ph0 hb v2 v5 v8 v9 v10 v12 v14 _ ok2 fun r => ?_)
  obtain ⟨r1, r2⟩ := r; dsimp only
  refine call (part16 KV Kn c pa2 hb v2 v5 v8 v9 v10 v12 v14 v15 _ r1 r2 ok3 fun r => ?_)
  obtain ⟨r1, r2⟩ := r; dsimp only
  refine call (part17 KV Kn c pa3 hb v2 v5 v8 v9 v10 v12 v14 v15 _ r1 r2 ok4 fun r => ?_)
  obtain ⟨r1, r2⟩ := r; dsimp only
  refine call (part18 KV Kn c pa4 hb v2 v5 v8 v9 v10 v12 v14 v15 _ r1 r2 ok5 fun r => ?_)
  refine call (part19 KV Kn c pa5 hb q l a v2 v5 v8 v9 v10 v12 v14 v15 _ r ok6 fun r => ?_)
  refine call (part20 KV Kn c pa6 hb v2 v5 v8 v9 v10 v12 v14 _ ok7 fun r => ?_)
  obtain ⟨r1, r2⟩ := r; dsimp only
  refine call (part21 KV Kn c pa7 hb v2 v5 v8 v9 v10 v12 v14 v15 _ r1 r2 ok8 fun r => ?_)
  refine call (part22 KV Kn c pa8 hb v2 v5 v8 v9 v10 v12 v14 v15 _ r ok9 fun r => ?_)
  obtain ⟨r1, r2, r3⟩ := r; dsimp only
  refine call (part23 KV Kn c pa9 hb v2 v5 v8 v9 v10 v12 v14 v15 _ r1 r2 r3 e8 e9 e10 ok10 fun r hr => ?_)
  refine call (part24 KV Kn c pa10 v8 v9 v10 r e8 e9 e10 hr ok11 fun r hr => ?_)
  refine call (part25 KV Kn c pa11 v8 v9 v10 r e8 e9 e10 hr ok12 fun r hr => ?_)
  subst e8; subst e9; subst e10
  refine drain KV Kn c pa12 true 4 hr ok13.1 (fun _ => rfl) ?_
  refine drain KV Kn c _ true 10 (goL_iff c 2 0) ok13.2.1 (fun _ => rfl) ?_
  refine drain KV Kn c _ true 5 (goR_iff c 2 1) ok13.2.2 (fun _ => rfl) ?_
  exact done (hk _ (goL_iff c 2 1))

end Cert.KProof

end
-- ==== Proof.Bar.lean ====
/-
  The opening barrier: each device tells its neighbours that its openSlots are free, and waits to be told.
-/
module

public import proofs.«01_k».proof.Proof.BodyA

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

/-! ## What the barrier hands over -/

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem bigSep_two (Φ : Bool → sProp 𝕄) : bigSep Finset.univ Φ = iprop(Φ false ∗ Φ true) :=
  bigSep_univ_eq_bigSepL [false, true] (by decide) (by decide) Φ

/-- The right to signal duty `j` of device `d`'s barrier cell. -/
def tok (d : Dev nD) (j : Fin 3) : sProp 𝕄 := iprop(dutyTok ER (bar d) 0 j ∗ reached ER (bar d) 0)
/-- All the openSlots of `c` that a message comes to. -/
def openSlots (c : Dev nD) : sProp 𝕄 := bigSep (Finset.univ.filter fun x : X => actR (zc c) x = true) fun x => give c x

/-- What a device holds of each message before the barrier. -/
def res0 (c : Dev nD) (k : K) : sProp 𝕄 :=
  if k.1 = true then res KV c k 0
  else if actS (zc c) k.2 = true then
    iprop(atPos ER (cell c (false, k.2)) 0 ∅ 0 ∗ reached ER (cell c (false, k.2)) 0 ∗ dutyTok ER (cell c (false, k.2)) 0 0
      ∗ dutyTok ER (cell (tgt c k.2) (true, k.2)) 0 0 ∗ if k.2.val < 12 ∧ st k.2 = 0 then srcPts KV c k.2 else iprop(emp))
  else res KV c k 0

omit [FloatOps F] in
theorem pay_eq (c d : Dev nD) (j : Fin 3) (h : ∀ x, cls x = j → fr c x = d) :
    bigSep (Finset.univ.filter fun x : X => actR (zc c) x = true ∧ cls x = j) (fun x => give (F := F) c x) = barPay d j := by
  unfold barPay
  have e : (Finset.univ.filter fun x : X => actR (zc c) x = true ∧ cls x = j) = Finset.univ.filter fun x : X => actS (zc d) x = true ∧ cls x = j := by
    refine Finset.filter_congr fun x _ => ⟨fun hx => ⟨?_, hx.2⟩, fun hx => ⟨?_, hx.2⟩⟩
    · rw [← h x hx.2, actS_fr]; exact hx.1
    · rw [← actS_fr, h x hx.2]; exact hx.1
  rw [e]
  refine bigSep_congr fun x hx => ?_
  rw [← h x (Finset.mem_filter.mp hx).2.2, to_fr]

omit [FloatOps F] in
/-- The slots, by the neighbour that fills them. -/
theorem slots_split (c : Dev nD) : openSlots (F := F) c = iprop(barPay (pt c) 0 ∗ (if (zc c).val < 3 then barPay (rt c) 1 else iprop(emp)) ∗ (if 0 < (zc c).val then barPay (lt c) 2 else iprop(emp))) := by
  have e : (Finset.univ.filter fun x : X => actR (zc c) x = true) = (Finset.univ : Finset (Fin 3)).biUnion fun j => Finset.univ.filter fun x : X => actR (zc c) x = true ∧ cls x = j := by
    ext x; simp
  unfold openSlots
  rw [e, bigSep_biUnion_eq _ _ _ (fun j _ j' _ hj => Finset.disjoint_left.mpr fun x hx hx' => hj ((Finset.mem_filter.mp hx).2.2.symm.trans (Finset.mem_filter.mp hx').2.2)), bigSep_three]
  have e0 : ∀ x, cls x = 0 → fr c x = pt c := by
    intro x hx; unfold cls at hx; unfold fr; split_ifs at hx ⊢ <;> first | rfl | cases hx
  have e1 : ∀ x, cls x = 1 → fr c x = rt c := by
    intro x hx; unfold cls at hx; unfold fr; split_ifs at hx ⊢ <;> first | rfl | cases hx
  have e2 : ∀ x, cls x = 2 → fr c x = lt c := by
    intro x hx; unfold cls at hx; unfold fr; split_ifs at hx ⊢ <;> first | rfl | cases hx
  rw [pay_eq c (pt c) 0 e0]
  congr 2
  · split
    · rw [pay_eq c (rt c) 1 e1]
    · next h =>
      rw [(by decide +kernel : ∀ z : Fin 4, ¬ z.val < 3 → (Finset.univ.filter fun x : X => actR z x = true ∧ cls x = 1) = ∅) (zc c) h, bigSep_empty]; rfl
  · split
    · rw [pay_eq c (lt c) 2 e2]
    · next h =>
      rw [(by decide +kernel : ∀ z : Fin 4, ¬ 0 < z.val → (Finset.univ.filter fun x : X => actR z x = true ∧ cls x = 2) = ∅) (zc c) h, bigSep_empty]; rfl

/-- What the barrier brings a device: the openSlots its messages go to. -/
theorem bar_rest (c : Dev nD) : bigSep ((Rd (F := F) KV).duties (bar c) 0 \ ∅) (fun u => (Rd (F := F) KV).payload (bar c) 0 u)
    = bigSep (Finset.univ.filter fun x : X => actS (zc c) x = true) fun x => give (tgt c x) x := by
  rw [Finset.sdiff_empty, duties_bar,
    (by decide +kernel : ∀ z : Fin 4, (Finset.univ.filter fun x : X => actS z x = true) = (barD z).biUnion fun j => Finset.univ.filter fun x : X => actS z x = true ∧ cls x = j) (zc c),
    bigSep_biUnion_eq _ _ _ (fun j _ j' _ hj => Finset.disjoint_left.mpr fun x hx hx' => hj ((Finset.mem_filter.mp hx).2.2.symm.trans (Finset.mem_filter.mp hx').2.2))]
  rfl

theorem fill_one (c : Dev nD) (x : X) : iprop(res0 KV c (false, x) ∗ if actS (zc c) x = true then give (tgt c x) x else iprop(emp)) ⊢ res KV c (false, x) (ph0 (zc c) (false, x)) := by
  unfold res0
  rw [if_neg Bool.false_ne_true]
  dsimp only
  by_cases ha : actS (zc c) x = true
  · rw [if_pos ha, if_pos ha, resS_act KV c x ha]
    by_cases hx : x.val < 12 ∧ st x = 0
    · rw [if_pos hx, show ph0 (zc c) (false, x) = 1 from if_pos ⟨rfl, hx⟩]; dsimp only; unfold right
      iintro ⟨⟨H1, H2, H3, H4, H5⟩, H6⟩
      isplitr [H5]
      · isplitl [H1]; · iexact H1
        isplitl [H2]; · iexact H2
        isplitl [H3]; · iexact H3
        isplitl [H4]; · iexact H4
        iexact H6
      · iexact H5
    · rw [if_neg hx, show ph0 (zc c) (false, x) = 0 from if_neg (fun h => hx h.2)]; dsimp only; unfold right
      iintro ⟨⟨H1, H2, H3, H4, H5⟩, H6⟩
      isplitl [H1]; · iexact H1
      isplitl [H2]; · iexact H2
      isplitl [H3]; · iexact H3
      isplitl [H4]; · iexact H4
      iexact H6
  · rw [if_neg ha, if_neg ha]
    unfold res; rw [if_neg Bool.false_ne_true, if_neg Bool.false_ne_true]; unfold resS; rw [if_neg ha, if_neg ha]
    iintro ⟨H, -⟩; iexact H

theorem fill (c : Dev nD) : iprop(bigSep Finset.univ (res0 KV c) ∗ bigSep (Finset.univ.filter fun x : X => actS (zc c) x = true) fun x => give (tgt c x) x)
    ⊢ bigSep Finset.univ fun k => res KV c k (ph0 (zc c) k) := by
  rw [bigSep_filter, bigSep_univ_prod, bigSep_univ_prod, bigSep_two, bigSep_two]
  have hm : iprop((bigSep Finset.univ fun x : X => res0 KV c (false, x)) ∗ bigSep Finset.univ fun x : X => if actS (zc c) x = true then give (tgt c x) x else iprop(emp))
      ⊢ bigSep Finset.univ fun x : X => res KV c (false, x) (ph0 (zc c) (false, x)) := by
    rw [← bigSep_sep']
    exact bigSep_mono fun x _ => fill_one KV c x
  iintro ⟨⟨HF, HT⟩, HG⟩
  isplitl [HF HG]
  · iapply hm
    isplitl [HF]; · iexact HF
    iexact HG
  · iexact HT

/-! ## The signals and the wait -/

theorem signal_one {β : Type} (c d : Dev nD) {d' : Dev nD} (hd : d' = d) (j : Fin 3) (hj : j ∈ barD (zc d)) (hr : τ.routes (c : Thread nD τ) (d : Thread nD τ) = true) (O : CellTallies nD τ sig Unit) {W}
    {k : Prog (TpuEff nD τ sig (Elt F) Λ₀ .tc) β} {R : sProp 𝕄} {Q : β → sProp 𝕄}
    (hk : iprop(ctx KV Kn ∗ owes (c : Thread nD τ) O W ∗ R) ⊢ wpc c k Q) :
    iprop(ctx KV Kn ∗ owes (c : Thread nD τ) (O + tallyAt (bar d) () 1) W ∗ tok d j ∗ barPay d j ∗ R)
      ⊢ wpc c (semSignalWord d' barrier0 1#32 >>= fun _ => k) Q := by
  subst d'
  show _ ⊢ wp frame _ Set.univ (.op (.semSignal (d : Thread nD τ) barrier0 ((1 : ℕ) : ℤ)) fun _ => k) Q
  unfold tok
  iintro ⟨#Hctx, HO, ⟨Ht, #Hr⟩, Hp, HR⟩
  iapply (Rounds.wp_signal 𝒱₀ ER (Rd KV) (c : Thread nD τ) none (dst := (d : Thread nD τ)) (sem := barrier0) (r := 0) (d := j) (κ := Kn (bar d)) (k' := 1)
      (by show j ∈ (Rd KV).duties (bar d) 0; rw [duties_bar]; exact hj) (amount_bar KV d j) () O rfl (W := W) hr) $$ [HO Ht Hp]
  · isplitr; · iapply (ctx_bar KV Kn d); iexact Hctx
    isplitl [HO]; · iexact HO
    isplitl [Ht]; · iexact Ht
    isplitl [Hp]; · iapply (Entails.of_eq (payload_bar KV d j).symm); iexact Hp
    iexact Hr
  iintro HO
  iapply hk
  isplitr; · iexact Hctx
  isplitl [HO]; · iexact HO
  iexact HR

theorem signal_if {β : Type} (c d : Dev nD) (j : Fin 3) {b cond : Prop} [Decidable b] [Decidable cond] (hc : cond ↔ b) {dev : cond → Dev nD} (hd : ∀ h, dev h = d) (hj : b → j ∈ barD (zc d))
    (hr : τ.routes (c : Thread nD τ) (d : Thread nD τ) = true) (O : CellTallies nD τ sig Unit) {W}
    {k : Prog (TpuEff nD τ sig (Elt F) Λ₀ .tc) β} {R : sProp 𝕄} {Q : β → sProp 𝕄}
    (hk : iprop(ctx KV Kn ∗ owes (c : Thread nD τ) O W ∗ R) ⊢ wpc c k Q) :
    iprop(ctx KV Kn ∗ owes (c : Thread nD τ) (O + if b then tallyAt (bar d) () 1 else 0) W ∗ (if b then tok d j else iprop(emp)) ∗ (if b then barPay d j else iprop(emp)) ∗ R)
      ⊢ wpc c (dite cond (fun h => semSignalWord (dev h) barrier0 1#32 >>= fun _ => k) (fun _ => k)) Q := by
  by_cases h : cond
  · rw [dif_pos h, if_pos (hc.mp h), if_pos (hc.mp h), if_pos (hc.mp h), hd h]
    exact signal_one KV Kn c d rfl j (hj (hc.mp h)) hr O hk
  · rw [dif_neg h, if_neg (fun hb => h (hc.mpr hb)), if_neg (fun hb => h (hc.mpr hb)), if_neg (fun hb => h (hc.mpr hb)), add_zero]
    refine .trans ?_ hk
    iintro ⟨H1, H2, -, -, H3⟩
    isplitl [H1]; · iexact H1
    isplitl [H2]; · iexact H2
    iexact H3

/-- What a device owes at the start. -/
def owe0 (c : Dev nD) : CellTallies nD τ sig Unit :=
  pend c (ph0 (zc c)) + (if (zc c).val < 3 then tallyAt (bar (rt c)) () 1 else 0) + (if 0 < (zc c).val then tallyAt (bar (lt c)) () 1 else 0) + tallyAt (bar (pt c)) () 1

/-- What a device holds at the start of the body, for the exchange. -/
def Start (c : Dev nD) : sProp 𝕄 :=
  iprop(ctx KV Kn ∗ (∃ W, owes (c : Thread nD τ) (owe0 c) W) ∗ atPos ER (bar c) 0 ∅ 0 ∗ cred (tallyAt (bar c) () (barD (zc c)).card)
    ∗ (tok (pt c) 0 ∗ (if (zc c).val < 3 then tok (rt c) 1 else iprop(emp)) ∗ (if 0 < (zc c).val then tok (lt c) 2 else iprop(emp)))
    ∗ openSlots c ∗ bigSep Finset.univ (res0 KV c))

def W2 (c : Dev nD) : BitVec 32 := Scalar.remsi (Scalar.divsi (Dev.word c) 16#32) 2#32

theorem bar_fold (c : Dev nD) {W} {R : sProp 𝕄} {β : Type} {k : Prog (TpuEff nD τ sig (Elt F) Λ₀ .tc) β} {Q : β → sProp 𝕄} {n : BitVec 32} (hn : n.toInt = ((barD (zc c)).card : ℤ))
    (hk : iprop(St KV Kn c (ph0 (zc c)) ∗ semVal (bar c) 0 ∗ R) ⊢ wpc c k Q) :
    iprop(ctx KV Kn ∗ owes (c : Thread nD τ) (pend c (ph0 (zc c))) W ∗ atPos ER (bar c) 0 ∅ 0 ∗ cred (tallyAt (bar c) () (barD (zc c)).card) ∗ bigSep Finset.univ (res0 KV c) ∗ R)
      ⊢ wpc c (semWaitWord barrier0 n >>= fun _ => k) Q := by
  have hmw := ctx_mayWait KV Kn c (.reg barrier0) (ph0 (zc c)) (fun y _ _ => (by decide : ∀ y : X, 1 < lvl y) y)
  have e : (semWaitWord barrier0 n >>= fun _ => k : Prog (TpuEff nD τ sig (Elt F) Λ₀ .tc) β) = .op (.semWait barrier0 n.toInt) fun _ => k := rfl
  rw [e, hn]
  iintro ⟨#Hctx, HO, Hat, Hc, Hres, HR⟩
  iapply (Rounds.wp_wait_rest_token 𝒱₀ ER (Rd KV) (c : Thread nD τ) none (κ := Kn (bar c))
      (wpE_semWait_eq 𝒱₀ (c : Thread nD τ) none Set.univ) (Set.mem_univ _) () (O := pend c (ph0 (zc c))) (W := W) (R := 0) (m := 0) (T := ∅)
      ((Nat.zero_add _).trans (expect_bar KV c).symm)) $$ [Hc HO Hat]
  · isplitr; · iapply (ctx_bar KV Kn c); iexact Hctx
    isplitl [Hc]; · iexact Hc
    isplitl [HO]; · iexact HO
    isplitr
    · iapply hmw; iexact Hctx
    iexact Hat
  iintro ⟨HO, Hat, -, Hpay⟩
  ihave Hs := (Entails.of_eq (bar_rest KV c)) $$ Hpay
  imod (Rounds.cell_close ER (Rd KV) (Set.mem_univ (Kn (bar c))) (fun h => h) (duties_later KV (bar c))) $$ [Hat] with Hv
  · isplitr; · iapply (ctx_bar KV Kn c); iexact Hctx
    iexact Hat
  iapply hk
  isplitr [HR Hv]
  · unfold St
    isplitr; · iexact Hctx
    isplitl [HO]; · iexists _; iexact HO
    iapply (fill KV c)
    isplitl [Hres]; · iexact Hres
    iexact Hs
  · isplitl [Hv]; · iexact Hv
    iexact HR

theorem dev_step {β : Type} (c : Dev nD) {kk : Dev nD → Prog (TpuEff nD τ sig (Elt F) Λ₀ .tc) β} {P : sProp 𝕄} {Q : β → sProp 𝕄} (h : P ⊢ wpc c (kk c) Q) :
    P ⊢ wpc c (Prog.lift TpuEff.deviceId >>= kk) Q := by
  have e : wpc c (Prog.lift TpuEff.deviceId >>= kk) Q = wpc c (kk c) Q := wp_deviceId 𝒱₀ (c : Thread nD τ) none Set.univ
  rw [e]; exact h

/-- The barrier. -/
theorem part53 (c : Dev nD) {R : sProp 𝕄} {Q : (Σ' (_ : Dev nD) (_ : BitVec 32) (_ : BitVec 32) (_ : BitVec 32) (_ : BitVec 1) (_ : BitVec 1) (_ : BitVec 32) (_ : BitVec 32) (_ : BitVec 32), BitVec 1) → sProp 𝕄}
    (hk : ∀ v5 v12 v14 v15 v31, iprop(St KV Kn c (ph0 (zc c)) ∗ semVal (bar c) 0 ∗ R) ⊢ Q ⟨c, W2 c, v5, W8 c, W9 c, W10 c, v12, v14, v15, v31⟩) :
    iprop(Start KV Kn c ∗ R) ⊢ wpc c (k0_part53 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) Q := by
  rw [k0_part53_eq_skeleton]; unfold k0_part53_skel
  refine dev_step c ?_
  unfold Start
  rw [slots_split]
  unfold owe0
  iintro ⟨⟨#Hctx, ⟨%W, HO⟩, Hat, Hc, ⟨Htp, Htr, Htl⟩, ⟨Hgp, Hgr, Hgl⟩, Hres⟩, HR⟩
  iapply (signal_one KV Kn c (pt c) (Fin.ext ((by decide +kernel : ∀ c, k0_dev1 c = (pt c).val) c)) 0 ((by decide +kernel : ∀ c, 0 ∈ barD (zc (pt c))) c) (by routes)
    (pend c (ph0 (zc c)) + (if (zc c).val < 3 then tallyAt (bar (rt c)) () 1 else 0) + (if 0 < (zc c).val then tallyAt (bar (lt c)) () 1 else 0)) (W := W)
    (R := iprop((if 0 < (zc c).val then tok (lt c) 2 else iprop(emp)) ∗ (if 0 < (zc c).val then barPay (lt c) 2 else iprop(emp))
      ∗ (if (zc c).val < 3 then tok (rt c) 1 else iprop(emp)) ∗ (if (zc c).val < 3 then barPay (rt c) 1 else iprop(emp))
      ∗ atPos ER (bar c) 0 ∅ 0 ∗ cred (tallyAt (bar c) () (barD (zc c)).card) ∗ bigSep Finset.univ (res0 KV c) ∗ R)) ?_)
  · refine signal_if KV Kn c (lt c) 2 (b := 0 < (zc c).val) ((by decide +kernel : ∀ c, k0_cond1 c = 1#1 ↔ 0 < (zc c).val) c) (dev := fun h => ⟨k0_dev2 c, k0_dev2_lt c h⟩) (fun h => Fin.ext ((by decide +kernel : ∀ c, k0_cond1 c = 1#1 → k0_dev2 c = (lt c).val) c h))
      ((by decide +kernel : ∀ c, 0 < (zc c).val → 2 ∈ barD (zc (lt c))) c) (by routes) _ ?_
    refine signal_if KV Kn c (rt c) 1 (b := (zc c).val < 3) ((by decide +kernel : ∀ c, k0_cond2 c = 1#1 ↔ (zc c).val < 3) c) (dev := fun h => ⟨k0_dev3 c, k0_dev3_lt c h⟩) (fun h => Fin.ext ((by decide +kernel : ∀ c, k0_cond2 c = 1#1 → k0_dev3 c = (rt c).val) c h))
      ((by decide +kernel : ∀ c, (zc c).val < 3 → 1 ∈ barD (zc (rt c))) c) (by routes) _ ?_
    refine bar_fold KV Kn c ((by decide +kernel : ∀ c, (k0_amt1 c).toInt = ((barD (zc c)).card : ℤ)) c) ?_
    exact done (hk _ _ _ _ _)
  · isplitr; · iexact Hctx
    isplitl [HO]; · iexact HO
    isplitl [Htp]; · iexact Htp
    isplitl [Hgp]; · iexact Hgp
    isplitl [Htl]; · iexact Htl
    isplitl [Hgl]; · iexact Hgl
    isplitl [Htr]; · iexact Htr
    isplitl [Hgr]; · iexact Hgr
    isplitl [Hat]; · iexact Hat
    isplitl [Hc]; · iexact Hc
    isplitl [Hres]; · iexact Hres
    iexact HR

end Cert.KProof

end
-- ==== Proof.Branches.lean ====
/-
  The parts of the body that read the other chunks: what each z position does with the chunks it received.
-/
module

public import proofs.«01_k».proof.Proof.Rules

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

/-! ## Which messages bring a chunk -/

/-- The message along z that brings half `h` of origin `o` to position `z`. -/
def kz (z o : Fin 4) (h : Fin 2) : X :=
  if o.val < z.val then ⟨(2 * (z.val - 1 - o.val) + h.val) % 20, Nat.mod_lt _ (by decide)⟩ else ⟨(6 + 2 * (o.val - z.val - 1) + h.val) % 20, Nat.mod_lt _ (by decide)⟩
/-- The message that brings half `h` of kind `b`, at a device whose own kind is `bb`. -/
def ck (z : Fin 4) (bb : Bool) (o : Fin 4) (b : Bool) (h : Fin 2) : X := if b = bb then kz z o h else ⟨12 + 2 * o.val + h.val, by omega⟩

theorem ck_facts : ∀ (z : Fin 4) (bb : Bool) (o : Fin 4) (b : Bool) (h : Fin 2), o ≠ z →
    actR z (ck z bb o b h) = true ∧ oR z (ck z bb o b h) = o ∧ hf (ck z bb o b h) = h ∧ ((ck z bb o b h).val < 12 ↔ b = bb) := by decide +kernel
theorem ck_inj : ∀ (z : Fin 4) (bb : Bool) (o : Fin 4), o ≠ z → ck z bb o false 1 ≠ ck z bb o false 0 ∧ ck z bb o true 0 ≠ ck z bb o false 0 ∧ ck z bb o true 0 ≠ ck z bb o false 1
    ∧ ck z bb o true 1 ≠ ck z bb o false 0 ∧ ck z bb o true 1 ≠ ck z bb o false 1 ∧ ck z bb o true 1 ≠ ck z bb o true 0 := by decide +kernel

/-- A received slot lends what its device keeps of it. -/
theorem res_lend (c : Dev nD) (x : X) (p : Fin 4) (ha : actR (zc c) x = true) (hp : p ≠ 0) {q : PosShare TreeShare} (hq : q = if x.val < 12 then qR else fullShare) :
    ∃ T : sProp 𝕄, (res KV c (true, x) p ⊢ iprop(pts c (rM c x) q (rv KV c x) ∗ T)) ∧ (iprop(pts c (rM c x) q (rv KV c x) ∗ T) ⊢ res KV c (true, x) p) := by
  rw [resR_act KV c x ha, if_neg hp]; unfold rest
  by_cases hx : x.val < 12
  · rw [if_pos hx, hq, if_pos hx]
    refine ⟨iprop(semVal (cell c (true, x)) 0 ∗ if nxtAct (zc c) x = true then iprop(emp) else pts c (rM c x) qM (rv KV c x)), ?_, ?_⟩
    · iintro ⟨H1, H2, H3⟩
      isplitl [H2]; · iexact H2
      isplitl [H1] <;> iassumption
    · iintro ⟨H2, H1, H3⟩
      isplitl [H1]; · iexact H1
      isplitl [H2] <;> iassumption
  · rw [if_neg hx, hq, if_neg hx]
    refine ⟨semVal (cell c (true, x)) 0, ?_, ?_⟩
    · unfold landPts; iintro ⟨H1, H2⟩; isplitl [H2] <;> iassumption
    · unfold landPts; iintro ⟨H1, H2⟩; isplitl [H2] <;> iassumption

theorem erase_at {s : Finset K} {i : K} (hi : i ∈ s) (Φ : K → sProp 𝕄) : bigSep s Φ = iprop(Φ i ∗ bigSep (s.erase i) Φ) := BI.bigSep_erase hi

/-- A chunk's slots, out of the state and back. -/
theorem take_chunk (c : Dev nD) (f : K → Fin 4) (o : Fin 4) (ho : o ≠ zc c) (hp : ∀ b h, f (true, ck (zc c) (bx c) o b h) ≠ 0) :
    St KV Kn c f ⊢ iprop(chunkP KV c o ∗ (chunkP KV c o -∗ St KV Kn c f)) := by
  have key : ∀ b h, ∃ T : sProp 𝕄, (res KV c (true, ck (zc c) (bx c) o b h) (f (true, ck (zc c) (bx c) o b h)) ⊢ iprop(pts c (slotM b o h) (cq c b) (blk KV b (srcDev b c o) h) ∗ T))
      ∧ (iprop(pts c (slotM b o h) (cq c b) (blk KV b (srcDev b c o) h) ∗ T) ⊢ res KV c (true, ck (zc c) (bx c) o b h) (f (true, ck (zc c) (bx c) o b h))) := by
    intro b h
    obtain ⟨a1, a2, a3, a4⟩ := ck_facts (zc c) (bx c) o b h ho
    have e : rb c (ck (zc c) (bx c) o b h) = b := by
      unfold rb
      by_cases hb : b = bx c
      · rw [if_pos (a4.mpr hb), hb]
      · rw [if_neg (fun h' => hb (a4.mp h'))]; exact (by decide : ∀ y b : Bool, ¬ b = y → (!y) = b) (bx c) b hb
    have := res_lend KV c (ck (zc c) (bx c) o b h) (f (true, ck (zc c) (bx c) o b h)) a1 (hp b h) (q := cq c b)
      (by unfold cq; by_cases hb : b = bx c
          · rw [if_pos hb, if_pos (a4.mpr hb)]
          · rw [if_neg hb, if_neg (fun h' => hb (a4.mp h'))])
    unfold rM rv at this
    rw [e, a2, a3] at this
    exact this
  obtain ⟨n1, n2, n3, n4, n5, n6⟩ := ck_inj (zc c) (bx c) o ho
  have m1 : (true, ck (zc c) (bx c) o false 1) ∈ (Finset.univ : Finset K).erase (true, ck (zc c) (bx c) o false 0) := by simp [n1]
  have m2 : (true, ck (zc c) (bx c) o true 0) ∈ ((Finset.univ : Finset K).erase (true, ck (zc c) (bx c) o false 0)).erase (true, ck (zc c) (bx c) o false 1) := by simp [n2, n3]
  have m3 : (true, ck (zc c) (bx c) o true 1) ∈ (((Finset.univ : Finset K).erase (true, ck (zc c) (bx c) o false 0)).erase (true, ck (zc c) (bx c) o false 1)).erase (true, ck (zc c) (bx c) o true 0) := by
    simp [n4, n5, n6]
  obtain ⟨T0, u0, w0⟩ := key false 0
  obtain ⟨T1, u1, w1⟩ := key false 1
  obtain ⟨T2, u2, w2⟩ := key true 0
  obtain ⟨T3, u3, w3⟩ := key true 1
  unfold St
  rw [bigSep_univ_at (fun k => res KV c k (f k)) (true, ck (zc c) (bx c) o false 0), erase_at m1, erase_at m2, erase_at m3]
  unfold chunkP quad
  iintro ⟨Hctx, HW, H0, H1, H2, H3, Hr⟩
  ihave H0 := u0 $$ H0
  ihave H1 := u1 $$ H1
  ihave H2 := u2 $$ H2
  ihave H3 := u3 $$ H3
  icases H0 with ⟨P0, T0⟩
  icases H1 with ⟨P1, T1⟩
  icases H2 with ⟨P2, T2⟩
  icases H3 with ⟨P3, T3⟩
  isplitl [P0 P1 P2 P3]
  · isplitl [P0 P1]
    · isplitl [P0] <;> iassumption
    · isplitl [P2] <;> iassumption
  · iintro ⟨⟨P0, P1⟩, P2, P3⟩
    isplitl [Hctx]; · iexact Hctx
    isplitl [HW]; · iexact HW
    isplitl [P0 T0]; · iapply w0; isplitl [P0] <;> iassumption
    isplitl [P1 T1]; · iapply w1; isplitl [P1] <;> iassumption
    isplitl [P2 T2]; · iapply w2; isplitl [P2] <;> iassumption
    isplitl [P3 T3]; · iapply w3; isplitl [P3] <;> iassumption
    iexact Hr

/-! ## The steps of a branch -/

def evX (x : X) (p : Ph) : Ph := fun z => Function.update (p z) (true, x) 1
def okX (z : Fin 4) (x : X) (p : Ph) : Prop := p z (true, x) = 0 ∧ ∀ y, actS z y = true → (p z (false, y)).val < 2 → lvl x < lvl y
def okC (z o : Fin 4) (p : Ph) : Prop := ∀ bb b h, p z (true, ck z bb o b h) ≠ 0
instance (z : Fin 4) (x : X) (p : Ph) : Decidable (okX z x p) := by unfold okX; infer_instance
instance (z o : Fin 4) (p : Ph) : Decidable (okC z o p) := by unfold okC; infer_instance

/-- The row sums and the weighted sums with the chunk of origin `o` added, and the output when it is the last. -/
def lAt (c : Dev nD) (q : S2x8x64x512.Idx → Elt F .f32) (o : Fin 4) (l : S16x1x512.Idx → Elt F .f32) : S16x1x512.Idx → Elt F .f32 :=
  accL q (KV false (srcDev false c o)) l
def aAt (c : Dev nD) (q : S2x8x64x512.Idx → Elt F .f32) (o : Fin 4) (a : S2x8x64x512.Idx → Elt F .f32) : S2x8x64x512.Idx → Elt F .f32 :=
  accA q (KV false (srcDev false c o)) (KV true (srcDev true c o)) a
def oAt (c : Dev nD) (q : S2x8x64x512.Idx → Elt F .f32) (o : Fin 4) (l : S16x1x512.Idx → Elt F .f32) (a : S2x8x64x512.Idx → Elt F .f32) : S2x8x64x512.Idx → Elt F .f32 :=
  finO q (KV false (srcDev false c o)) (KV true (srcDev true c o)) l a

section
variable {β : Type} (c : Dev nD) (p : Ph) (z : Fin 4) (hz : zc c = z)
include hz

/-- Receive a half across x. -/
theorem recvX (x : X) (hx : 12 ≤ x.val ∧ actR z x = true) (hok : okX z x p)
    {off off' : Fin 5 → Nat} {hi hi'} {sR : DmaSem sig} (hsR : sR = semK (true, x)) {w1 w2}
    {k : Prog (TpuEff nD τ sig (Elt F) Λ₀ .tc) β} {R : sProp 𝕄} {Q : β → sProp 𝕄}
    (hk : iprop(St KV Kn c (evX x p z) ∗ R) ⊢ wpc c k Q) :
    iprop(St KV Kn c (p z) ∗ R) ⊢ wpc c (Prog.lift (.waitDma2 sR
            (((sbuf true).slice (Rect.unit (s := S4x2x8x64x512) off' S1x1x8x64x512.size hi') (fun _ => rfl)).squeeze S8x64x512 squeezes_S1x1x8x64x512_S8x64x512)
            (((sbuf true).slice (Rect.unit (s := S4x2x8x64x512) off S1x1x8x64x512.size hi) (fun _ => rfl)).squeeze S8x64x512 squeezes_S1x1x8x64x512_S8x64x512) w1 w2) >>= fun _ => k) Q := by
  subst hz
  refine recv_op KV Kn c (p (zc c)) x hx.2 hok.1 hsR (credit_eq true) hok.2 (R' := iprop(emp)) ?_ ?_
  · unfold rest; rw [if_neg (by omega)]; iintro H; isplitl [H]; · iexact H
    iempintro
  · refine .trans ?_ hk
    iintro ⟨H, -, HR⟩
    isplitl [H]; · iexact H
    iexact HR

variable (o : Fin 4) (ho : o ≠ z) (hok : okC z o p) (q : S2x8x64x512.Idx → Elt F .f32) (l : S16x1x512.Idx → Elt F .f32) (a : S2x8x64x512.Idx → Elt F .f32)
  (lp : Scf.Loop 32) (hlp : lp.OK) (hn : lp.trips = 16) (body : Fin lp.trips → Unit → Prog (TpuEff nD τ sig (Elt F) Λ₀ .tc) Unit)
include ho hok

/-- The loop over a chunk that is not the last. -/
theorem accStep (hb : ∀ t, ∃ o4 i4 o5 i5 o3 i3, body t () = accBody o4 i4 o5 i5 o3 i3 ∧ o4 = off4 (t.cast hn) ∧ o5 = off5 o (t.cast hn) ∧ o3 = off3 (t.cast hn))
    {kk : Unit → Prog (TpuEff nD τ sig (Elt F) Λ₀ .tc) β} {R : sProp 𝕄} {Q : β → sProp 𝕄}
    (hk : iprop(St KV Kn c (p z) ∗ flashSt c (lAt KV c q o l) (aAt KV c q o a) ∗ qIn c q ∗ R) ⊢ wpc c (kk ()) Q) :
    iprop(St KV Kn c (p z) ∗ flashSt c l a ∗ qIn c q ∗ R) ⊢ wpc c (Scf.Loop.for lp hlp () body >>= kk) Q := by
  subst hz
  refine .trans ?_ (acc_loop KV c q l a o lp hlp hn body (R := iprop((chunkP KV c o -∗ St KV Kn c (p (zc c))) ∗ R)) hb (.trans ?_ hk))
  · iintro ⟨H, HF, HQ, HR⟩
    ihave H := (take_chunk KV Kn c (p (zc c)) o ho (hok (bx c))) $$ H
    icases H with ⟨HC, HW⟩
    isplitl [HF]; · iexact HF
    isplitl [HQ]; · iexact HQ
    isplitl [HC]; · iexact HC
    isplitl [HW] <;> iassumption
  · iintro ⟨HF, HQ, HC, HW, HR⟩
    isplitl [HC HW]; · iapply HW; iexact HC
    isplitl [HF]; · iexact HF
    isplitl [HQ] <;> iassumption

/-- The loop over the last chunk. -/
theorem finStep (r : S2x8x64x512.Idx → Elt F .f32) (hb : ∀ t, ∃ o4 i4 o5 i5 o3 i3, body t () = finBody o4 i4 o5 i5 o3 i3 ∧ o4 = off4 (t.cast hn) ∧ o5 = off5 o (t.cast hn) ∧ o3 = off3 (t.cast hn))
    {kk : Unit → Prog (TpuEff nD τ sig (Elt F) Λ₀ .tc) β} {R : sProp 𝕄} {Q : β → sProp 𝕄}
    (hk : iprop(St KV Kn c (p z) ∗ flashSt c l a ∗ qIn c q ∗ oOut c (oAt KV c q o l a) ∗ R) ⊢ wpc c (kk ()) Q) :
    iprop(St KV Kn c (p z) ∗ flashSt c l a ∗ qIn c q ∗ oOut c r ∗ R) ⊢ wpc c (Scf.Loop.for lp hlp () body >>= kk) Q := by
  subst hz
  refine .trans ?_ (fin_loop KV c q l a o lp hlp hn body (R := iprop((chunkP KV c o -∗ St KV Kn c (p (zc c))) ∗ R)) r hb (.trans ?_ hk))
  · iintro ⟨H, HF, HQ, HO, HR⟩
    ihave H := (take_chunk KV Kn c (p (zc c)) o ho (hok (bx c))) $$ H
    icases H with ⟨HC, HW⟩
    isplitl [HF]; · iexact HF
    isplitl [HO]; · iexact HO
    isplitl [HQ]; · iexact HQ
    isplitl [HC]; · iexact HC
    isplitl [HW] <;> iassumption
  · iintro ⟨HF, HO, HQ, HC, HW, HR⟩
    isplitl [HC HW]; · iapply HW; iexact HC
    isplitl [HF]; · iexact HF
    isplitl [HQ]; · iexact HQ
    isplitl [HO]; · iexact HO
    iexact HR
end

theorem part30 (c : Dev nD) (p : Ph) (hz : zc c = 0) (q : S2x8x64x512.Idx → Elt F .f32) (l : S16x1x512.Idx → Elt F .f32) (a : S2x8x64x512.Idx → Elt F .f32) (v5 v8 v15)
    (hok : okX 0 14 p) {R : sProp 𝕄} {Q : PUnit → sProp 𝕄} (hk : ∀ r, iprop(St KV Kn c ((evX 14 p) 0) ∗ flashSt c l a ∗ qIn c q ∗ R) ⊢ Q r) :
    iprop(St KV Kn c (p 0) ∗ flashSt c l a ∗ qIn c q ∗ R) ⊢ wpc c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      v5 v8 v15) Q := by
  rw [k0_part30_eq_skeleton]; unfold k0_part30_skel
  refine recvX KV Kn c _ 0 hz 14 (by decide) hok rfl ?_
  exact done (hk _)

theorem part31 (c : Dev nD) (p : Ph) (hz : zc c = 0) (q : S2x8x64x512.Idx → Elt F .f32) (l : S16x1x512.Idx → Elt F .f32) (a : S2x8x64x512.Idx → Elt F .f32) (v5 v8 v15 k0_h77)
    (hok : okX 0 15 p ∧ okC 0 1 (evX 15 p) ∧ okX 0 16 (evX 15 p)) {R : sProp 𝕄} {Q : PUnit → sProp 𝕄} (hk : ∀ r, iprop(St KV Kn c ((evX 16 (evX 15 p)) 0) ∗ flashSt c (lAt KV c q 1 l) (aAt KV c q 1 a) ∗ qIn c q ∗ R) ⊢ Q r) :
    iprop(St KV Kn c (p 0) ∗ flashSt c l a ∗ qIn c q ∗ R) ⊢ wpc c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v5 v8 v15 k0_h77) Q := by
  rw [k0_part31_eq_skeleton]; unfold k0_part31_skel
  refine recvX KV Kn c _ 0 hz 15 (by decide) hok.1 rfl ?_
  refine accStep KV Kn c _ 0 hz 1 (by decide) hok.2.1 q l a _ _ (by decide +kernel) _ (fun t => ⟨k0_off77 t, k0_off77_inb c t k0_h77, k0_off78 t, k0_off78_inb c t k0_h77, k0_off79 t, k0_off79_inb c t k0_h77, rfl, (by decide +kernel : ∀ t : Fin k0_t3_loop.trips, k0_off77 t = off4 (t.cast (by decide +kernel))) t, (by decide +kernel : ∀ t : Fin k0_t3_loop.trips, k0_off78 t = off5 1 (t.cast (by decide +kernel))) t, (by decide +kernel : ∀ t : Fin k0_t3_loop.trips, k0_off79 t = off3 (t.cast (by decide +kernel))) t⟩) ?_
  refine recvX KV Kn c _ 0 hz 16 (by decide) hok.2.2 rfl ?_
  exact done (hk _)

theorem part32 (c : Dev nD) (p : Ph) (hz : zc c = 0) (q : S2x8x64x512.Idx → Elt F .f32) (l : S16x1x512.Idx → Elt F .f32) (a : S2x8x64x512.Idx → Elt F .f32) (v5 v8 v15 k0_h77)
    (hok : okX 0 17 p ∧ okC 0 2 (evX 17 p) ∧ okX 0 18 (evX 17 p)) {R : sProp 𝕄} {Q : (Σ' (_ : BitVec 32), BitVec 32) → sProp 𝕄} (hk : ∀ r, iprop(St KV Kn c ((evX 18 (evX 17 p)) 0) ∗ flashSt c (lAt KV c q 2 l) (aAt KV c q 2 a) ∗ qIn c q ∗ R) ⊢ Q r) :
    iprop(St KV Kn c (p 0) ∗ flashSt c l a ∗ qIn c q ∗ R) ⊢ wpc c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v5 v8 v15 k0_h77) Q := by
  rw [k0_part32_eq_skeleton]; unfold k0_part32_skel
  refine recvX KV Kn c _ 0 hz 17 (by decide) hok.1 rfl ?_
  refine accStep KV Kn c _ 0 hz 2 (by decide) hok.2.1 q l a _ _ (by decide +kernel) _ (fun t => ⟨k0_off80 t, k0_off80_inb c t k0_h77, k0_off81 t, k0_off81_inb c t k0_h77, k0_off82 t, k0_off82_inb c t k0_h77, rfl, (by decide +kernel : ∀ t : Fin k0_t4_loop.trips, k0_off80 t = off4 (t.cast (by decide +kernel))) t, (by decide +kernel : ∀ t : Fin k0_t4_loop.trips, k0_off81 t = off5 2 (t.cast (by decide +kernel))) t, (by decide +kernel : ∀ t : Fin k0_t4_loop.trips, k0_off82 t = off3 (t.cast (by decide +kernel))) t⟩) ?_
  refine recvX KV Kn c _ 0 hz 18 (by decide) hok.2.2 rfl ?_
  exact done (hk _)

theorem part36 (c : Dev nD) (p : Ph) (hz : zc c = 1) (q : S2x8x64x512.Idx → Elt F .f32) (l : S16x1x512.Idx → Elt F .f32) (a : S2x8x64x512.Idx → Elt F .f32) (v5 v8 v15)
    (hok : okX 1 12 p) {R : sProp 𝕄} {Q : PUnit → sProp 𝕄} (hk : ∀ r, iprop(St KV Kn c ((evX 12 p) 1) ∗ flashSt c l a ∗ qIn c q ∗ R) ⊢ Q r) :
    iprop(St KV Kn c (p 1) ∗ flashSt c l a ∗ qIn c q ∗ R) ⊢ wpc c (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      v5 v8 v15) Q := by
  rw [k0_part36_eq_skeleton]; unfold k0_part36_skel
  refine recvX KV Kn c _ 1 hz 12 (by decide) hok rfl ?_
  exact done (hk _)

theorem part37 (c : Dev nD) (p : Ph) (hz : zc c = 1) (q : S2x8x64x512.Idx → Elt F .f32) (l : S16x1x512.Idx → Elt F .f32) (a : S2x8x64x512.Idx → Elt F .f32) (v5 v8 v15 k0_h78)
    (hok : okX 1 13 p ∧ okC 1 0 (evX 13 p) ∧ okX 1 16 (evX 13 p)) {R : sProp 𝕄} {Q : PUnit → sProp 𝕄} (hk : ∀ r, iprop(St KV Kn c ((evX 16 (evX 13 p)) 1) ∗ flashSt c (lAt KV c q 0 l) (aAt KV c q 0 a) ∗ qIn c q ∗ R) ⊢ Q r) :
    iprop(St KV Kn c (p 1) ∗ flashSt c l a ∗ qIn c q ∗ R) ⊢ wpc c (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v5 v8 v15 k0_h78) Q := by
  rw [k0_part37_eq_skeleton]; unfold k0_part37_skel
  refine recvX KV Kn c _ 1 hz 13 (by decide) hok.1 rfl ?_
  refine accStep KV Kn c _ 1 hz 0 (by decide) hok.2.1 q l a _ _ (by decide +kernel) _ (fun t => ⟨k0_off86 t, k0_off86_inb c t k0_h78, k0_off87 t, k0_off87_inb c t k0_h78, k0_off88 t, k0_off88_inb c t k0_h78, rfl, (by decide +kernel : ∀ t : Fin k0_t6_loop.trips, k0_off86 t = off4 (t.cast (by decide +kernel))) t, (by decide +kernel : ∀ t : Fin k0_t6_loop.trips, k0_off87 t = off5 0 (t.cast (by decide +kernel))) t, (by decide +kernel : ∀ t : Fin k0_t6_loop.trips, k0_off88 t = off3 (t.cast (by decide +kernel))) t⟩) ?_
  refine recvX KV Kn c _ 1 hz 16 (by decide) hok.2.2 rfl ?_
  exact done (hk _)

theorem part38 (c : Dev nD) (p : Ph) (hz : zc c = 1) (q : S2x8x64x512.Idx → Elt F .f32) (l : S16x1x512.Idx → Elt F .f32) (a : S2x8x64x512.Idx → Elt F .f32) (v5 v8 v15 k0_h78)
    (hok : okX 1 17 p ∧ okC 1 2 (evX 17 p) ∧ okX 1 18 (evX 17 p)) {R : sProp 𝕄} {Q : (Σ' (_ : BitVec 32), BitVec 32) → sProp 𝕄} (hk : ∀ r, iprop(St KV Kn c ((evX 18 (evX 17 p)) 1) ∗ flashSt c (lAt KV c q 2 l) (aAt KV c q 2 a) ∗ qIn c q ∗ R) ⊢ Q r) :
    iprop(St KV Kn c (p 1) ∗ flashSt c l a ∗ qIn c q ∗ R) ⊢ wpc c (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v5 v8 v15 k0_h78) Q := by
  rw [k0_part38_eq_skeleton]; unfold k0_part38_skel
  refine recvX KV Kn c _ 1 hz 17 (by decide) hok.1 rfl ?_
  refine accStep KV Kn c _ 1 hz 2 (by decide) hok.2.1 q l a _ _ (by decide +kernel) _ (fun t => ⟨k0_off89 t, k0_off89_inb c t k0_h78, k0_off90 t, k0_off90_inb c t k0_h78, k0_off91 t, k0_off91_inb c t k0_h78, rfl, (by decide +kernel : ∀ t : Fin k0_t7_loop.trips, k0_off89 t = off4 (t.cast (by decide +kernel))) t, (by decide +kernel : ∀ t : Fin k0_t7_loop.trips, k0_off90 t = off5 2 (t.cast (by decide +kernel))) t, (by decide +kernel : ∀ t : Fin k0_t7_loop.trips, k0_off91 t = off3 (t.cast (by decide +kernel))) t⟩) ?_
  refine recvX KV Kn c _ 1 hz 18 (by decide) hok.2.2 rfl ?_
  exact done (hk _)

theorem part42 (c : Dev nD) (p : Ph) (hz : zc c = 2) (q : S2x8x64x512.Idx → Elt F .f32) (l : S16x1x512.Idx → Elt F .f32) (a : S2x8x64x512.Idx → Elt F .f32) (v5 v8 v15)
    (hok : okX 2 14 p) {R : sProp 𝕄} {Q : PUnit → sProp 𝕄} (hk : ∀ r, iprop(St KV Kn c ((evX 14 p) 2) ∗ flashSt c l a ∗ qIn c q ∗ R) ⊢ Q r) :
    iprop(St KV Kn c (p 2) ∗ flashSt c l a ∗ qIn c q ∗ R) ⊢ wpc c (k0_part42 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      v5 v8 v15) Q := by
  rw [k0_part42_eq_skeleton]; unfold k0_part42_skel
  refine recvX KV Kn c _ 2 hz 14 (by decide) hok rfl ?_
  exact done (hk _)

theorem part43 (c : Dev nD) (p : Ph) (hz : zc c = 2) (q : S2x8x64x512.Idx → Elt F .f32) (l : S16x1x512.Idx → Elt F .f32) (a : S2x8x64x512.Idx → Elt F .f32) (v5 v8 v15 k0_h79)
    (hok : okX 2 15 p ∧ okC 2 1 (evX 15 p) ∧ okX 2 18 (evX 15 p)) {R : sProp 𝕄} {Q : PUnit → sProp 𝕄} (hk : ∀ r, iprop(St KV Kn c ((evX 18 (evX 15 p)) 2) ∗ flashSt c (lAt KV c q 1 l) (aAt KV c q 1 a) ∗ qIn c q ∗ R) ⊢ Q r) :
    iprop(St KV Kn c (p 2) ∗ flashSt c l a ∗ qIn c q ∗ R) ⊢ wpc c (k0_part43 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v5 v8 v15 k0_h79) Q := by
  rw [k0_part43_eq_skeleton]; unfold k0_part43_skel
  refine recvX KV Kn c _ 2 hz 15 (by decide) hok.1 rfl ?_
  refine accStep KV Kn c _ 2 hz 1 (by decide) hok.2.1 q l a _ _ (by decide +kernel) _ (fun t => ⟨k0_off95 t, k0_off95_inb c t k0_h79, k0_off96 t, k0_off96_inb c t k0_h79, k0_off97 t, k0_off97_inb c t k0_h79, rfl, (by decide +kernel : ∀ t : Fin k0_t9_loop.trips, k0_off95 t = off4 (t.cast (by decide +kernel))) t, (by decide +kernel : ∀ t : Fin k0_t9_loop.trips, k0_off96 t = off5 1 (t.cast (by decide +kernel))) t, (by decide +kernel : ∀ t : Fin k0_t9_loop.trips, k0_off97 t = off3 (t.cast (by decide +kernel))) t⟩) ?_
  refine recvX KV Kn c _ 2 hz 18 (by decide) hok.2.2 rfl ?_
  exact done (hk _)

theorem part44 (c : Dev nD) (p : Ph) (hz : zc c = 2) (q : S2x8x64x512.Idx → Elt F .f32) (l : S16x1x512.Idx → Elt F .f32) (a : S2x8x64x512.Idx → Elt F .f32) (v5 v8 v15 k0_h79)
    (hok : okX 2 19 p ∧ okC 2 3 (evX 19 p) ∧ okX 2 12 (evX 19 p)) {R : sProp 𝕄} {Q : (Σ' (_ : BitVec 32), BitVec 32) → sProp 𝕄} (hk : ∀ r, iprop(St KV Kn c ((evX 12 (evX 19 p)) 2) ∗ flashSt c (lAt KV c q 3 l) (aAt KV c q 3 a) ∗ qIn c q ∗ R) ⊢ Q r) :
    iprop(St KV Kn c (p 2) ∗ flashSt c l a ∗ qIn c q ∗ R) ⊢ wpc c (k0_part44 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v5 v8 v15 k0_h79) Q := by
  rw [k0_part44_eq_skeleton]; unfold k0_part44_skel
  refine recvX KV Kn c _ 2 hz 19 (by decide) hok.1 rfl ?_
  refine accStep KV Kn c _ 2 hz 3 (by decide) hok.2.1 q l a _ _ (by decide +kernel) _ (fun t => ⟨k0_off98 t, k0_off98_inb c t k0_h79, k0_off99 t, k0_off99_inb c t k0_h79, k0_off100 t, k0_off100_inb c t k0_h79, rfl, (by decide +kernel : ∀ t : Fin k0_t10_loop.trips, k0_off98 t = off4 (t.cast (by decide +kernel))) t, (by decide +kernel : ∀ t : Fin k0_t10_loop.trips, k0_off99 t = off5 3 (t.cast (by decide +kernel))) t, (by decide +kernel : ∀ t : Fin k0_t10_loop.trips, k0_off100 t = off3 (t.cast (by decide +kernel))) t⟩) ?_
  refine recvX KV Kn c _ 2 hz 12 (by decide) hok.2.2 rfl ?_
  exact done (hk _)

theorem part48 (c : Dev nD) (p : Ph) (hz : zc c = 3) (q : S2x8x64x512.Idx → Elt F .f32) (l : S16x1x512.Idx → Elt F .f32) (a : S2x8x64x512.Idx → Elt F .f32) (v5 v8 v15)
    (hok : okX 3 16 p) {R : sProp 𝕄} {Q : PUnit → sProp 𝕄} (hk : ∀ r, iprop(St KV Kn c ((evX 16 p) 3) ∗ flashSt c l a ∗ qIn c q ∗ R) ⊢ Q r) :
    iprop(St KV Kn c (p 3) ∗ flashSt c l a ∗ qIn c q ∗ R) ⊢ wpc c (k0_part48 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      v5 v8 v15) Q := by
  rw [k0_part48_eq_skeleton]; unfold k0_part48_skel
  refine recvX KV Kn c _ 3 hz 16 (by decide) hok rfl ?_
  exact done (hk _)

theorem part49 (c : Dev nD) (p : Ph) (hz : zc c = 3) (q : S2x8x64x512.Idx → Elt F .f32) (l : S16x1x512.Idx → Elt F .f32) (a : S2x8x64x512.Idx → Elt F .f32) (v5 v8 v15 k0_h80)
    (hok : okX 3 17 p ∧ okC 3 2 (evX 17 p) ∧ okX 3 14 (evX 17 p)) {R : sProp 𝕄} {Q : PUnit → sProp 𝕄} (hk : ∀ r, iprop(St KV Kn c ((evX 14 (evX 17 p)) 3) ∗ flashSt c (lAt KV c q 2 l) (aAt KV c q 2 a) ∗ qIn c q ∗ R) ⊢ Q r) :
    iprop(St KV Kn c (p 3) ∗ flashSt c l a ∗ qIn c q ∗ R) ⊢ wpc c (k0_part49 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v5 v8 v15 k0_h80) Q := by
  rw [k0_part49_eq_skeleton]; unfold k0_part49_skel
  refine recvX KV Kn c _ 3 hz 17 (by decide) hok.1 rfl ?_
  refine accStep KV Kn c _ 3 hz 2 (by decide) hok.2.1 q l a _ _ (by decide +kernel) _ (fun t => ⟨k0_off104 t, k0_off104_inb c t k0_h80, k0_off105 t, k0_off105_inb c t k0_h80, k0_off106 t, k0_off106_inb c t k0_h80, rfl, (by decide +kernel : ∀ t : Fin k0_t12_loop.trips, k0_off104 t = off4 (t.cast (by decide +kernel))) t, (by decide +kernel : ∀ t : Fin k0_t12_loop.trips, k0_off105 t = off5 2 (t.cast (by decide +kernel))) t, (by decide +kernel : ∀ t : Fin k0_t12_loop.trips, k0_off106 t = off3 (t.cast (by decide +kernel))) t⟩) ?_
  refine recvX KV Kn c _ 3 hz 14 (by decide) hok.2.2 rfl ?_
  exact done (hk _)

theorem part50 (c : Dev nD) (p : Ph) (hz : zc c = 3) (q : S2x8x64x512.Idx → Elt F .f32) (l : S16x1x512.Idx → Elt F .f32) (a : S2x8x64x512.Idx → Elt F .f32) (v5 v8 v15 k0_h80)
    (hok : okX 3 15 p ∧ okC 3 1 (evX 15 p) ∧ okX 3 12 (evX 15 p)) {R : sProp 𝕄} {Q : (Σ' (_ : BitVec 32), BitVec 32) → sProp 𝕄} (hk : ∀ r, iprop(St KV Kn c ((evX 12 (evX 15 p)) 3) ∗ flashSt c (lAt KV c q 1 l) (aAt KV c q 1 a) ∗ qIn c q ∗ R) ⊢ Q r) :
    iprop(St KV Kn c (p 3) ∗ flashSt c l a ∗ qIn c q ∗ R) ⊢ wpc c (k0_part50 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
      c v5 v8 v15 k0_h80) Q := by
  rw [k0_part50_eq_skeleton]; unfold k0_part50_skel
  refine recvX KV Kn c _ 3 hz 15 (by decide) hok.1 rfl ?_
  refine accStep KV Kn c _ 3 hz 1 (by decide) hok.2.1 q l a _ _ (by decide +kernel) _ (fun t => ⟨k0_off107 t, k0_off107_inb c t k0_h80, k0_off108 t, k0_off108_inb c t k0_h80, k0_off109 t, k0_off109_inb c t k0_h80, rfl, (by decide +kernel : ∀ t : Fin k0_t13_loop.trips, k0_off107 t = off4 (t.cast (by decide +kernel))) t, (by decide +kernel : ∀ t : Fin k0_t13_loop.trips, k0_off108 t = off5 1 (t.cast (by decide +kernel))) t, (by decide +kernel : ∀ t : Fin k0_t13_loop.trips, k0_off109 t = off3 (t.cast (by decide +kernel))) t⟩) ?_
  refine recvX KV Kn c _ 3 hz 12 (by decide) hok.2.2 rfl ?_
  exact done (hk _)

end Cert.KProof

end
-- ==== Proof.Body.lean ====
/-
  The whole body of the kernel on one device.
-/
module

public import proofs.«01_k».proof.Proof.Bar
public import proofs.«01_k».proof.Proof.Branches

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

/-! ## The phases after the exchange -/

def ph3 : Ph := fun z k => if act z k = true ∧ k.1 = true ∧ 12 ≤ k.2.val then 1 else ph2 z k
def pd4 (p : Ph) : Ph := evD 15 (evD 14 (evD 13 (evD 12 p)))
def ph4 : Ph := evD 19 (evD 18 (evD 17 (evD 16 (pd4 ph3))))

theorem xdr : ∀ (c : Dev nD) (o : Fin 4) (h : Fin 2), Scalar.cmpi .ne (Scalar.extui (Scalar.cmpi .ne (W8 c) (BitVec.ofNat 32 o.val)) : BitVec 32) 0#32 = 1#1 ↔ actS (zc c) ⟨12 + 2 * o.val + h.val, by omega⟩ = true := by decide +kernel

section Stages
/-- What the first half of the devices does, then what the second half does. -/
theorem step_fst {β : Type} {c : Dev nD} {S S' : sProp 𝕄} {cond : Prop} [Decidable cond] {A : cond → Prog (TpuEff nD τ sig (Elt F) Λ₀ .tc) β}
    {k : Prog (TpuEff nD τ sig (Elt F) Λ₀ .tc) β} {Q : β → sProp 𝕄} (hc : cond ↔ bx c = false) (hA : ∀ h, (S' ⊢ wpc c k Q) → S ⊢ wpc c (A h) Q) (hk : (if bx c = false then S' else S) ⊢ wpc c k Q) :
    S ⊢ wpc c (dite cond A fun _ => k) Q := by
  by_cases h : cond
  · rw [dif_pos h]; rw [if_pos (hc.mp h)] at hk; exact hA h hk
  · rw [dif_neg h]; rw [if_neg (fun hb => h (hc.mpr hb))] at hk; exact hk
theorem step_snd {β : Type} {c : Dev nD} {S S' : sProp 𝕄} {cond : Prop} [Decidable cond] {A : cond → Prog (TpuEff nD τ sig (Elt F) Λ₀ .tc) β}
    {k : Prog (TpuEff nD τ sig (Elt F) Λ₀ .tc) β} {Q : β → sProp 𝕄} (hc : cond ↔ bx c = true) (hA : ∀ h, (S' ⊢ wpc c k Q) → S ⊢ wpc c (A h) Q) (hk : S' ⊢ wpc c k Q) :
    (if bx c = false then S' else S) ⊢ wpc c (dite cond A fun _ => k) Q := by
  by_cases h : cond
  · rw [dif_pos h, if_neg (by rw [hc.mp h]; decide)]; exact hA h hk
  · rw [dif_neg h, if_pos ((Bool.eq_false_or_eq_true (bx c)).resolve_left (fun hb => h (hc.mpr hb)))]; exact hk
/-- What the devices of one z position do. -/
theorem step_z {β : Type} {c : Dev nD} {S S' : sProp 𝕄} {cond : Prop} [Decidable cond] {A : cond → Prog (TpuEff nD τ sig (Elt F) Λ₀ .tc) β}
    {k : Prog (TpuEff nD τ sig (Elt F) Λ₀ .tc) β} {Q : β → sProp 𝕄} (i : ℕ) (hc : cond ↔ (zc c).val = i) (hA : ∀ h, (S' ⊢ wpc c k Q) → S ⊢ wpc c (A h) Q) (hk : (if (zc c).val < i + 1 then S' else S) ⊢ wpc c k Q) :
    (if (zc c).val < i then S' else S) ⊢ wpc c (dite cond A fun _ => k) Q := by
  by_cases h : cond
  · have hz := hc.mp h
    rw [dif_pos h, if_neg (by omega)]
    rw [if_pos (by omega)] at hk
    exact hA h hk
  · rw [dif_neg h]
    have hz : (zc c).val ≠ i := fun e => h (hc.mpr e)
    by_cases hlt : (zc c).val < i
    · rw [if_pos hlt]; rw [if_pos (by omega)] at hk; exact hk
    · rw [if_neg hlt]; rw [if_neg (by omega)] at hk; exact hk
end Stages

/-! ## The results -/

/-- The order in which a z position takes the chunks received. -/
def ord : Fin 4 → Fin 3 → Fin 4 := ![![1, 2, 3], ![0, 2, 3], ![1, 3, 0], ![2, 1, 0]]
/-- The row sums and the weighted sums over the own chunk and the first two received. -/
def lV (c : Dev nD) (q : S2x8x64x512.Idx → Elt F .f32) (o : Fin 3 → Fin 4) : S16x1x512.Idx → Elt F .f32 :=
  lAt KV c q (o 1) (lAt KV c q (o 0) (ownL q (KV false c)))
def aV (c : Dev nD) (q : S2x8x64x512.Idx → Elt F .f32) (o : Fin 3 → Fin 4) : S2x8x64x512.Idx → Elt F .f32 :=
  aAt KV c q (o 1) (aAt KV c q (o 0) (ownA q (KV false c) (KV true c)))
/-- What a device writes. -/
def outV (c : Dev nD) (q : S2x8x64x512.Idx → Elt F .f32) : S2x8x64x512.Idx → Elt F .f32 :=
  oAt KV c q (ord (zc c) 2) (lV KV c q (ord (zc c))) (aV KV c q (ord (zc c)))
theorem outV_at (c : Dev nD) (q : S2x8x64x512.Idx → Elt F .f32) {z : Fin 4} (hz : zc c = z) : outV KV c q = oAt KV c q (ord z 2) (lV KV c q (ord z)) (aV KV c q (ord z)) := by
  subst hz; rfl

/-! ## The stages of the body -/

section
/-- Before the exchange, after it, and once the output is written. -/
def S0 (c : Dev nD) (q r : S2x8x64x512.Idx → Elt F .f32) (R : sProp 𝕄) (l : S16x1x512.Idx → Elt F .f32) (a : S2x8x64x512.Idx → Elt F .f32) : sProp 𝕄 :=
  iprop(St KV Kn c (ph0 (zc c)) ∗ flashSt c l a ∗ qIn c q ∗ ownP KV c ∗ oOut c r ∗ R)
def S1 (c : Dev nD) (q r : S2x8x64x512.Idx → Elt F .f32) (R : sProp 𝕄): sProp 𝕄 :=
  iprop(St KV Kn c (ph2 (zc c)) ∗ flashSt c (ownL q (KV false c)) (ownA q (KV false c) (KV true c)) ∗ qIn c q ∗ oOut c r ∗ ownP KV c ∗ R)
def S2 (c : Dev nD) (q : S2x8x64x512.Idx → Elt F .f32) (R : sProp 𝕄) (p : Ph) : sProp 𝕄 :=
  iprop(St KV Kn c (p (zc c)) ∗ (∃ l a, flashSt c l a) ∗ qIn c q ∗ oOut c (outV KV c q) ∗ ownP KV c ∗ R)

theorem S1_of (c : Dev nD) (q r : S2x8x64x512.Idx → Elt F .f32) (R : sProp 𝕄) : iprop(St KV Kn c (ph2 (zc c)) ∗ flashSt c (ownL q (KV false c)) (ownA q (KV false c) (KV true c)) ∗ qIn c q ∗ ownP KV c ∗ oOut c r ∗ R) ⊢ S1 KV Kn c q r R := by
  unfold S1
  iintro ⟨H1, H2, H3, H4, H5, H6⟩
  isplitl [H1]; · iexact H1
  isplitl [H2]; · iexact H2
  isplitl [H3]; · iexact H3
  isplitl [H5]; · iexact H5
  isplitl [H4]; · iexact H4
  iexact H6
theorem S2_of (c : Dev nD) (q : S2x8x64x512.Idx → Elt F .f32) (R : sProp 𝕄) {z : Fin 4} (hz : zc c = z) {f : K → Fin 4} (hf : f = ph3 z) {l : S16x1x512.Idx → Elt F .f32} {a : S2x8x64x512.Idx → Elt F .f32} {v : S2x8x64x512.Idx → Elt F .f32}
    (hv : v = oAt KV c q (ord z 2) (lV KV c q (ord z)) (aV KV c q (ord z))) :
    iprop(St KV Kn c f ∗ flashSt c l a ∗ qIn c q ∗ oOut c v ∗ ownP KV c ∗ R) ⊢ S2 KV Kn c q R ph3 := by
  unfold S2
  rw [hf, hv, ← outV_at KV c q hz, hz]
  iintro ⟨H1, H2, H3, H4, H5, H6⟩
  isplitl [H1]; · iexact H1
  isplitl [H2]; · iexists _, _; iexact H2
  isplitl [H3]; · iexact H3
  isplitl [H4]; · iexact H4
  isplitl [H5]; · iexact H5
  iexact H6
end

/-- The first waits for the sends across x. -/
theorem part51 (c : Dev nD) (p : Ph) (hok : okD 12 p ∧ okD 13 (evD 12 p) ∧ okD 14 (evD 13 (evD 12 p)) ∧ okD 15 (evD 14 (evD 13 (evD 12 p)))) {R : sProp 𝕄} {Q : BitVec 32 → sProp 𝕄}
    (hk : ∀ r, (Scalar.cmpi .ne r 0#32 = 1#1 ↔ actS (zc c) 16 = true) → iprop(St KV Kn c (pd4 p (zc c)) ∗ R) ⊢ Q r) :
    iprop(St KV Kn c (p (zc c)) ∗ R) ⊢ wpc c (k0_part51 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (W8 c)) Q := by
  rw [k0_part51_eq_skeleton]; unfold k0_part51_skel
  refine drain KV Kn c p false 12 (xdr c 0 0) hok.1 (fun _ => rfl) ?_
  refine drain KV Kn c _ false 13 (xdr c 0 1) hok.2.1 (fun _ => rfl) ?_
  refine drain KV Kn c _ false 14 (xdr c 1 0) hok.2.2.1 (fun _ => rfl) ?_
  refine drain KV Kn c _ false 15 (xdr c 1 1) hok.2.2.2 (fun _ => rfl) ?_
  exact done (hk _ (xdr c 2 0))

/-- The first waits for the sends across x. -/
theorem part52 (c : Dev nD) (p : Ph) (hok : okD 12 p ∧ okD 13 (evD 12 p) ∧ okD 14 (evD 13 (evD 12 p)) ∧ okD 15 (evD 14 (evD 13 (evD 12 p)))) {R : sProp 𝕄} {Q : BitVec 32 → sProp 𝕄}
    (hk : ∀ r, (Scalar.cmpi .ne r 0#32 = 1#1 ↔ actS (zc c) 16 = true) → iprop(St KV Kn c (pd4 p (zc c)) ∗ R) ⊢ Q r) :
    iprop(St KV Kn c (p (zc c)) ∗ R) ⊢ wpc c (k0_part52 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (W8 c)) Q := by
  rw [k0_part52_eq_skeleton]; unfold k0_part52_skel
  refine drain KV Kn c p true 12 (xdr c 0 0) hok.1 (fun _ => rfl) ?_
  refine drain KV Kn c _ true 13 (xdr c 0 1) hok.2.1 (fun _ => rfl) ?_
  refine drain KV Kn c _ true 14 (xdr c 1 0) hok.2.2.1 (fun _ => rfl) ?_
  refine drain KV Kn c _ true 15 (xdr c 1 1) hok.2.2.2 (fun _ => rfl) ?_
  exact done (hk _ (xdr c 2 0))

theorem okB : okD 12 ph3 ∧ okD 13 (evD 12 ph3) ∧ okD 14 (evD 13 (evD 12 ph3)) ∧ okD 15 (evD 14 (evD 13 (evD 12 ph3))) := by decide +kernel
theorem okB' : okD 16 (pd4 ph3) ∧ okD 17 (evD 16 (pd4 ph3)) ∧ okD 18 (evD 17 (evD 16 (pd4 ph3))) ∧ okD 19 (evD 18 (evD 17 (evD 16 (pd4 ph3)))) := by decide +kernel

set_option maxHeartbeats 2000000 in
/-- The body on a device. -/
theorem body (c : Dev nD) (q r : S2x8x64x512.Idx → Elt F .f32) (l : S16x1x512.Idx → Elt F .f32) (a : S2x8x64x512.Idx → Elt F .f32) {R : sProp 𝕄} {Q : PUnit → sProp 𝕄}
    (hk : S2 KV Kn c q iprop(semVal (bar c) 0 ∗ R) ph4 ⊢ Q ⟨⟩) :
    iprop(Start KV Kn c ∗ flashSt c l a ∗ qIn c q ∗ ownP KV c ∗ oOut c r ∗ R) ⊢ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) Q := by
  rw [cc0_body_eq_skeleton]; unfold cc0_body_skel
  refine call (part53 KV Kn c fun v5 v12 v14 v15 v31 => ?_)
  dsimp only
  refine .trans (Q := S0 KV Kn c q r iprop(semVal (bar c) 0 ∗ R) l a) ?_ ?_
  · unfold S0
    iintro ⟨H1, H2, H3, H4, H5, H6, H7⟩
    isplitl [H1]; · iexact H1
    isplitl [H3]; · iexact H3
    isplitl [H4]; · iexact H4
    isplitl [H5]; · iexact H5
    isplitl [H6]; · iexact H6
    isplitl [H2]; · iexact H2
    iexact H7
  refine step_fst (S' := S1 KV Kn c q r iprop(semVal (bar c) 0 ∗ R)) ((by decide +kernel : ∀ c, k0_cond3 c = 1#1 ↔ bx c = false) c) (fun h hk => ?_) ?_
  · have hb := ((by decide +kernel : ∀ c, k0_cond3 c = 1#1 ↔ bx c = false) c).mp h
    unfold S0
    refine call (part13 KV Kn c hb q l a _ v5 _ _ _ v12 v14 v15 h rfl rfl rfl fun r hr => ?_)
    refine drain KV Kn c pa13 false 11 hr ok14 (fun _ => rfl) ?_
    rw [pa_end]
    exact (S1_of KV Kn c q _ _).trans hk
  refine step_snd ((by decide +kernel : ∀ c, k0_cond40 c = 1#1 ↔ bx c = true) c) (fun h hk => ?_) ?_
  · have hb := ((by decide +kernel : ∀ c, k0_cond40 c = 1#1 ↔ bx c = true) c).mp h
    unfold S0
    refine call (part26 KV Kn c hb q l a _ v5 _ _ _ v12 v14 v15 h rfl rfl rfl fun r hr => ?_)
    refine drain KV Kn c pa13 true 11 hr ok14 (fun _ => rfl) ?_
    rw [pa_end]
    exact (S1_of KV Kn c q _ _).trans hk
  refine .trans (Entails.of_eq (if_neg (Nat.not_lt_zero (zc c).val) : (if (zc c).val < 0 then S2 KV Kn c q iprop(semVal (bar c) 0 ∗ R) ph3 else S1 KV Kn c q r iprop(semVal (bar c) 0 ∗ R)) = _).symm) ?_
  refine step_z 0 ((by decide +kernel : ∀ c, k0_cond77 c = 1#1 ↔ (zc c).val = 0) c) (fun h hk => ?_) ?_
  · have hz : zc c = 0 := Fin.ext (((by decide +kernel : ∀ c, k0_cond77 c = 1#1 ↔ (zc c).val = 0) c).mp h)
    unfold S1
    rw [hz]
    refine call (part30 KV Kn c ph2 hz q _ _ v5 _ v15 (by decide +kernel) fun _ => ?_)
    refine call (part31 KV Kn c (evX 14 ph2) hz q _ _ v5 _ v15 h (by decide +kernel) fun _ => ?_)
    refine call (part32 KV Kn c (evX 16 (evX 15 (evX 14 ph2))) hz q _ _ v5 _ v15 h (by decide +kernel) fun r => ?_)
    obtain ⟨r1, r2⟩ := r
    refine recvX KV Kn c (evX 18 (evX 17 (evX 16 (evX 15 (evX 14 ph2))))) 0 hz 19 (by decide) (by decide +kernel) rfl ?_
    refine finStep KV Kn c (evX 19 (evX 18 (evX 17 (evX 16 (evX 15 (evX 14 ph2)))))) 0 hz 3 (by decide) (by decide +kernel) q _ _ _ _ (by decide +kernel) _ _ (fun t => ⟨k0_off83 t, k0_off83_inb c t h, k0_off84 t, k0_off84_inb c t h, k0_off85 t, k0_off85_inb c t h, rfl, (by decide +kernel : ∀ t : Fin k0_t5_loop.trips, k0_off83 t = off4 (t.cast (by decide +kernel))) t, (by decide +kernel : ∀ t : Fin k0_t5_loop.trips, k0_off84 t = off5 3 (t.cast (by decide +kernel))) t, (by decide +kernel : ∀ t : Fin k0_t5_loop.trips, k0_off85 t = off3 (t.cast (by decide +kernel))) t⟩) ?_
    exact (S2_of KV Kn c q _ hz (funext fun k => (by decide +kernel : ∀ k, (evX 19 (evX 18 (evX 17 (evX 16 (evX 15 (evX 14 ph2)))))) 0 k = ph3 0 k) k) rfl).trans hk
  refine step_z 1 ((by decide +kernel : ∀ c, k0_cond78 c = 1#1 ↔ (zc c).val = 1) c) (fun h hk => ?_) ?_
  · have hz : zc c = 1 := Fin.ext (((by decide +kernel : ∀ c, k0_cond78 c = 1#1 ↔ (zc c).val = 1) c).mp h)
    unfold S1
    rw [hz]
    refine call (part36 KV Kn c ph2 hz q _ _ v5 _ v15 (by decide +kernel) fun _ => ?_)
    refine call (part37 KV Kn c (evX 12 ph2) hz q _ _ v5 _ v15 h (by decide +kernel) fun _ => ?_)
    refine call (part38 KV Kn c (evX 16 (evX 13 (evX 12 ph2))) hz q _ _ v5 _ v15 h (by decide +kernel) fun r => ?_)
    obtain ⟨r1, r2⟩ := r
    refine recvX KV Kn c (evX 18 (evX 17 (evX 16 (evX 13 (evX 12 ph2))))) 1 hz 19 (by decide) (by decide +kernel) rfl ?_
    refine finStep KV Kn c (evX 19 (evX 18 (evX 17 (evX 16 (evX 13 (evX 12 ph2)))))) 1 hz 3 (by decide) (by decide +kernel) q _ _ _ _ (by decide +kernel) _ _ (fun t => ⟨k0_off92 t, k0_off92_inb c t h, k0_off93 t, k0_off93_inb c t h, k0_off94 t, k0_off94_inb c t h, rfl, (by decide +kernel : ∀ t : Fin k0_t8_loop.trips, k0_off92 t = off4 (t.cast (by decide +kernel))) t, (by decide +kernel : ∀ t : Fin k0_t8_loop.trips, k0_off93 t = off5 3 (t.cast (by decide +kernel))) t, (by decide +kernel : ∀ t : Fin k0_t8_loop.trips, k0_off94 t = off3 (t.cast (by decide +kernel))) t⟩) ?_
    exact (S2_of KV Kn c q _ hz (funext fun k => (by decide +kernel : ∀ k, (evX 19 (evX 18 (evX 17 (evX 16 (evX 13 (evX 12 ph2)))))) 1 k = ph3 1 k) k) rfl).trans hk
  refine step_z 2 ((by decide +kernel : ∀ c, k0_cond79 c = 1#1 ↔ (zc c).val = 2) c) (fun h hk => ?_) ?_
  · have hz : zc c = 2 := Fin.ext (((by decide +kernel : ∀ c, k0_cond79 c = 1#1 ↔ (zc c).val = 2) c).mp h)
    unfold S1
    rw [hz]
    refine call (part42 KV Kn c ph2 hz q _ _ v5 _ v15 (by decide +kernel) fun _ => ?_)
    refine call (part43 KV Kn c (evX 14 ph2) hz q _ _ v5 _ v15 h (by decide +kernel) fun _ => ?_)
    refine call (part44 KV Kn c (evX 18 (evX 15 (evX 14 ph2))) hz q _ _ v5 _ v15 h (by decide +kernel) fun r => ?_)
    obtain ⟨r1, r2⟩ := r
    refine recvX KV Kn c (evX 12 (evX 19 (evX 18 (evX 15 (evX 14 ph2))))) 2 hz 13 (by decide) (by decide +kernel) rfl ?_
    refine finStep KV Kn c (evX 13 (evX 12 (evX 19 (evX 18 (evX 15 (evX 14 ph2)))))) 2 hz 0 (by decide) (by decide +kernel) q _ _ _ _ (by decide +kernel) _ _ (fun t => ⟨k0_off101 t, k0_off101_inb c t h, k0_off102 t, k0_off102_inb c t h, k0_off103 t, k0_off103_inb c t h, rfl, (by decide +kernel : ∀ t : Fin k0_t11_loop.trips, k0_off101 t = off4 (t.cast (by decide +kernel))) t, (by decide +kernel : ∀ t : Fin k0_t11_loop.trips, k0_off102 t = off5 0 (t.cast (by decide +kernel))) t, (by decide +kernel : ∀ t : Fin k0_t11_loop.trips, k0_off103 t = off3 (t.cast (by decide +kernel))) t⟩) ?_
    exact (S2_of KV Kn c q _ hz (funext fun k => (by decide +kernel : ∀ k, (evX 13 (evX 12 (evX 19 (evX 18 (evX 15 (evX 14 ph2)))))) 2 k = ph3 2 k) k) rfl).trans hk
  refine step_z 3 ((by decide +kernel : ∀ c, k0_cond80 c = 1#1 ↔ (zc c).val = 3) c) (fun h hk => ?_) ?_
  · have hz : zc c = 3 := Fin.ext (((by decide +kernel : ∀ c, k0_cond80 c = 1#1 ↔ (zc c).val = 3) c).mp h)
    unfold S1
    rw [hz]
    refine call (part48 KV Kn c ph2 hz q _ _ v5 _ v15 (by decide +kernel) fun _ => ?_)
    refine call (part49 KV Kn c (evX 16 ph2) hz q _ _ v5 _ v15 h (by decide +kernel) fun _ => ?_)
    refine call (part50 KV Kn c (evX 14 (evX 17 (evX 16 ph2))) hz q _ _ v5 _ v15 h (by decide +kernel) fun r => ?_)
    obtain ⟨r1, r2⟩ := r
    refine recvX KV Kn c (evX 12 (evX 15 (evX 14 (evX 17 (evX 16 ph2))))) 3 hz 13 (by decide) (by decide +kernel) rfl ?_
    refine finStep KV Kn c (evX 13 (evX 12 (evX 15 (evX 14 (evX 17 (evX 16 ph2)))))) 3 hz 0 (by decide) (by decide +kernel) q _ _ _ _ (by decide +kernel) _ _ (fun t => ⟨k0_off110 t, k0_off110_inb c t h, k0_off111 t, k0_off111_inb c t h, k0_off112 t, k0_off112_inb c t h, rfl, (by decide +kernel : ∀ t : Fin k0_t14_loop.trips, k0_off110 t = off4 (t.cast (by decide +kernel))) t, (by decide +kernel : ∀ t : Fin k0_t14_loop.trips, k0_off111 t = off5 0 (t.cast (by decide +kernel))) t, (by decide +kernel : ∀ t : Fin k0_t14_loop.trips, k0_off112 t = off3 (t.cast (by decide +kernel))) t⟩) ?_
    exact (S2_of KV Kn c q _ hz (funext fun k => (by decide +kernel : ∀ k, (evX 13 (evX 12 (evX 15 (evX 14 (evX 17 (evX 16 ph2)))))) 3 k = ph3 3 k) k) rfl).trans hk
  rw [if_pos (zc c).isLt]
  refine step_fst (S' := S2 KV Kn c q iprop(semVal (bar c) 0 ∗ R) ph4) ((by decide +kernel : ∀ c, Scalar.cmpi .ne (Scalar.extui (Scalar.cmpi .eq (W2 c) 0#32) : BitVec 32) 0#32 = 1#1 ↔ bx c = false) c) (fun h hk => ?_) ?_
  · unfold S2
    refine call (part51 KV Kn c ph3 okB fun r hr => ?_)
    refine drain KV Kn c (pd4 ph3) false 16 hr okB'.1 (fun _ => rfl) ?_
    refine drain KV Kn c _ false 17 (xdr c 2 1) okB'.2.1 (fun _ => rfl) ?_
    refine drain KV Kn c _ false 18 (xdr c 3 0) okB'.2.2.1 (fun _ => rfl) ?_
    refine drain KV Kn c _ false 19 (xdr c 3 1) okB'.2.2.2 (fun _ => rfl) ?_
    exact hk
  refine step_snd ((by decide +kernel : ∀ c, Scalar.cmpi .ne (Scalar.extui (Scalar.cmpi .eq (W2 c) 1#32) : BitVec 32) 0#32 = 1#1 ↔ bx c = true) c) (fun h hk => ?_) ?_
  · unfold S2
    refine call (part52 KV Kn c ph3 okB fun r hr => ?_)
    refine drain KV Kn c (pd4 ph3) true 16 hr okB'.1 (fun _ => rfl) ?_
    refine drain KV Kn c _ true 17 (xdr c 2 1) okB'.2.1 (fun _ => rfl) ?_
    refine drain KV Kn c _ true 18 (xdr c 3 0) okB'.2.2.1 (fun _ => rfl) ?_
    refine drain KV Kn c _ true 19 (xdr c 3 1) okB'.2.2.2 (fun _ => rfl) ?_
    exact hk
  exact done hk

end Cert.KProof

end
-- ==== Proof.Split.lean ====
/-
  The device's own blocks and landing buffers, taken apart before the exchange and put together after it.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

/-! ## The places of the pieces -/

theorem stg_mem (b : Bool) (h : Fin 2) {i} (hi : i ∈ (stgM b h).view.set) : ∃ j m n, i = (stg b).view.emb (ix4 h j m n) := by
  obtain ⟨y, -, rfl⟩ := Finset.mem_map.mp hi
  exact ⟨y 0, y 1, y 2, (congrArg (stgM b h).view.emb (ix3_eta y)).symm.trans (stg_emb b h (y 0) (y 1) (y 2))⟩
theorem slot_mem (b : Bool) (o : Fin 4) (h : Fin 2) {i} (hi : i ∈ (slotM b o h).view.set) : ∃ j m n, i = (sbuf b).view.emb (ix5 o h j m n) := by
  obtain ⟨y, -, rfl⟩ := Finset.mem_map.mp hi
  exact ⟨y 0, y 1, y 2, (congrArg (slotM b o h).view.emb (ix3_eta y)).symm.trans (slot_emb b o h (y 0) (y 1) (y 2))⟩

theorem stg_in (b : Bool) (h : Fin 2) (j : Fin 8) (m : Fin 64) (n : Fin 512) : (stg b).view.emb (ix4 h j m n) ∈ (stgM b h).view.set := by
  rw [← stg_emb]; exact View.emb_mem_set _ _
theorem slot_in (b : Bool) (o : Fin 4) (h : Fin 2) (j : Fin 8) (m : Fin 64) (n : Fin 512) : (sbuf b).view.emb (ix5 o h j m n) ∈ (slotM b o h).view.set := by
  rw [← slot_emb]; exact View.emb_mem_set _ _

abbrev stgS (b : Bool) (h : Fin 2) : Finset (stg b).view.ty.Idx := (stgM b h).view.set
theorem stg_disj (b : Bool) : Disjoint (stgS b 0) (stgS b 1) := by
  refine Finset.disjoint_left.mpr fun i h0 h1 => ?_
  obtain ⟨j, m, n, rfl⟩ := stg_mem b 0 h0
  obtain ⟨j', m', n', e⟩ := stg_mem b 1 h1
  exact absurd (show (0 : Fin 2) = 1 from congrFun ((stg b).view.emb.injective e) 0) (by decide)
theorem stg_all (b : Bool) : stgS b 0 ∪ stgS b 1 = (stg b).view.set := by
  ext i
  constructor
  · intro hi
    rcases Finset.mem_union.mp hi with hi | hi
    · obtain ⟨j, m, n, rfl⟩ := stg_mem b 0 hi; exact View.emb_mem_set _ _
    · obtain ⟨j, m, n, rfl⟩ := stg_mem b 1 hi; exact View.emb_mem_set _ _
  · intro hi
    obtain ⟨x, -, rfl⟩ := Finset.mem_map.mp hi
    have e : x = ix4 (x 0) (x 1) (x 2) (x 3) := (ix4_eta x).symm
    rcases (show x 0 = (0 : Fin 2) ∨ x 0 = (1 : Fin 2) from (by decide : ∀ h : Fin 2, h = 0 ∨ h = 1) (x 0)) with h | h <;> rw [h] at e <;> rw [e] <;> refine Finset.mem_union.mpr ?_
    · exact .inl (stg_in b 0 (x 1) (x 2) (x 3))
    · exact .inr (stg_in b 1 (x 1) (x 2) (x 3))

abbrev slotS (b : Bool) (t : Fin 4 × Fin 2) : Finset (sbuf b).view.ty.Idx := (slotM b t.1 t.2).view.set
theorem slot_disj (b : Bool) (t t' : Fin 4 × Fin 2) (h : t ≠ t') : Disjoint (slotS b t) (slotS b t') := by
  refine Finset.disjoint_left.mpr fun i h0 h1 => ?_
  obtain ⟨j, m, n, rfl⟩ := slot_mem b _ _ h0
  obtain ⟨j', m', n', e⟩ := slot_mem b _ _ h1
  have e' := (sbuf b).view.emb.injective e
  exact h (Prod.ext (congrFun e' 0) (congrFun e' 1))
theorem slot_all (b : Bool) (i : (sbuf b).view.ty.Idx) : i ∈ (sbuf b).view.set ↔ ∃ t, i ∈ slotS b t := by
  constructor
  · intro hi
    obtain ⟨x, -, rfl⟩ := Finset.mem_map.mp hi
    refine ⟨(x 0, x 1), ?_⟩
    have e : x = ix5 (x 0) (x 1) (x 2) (x 3) (x 4) := (ix5_eta x).symm
    rw [e]
    exact slot_in b (x 0) (x 1) (x 2) (x 3) (x 4)
  · rintro ⟨t, hi⟩
    obtain ⟨j, m, n, rfl⟩ := slot_mem b _ _ hi
    exact View.emb_mem_set _ _

/-! ## The staged blocks -/

section Stage
variable (c : Dev nD)

/-- The staged block of kind `b`, whole. -/
def stW (b : Bool) : sProp 𝕄 := match b with
  | false => (Memref.whole cc0_stg1_0).view.loc (c : Thread nD τ) ↦[(stg false).view.set]{fullShare} (KV false c)
  | true => (Memref.whole cc0_stg2_0).view.loc (c : Thread nD τ) ↦[(stg true).view.set]{fullShare} (KV true c)

/-- Both halves at one share. -/
def stH (b : Bool) (q : PosShare TreeShare) : sProp 𝕄 := iprop(pts c (stgM b 0) q (blk KV b c 0) ∗ pts c (stgM b 1) q (blk KV b c 1))

theorem stW_full (b : Bool) : (stW KV c b : sProp 𝕄) ⊣⊢ stH KV c b fullShare := by
  cases b
  · unfold stW stH
    rw [pts_stg_k, pts_stg_k, ← stg_all false]
    exact pointsTo_union (stg_disj false)
  · unfold stW stH
    rw [pts_stg_v, pts_stg_v, ← stg_all true]
    exact pointsTo_union (stg_disj true)

theorem stW_split (b : Bool) : (stW KV c b : sProp 𝕄) ⊣⊢ iprop((stH KV c b qL ∗ stH KV c b qM) ∗ stH KV c b qR) := by
  refine (stW_full KV c b).trans ?_
  unfold stH
  constructor
  · refine (BIClass.sep_mono (pts_split c _ _).1 (pts_split c _ _).1).trans ?_
    iintro ⟨⟨H1, H2, H3⟩, H4, H5, H6⟩
    isplitl [H1 H4 H2 H5]
    · isplitl [H1 H4]
      · isplitl [H1]; · iexact H1
        iexact H4
      isplitl [H2]; · iexact H2
      iexact H5
    isplitl [H3]; · iexact H3
    iexact H6
  · refine BIBase.Entails.trans ?_ (BIClass.sep_mono (pts_split c _ _).2 (pts_split c _ _).2)
    iintro ⟨⟨⟨H1, H4⟩, H2, H5⟩, H3, H6⟩
    isplitl [H1 H2 H3]
    · isplitl [H1]; · iexact H1
      isplitl [H2]; · iexact H2
      iexact H3
    isplitl [H4]; · iexact H4
    isplitl [H5]; · iexact H5
    iexact H6

omit [FloatOps F] in
theorem assoc4 (A B C D : sProp 𝕄) : iprop(A ∗ B ∗ C ∗ D) = iprop((A ∗ B) ∗ C ∗ D) := by
  have h : iprop((A ∗ B) ∗ C ∗ D) ⊣⊢ iprop(A ∗ B ∗ C ∗ D) := Laws.sep_assoc
  exact (BI.equiv_iff.mp ⟨h.1, h.2⟩).symm

/-- The own sends of the own block. -/
abbrev own4 : Finset X := Finset.univ.filter fun x : X => x.val < 12 ∧ st x = 0
theorem srcPts_own (x : X) (hx : x.val < 12 ∧ st x = 0) : srcPts KV c x = pts c (stgM (bx c) (hf x)) (shS x) (blk KV (bx c) c (hf x)) := by
  have h := oS_own (zc c) x hx.1 hx.2
  unfold srcPts srcM sv
  rw [if_pos h, h, src_self]

theorem own4_srcs : bigSep own4 (fun x => srcPts KV c x) = iprop(stH KV c (bx c) qL ∗ stH KV c (bx c) qM) := by
  have e : bigSep own4 (fun x => srcPts KV c x) = iprop(srcPts KV c 0 ∗ srcPts KV c 1 ∗ srcPts KV c 6 ∗ srcPts KV c 7) :=
    bigSep_eq_bigSepL_of_eq [(0 : X), 1, 6, 7] (by decide) (by decide) _
  rw [e, srcPts_own KV c 0 (by decide), srcPts_own KV c 1 (by decide), srcPts_own KV c 6 (by decide), srcPts_own KV c 7 (by decide)]
  rw [show shS 0 = qL from if_pos (by decide), show shS 1 = qL from if_pos (by decide), show shS 6 = qM from if_neg (by decide), show shS 7 = qM from if_neg (by decide)]
  exact assoc4 _ _ _ _

/-- What stays aside of the block of the kind not sent. -/
def idle : sProp 𝕄 := iprop(stH KV c (!bx c) qL ∗ stH KV c (!bx c) qM)

theorem stages : iprop(stW KV c false ∗ stW KV c true) ⊣⊢ iprop(ownP KV c ∗ bigSep own4 (fun x => srcPts KV c x) ∗ idle KV c) := by
  rw [own4_srcs]
  have e : (ownP KV c : sProp 𝕄) = iprop(stH KV c false qR ∗ stH KV c true qR) := rfl
  rw [e]; unfold idle
  cases hb : bx c
  · constructor
    · refine (BIClass.sep_mono (stW_split KV c false).1 (stW_split KV c true).1).trans ?_
      iintro ⟨⟨H1, H2⟩, H3, H4⟩
      isplitl [H2 H4]; · isplitl [H2]; · iexact H2
                         iexact H4
      isplitl [H1]; · iexact H1
      iexact H3
    · refine BIBase.Entails.trans ?_ (BIClass.sep_mono (stW_split KV c false).2 (stW_split KV c true).2)
      iintro ⟨⟨H2, H4⟩, H1, H3⟩
      isplitl [H1 H2]; · isplitl [H1]; · iexact H1
                         iexact H2
      isplitl [H3]; · iexact H3
      iexact H4
  · constructor
    · refine (BIClass.sep_mono (stW_split KV c false).1 (stW_split KV c true).1).trans ?_
      iintro ⟨⟨H1, H2⟩, H3, H4⟩
      isplitl [H2 H4]; · isplitl [H2]; · iexact H2
                         iexact H4
      isplitl [H3]; · iexact H3
      iexact H1
    · refine BIBase.Entails.trans ?_ (BIClass.sep_mono (stW_split KV c false).2 (stW_split KV c true).2)
      iintro ⟨⟨H2, H4⟩, H1, H3⟩
      isplitl [H3 H2]; · isplitl [H3]; · iexact H3
                         iexact H2
      isplitl [H1]; · iexact H1
      iexact H4
end Stage

/-! ## The landing buffers -/

section Slots
variable (c : Dev nD)

/-- A landing buffer, whole, at contents not named. -/
def sbW (b : Bool) : sProp 𝕄 := iprop(∃ f : Buf (Elt F) ((sbuf b).view.loc (c : Thread nD τ)), (sbuf b).view.loc (c : Thread nD τ) ↦[(sbuf b).view.set]{fullShare} f)

section Cut
variable {ℓ : Loc nD τ sig} (S : Finset (Idx ℓ)) (T : Fin 4 × Fin 2 → Finset (Idx ℓ)) (h : ∀ i, i ∈ S ↔ ∃ t, i ∈ T t) (hd : ∀ t t', t ≠ t' → Disjoint (T t) (T t'))
include h hd

omit [FloatOps F] in
theorem cut (f : Buf (Elt F) ℓ) : (ℓ ↦[S]{fullShare} f : sProp 𝕄) = bigSep Finset.univ fun t : Fin 4 × Fin 2 => (ℓ ↦[T t]{fullShare} f) := by
  have e : S = Finset.univ.biUnion T := by ext i; rw [h]; simp
  rw [e]
  exact pointsTo_biUnion Finset.univ T fun t _ t' _ h => hd t t' h
omit [FloatOps F] in
theorem fit (fs : Fin 4 × Fin 2 → Buf (Elt F) ℓ) :
    (bigSep Finset.univ fun t : Fin 4 × Fin 2 => (ℓ ↦[T t]{fullShare} fs t : sProp 𝕄)) ⊢ iprop(∃ g : Buf (Elt F) ℓ, ℓ ↦[S]{fullShare} g) := by
  have e : S = Finset.univ.biUnion T := by ext i; rw [h]; simp
  rw [e]
  iintro H
  ihave H' := (pointsTo_biUnion_join (q := fullShare) Finset.univ T fs (fs (0, 0)) fun t _ t' _ h => hd t t' h) $$ H
  icases H' with ⟨%g, -, H⟩
  iexists g
  iexact H
end Cut

omit [FloatOps F] in
theorem sbW_open (b : Bool) : (sbW (F := F) c b) ⊢ bigSep Finset.univ fun t : Fin 4 × Fin 2 => anyPts c (slotM b t.1 t.2) := by
  unfold sbW
  iintro ⟨%f, H⟩
  ihave H' := (Entails.of_eq (cut (ℓ := (sbuf b).view.loc (c : Thread nD τ)) _ (slotS b) (slot_all b) (slot_disj b) f)) $$ H
  have h1 (t : Fin 4 × Fin 2) : ((sbuf b).view.loc (c : Thread nD τ) ↦[slotS b t]{fullShare} f : sProp 𝕄) ⊢ anyPts c (slotM b t.1 t.2) := by
    unfold anyPts; iintro H; iexists f; iexact H
  have h2 : (bigSep Finset.univ fun t : Fin 4 × Fin 2 => ((sbuf b).view.loc (c : Thread nD τ) ↦[slotS b t]{fullShare} f : sProp 𝕄))
      ⊢ bigSep Finset.univ fun t : Fin 4 × Fin 2 => anyPts c (slotM b t.1 t.2) := bigSep_mono fun t _ => h1 t
  iapply h2 $$ H'

theorem anyPts_rep (M : Memref sig .tc .vmem S8x64x512 .f32) : (anyPts (F := F) c M) ⊢ iprop(∃ w, pts c M fullShare w) := by
  unfold anyPts pts
  iintro ⟨%f, H⟩
  iexists _
  iapply (pointsTo_rep_entails (c : Thread nD τ) M f fullShare); iexact H

theorem sbW_close (b : Bool) : (bigSep Finset.univ fun t : Fin 4 × Fin 2 => anyPts (F := F) c (slotM b t.1 t.2)) ⊢ sbW c b := by
  refine (bigSep_exists_pi Finset.univ fun (t : Fin 4 × Fin 2) (f : Buf (Elt F) ((sbuf b).view.loc (c : Thread nD τ))) => ((sbuf b).view.loc (c : Thread nD τ) ↦[slotS b t]{fullShare} f : sProp 𝕄)).trans ?_
  unfold sbW
  iintro ⟨%fs, H⟩
  iapply (fit (ℓ := (sbuf b).view.loc (c : Thread nD τ)) _ (slotS b) (slot_all b) (slot_disj b) fs) $$ H

abbrev J : Type := Bool × (Fin 4 × Fin 2)
/-- The slot message `x` lands in. -/
def sk (x : X) : J := (rb c x, oR (zc c) x, hf x)
theorem sk_inj : ∀ (c : Dev nD) (x y : X), actR (zc c) x = true → actR (zc c) y = true → sk c x = sk c y → x = y := by decide +kernel
abbrev RX : Finset X := Finset.univ.filter fun x : X => actR (zc c) x = true
theorem sk_injOn : Set.InjOn (sk c) (RX c) := fun x hx y hy h =>
  sk_inj c x y (Finset.mem_filter.mp hx).2 (Finset.mem_filter.mp hy).2 h

/-- The slots no message comes to. -/
def spare : sProp 𝕄 := bigSep (Finset.univ \ (RX c).image (sk c)) fun t : J => anyPts c (slotM t.1 t.2.1 t.2.2)

omit [FloatOps F] in
theorem slots_eq : (bigSep Finset.univ fun t : J => anyPts (F := F) c (slotM t.1 t.2.1 t.2.2))
    = iprop((bigSep (RX c) fun x => anyPts c (rM c x)) ∗ spare c) := by
  rw [BI.bigSep_sdiff_split (Finset.subset_univ ((RX c).image (sk c))), bigSep_image_of_injOn (sk_injOn c)]
  rfl

omit [FloatOps F] in
theorem slots_open : iprop(sbW (F := F) c false ∗ sbW c true) ⊢ iprop((bigSep (RX c) fun x => anyPts c (rM c x)) ∗ spare c) := by
  rw [← slots_eq, bigSep_univ_prod, bigSep_two]
  exact BIClass.sep_mono (sbW_open c false) (sbW_open c true)
theorem slots_close : iprop((bigSep (RX c) fun x => anyPts (F := F) c (rM c x)) ∗ spare c) ⊢ iprop(sbW c false ∗ sbW c true) := by
  rw [← slots_eq, bigSep_univ_prod, bigSep_two]
  exact BIClass.sep_mono (sbW_close c false) (sbW_close c true)

end Slots

end Cert.KProof

end
-- ==== Proof.Ends.lean ====
/-
  The exchange's opening state from the device's buffers, and the buffers back from its closing state.
-/
module

public import proofs.«01_k».proof.Proof.Split

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (KV : Bool → Dev nD → S2x8x64x512.Idx → Elt F .f32) (Kn : GSem nD τ sig → ℕ)

/-! ## The opening state -/

section Open
variable (c : Dev nD)

/-- What a device holds of each message as the kernel starts, its buffers aside. -/
def res1 (k : K) : sProp 𝕄 :=
  if k.1 = true then
    if actR (zc c) k.2 = true then
      iprop((atPos ER (cell c (true, k.2)) 0 ∅ 0 ∗ cred (tallyAt (cell c (true, k.2)) () N)) ∗ reached ER (cell c (true, k.2)) 0)
    else semVal (cell c (true, k.2)) 0
  else if actS (zc c) k.2 = true then
    iprop(atPos ER (cell c (false, k.2)) 0 ∅ 0 ∗ reached ER (cell c (false, k.2)) 0 ∗ dutyTok ER (cell c (false, k.2)) 0 0
      ∗ dutyTok ER (cell (tgt c k.2) (true, k.2)) 0 0)
  else semVal (cell c (false, k.2)) 0

theorem res1_step (k : K) :
    iprop(res1 c k ∗ (if k.1 = false ∧ k.2.val < 12 ∧ st k.2 = 0 then srcPts KV c k.2 else iprop(emp)))
      ⊢ iprop(res0 KV c k ∗ if k.1 = true ∧ actR (zc c) k.2 = true then reached ER (cell c (true, k.2)) 0 else iprop(emp)) := by
  obtain ⟨b, x⟩ := k
  cases b
  · rw [if_neg (show ¬((false, x).1 = true ∧ actR (zc c) (false, x).2 = true) from fun h => Bool.false_ne_true h.1)]
    have e : (if (false, x).1 = false ∧ (false, x).2.val < 12 ∧ st (false, x).2 = 0 then srcPts KV c x else iprop(emp) : sProp 𝕄)
        = if x.val < 12 ∧ st x = 0 then srcPts KV c x else iprop(emp) := by
      by_cases h : x.val < 12 ∧ st x = 0
      · rw [if_pos ⟨rfl, h⟩, if_pos h]
      · rw [if_neg fun h' => h h'.2, if_neg h]
    by_cases ha : actS (zc c) x = true
    · have e1 : (res1 c (false, x) : sProp 𝕄) = iprop(atPos ER (cell c (false, x)) 0 ∅ 0 ∗ reached ER (cell c (false, x)) 0 ∗ dutyTok ER (cell c (false, x)) 0 0
          ∗ dutyTok ER (cell (tgt c x) (true, x)) 0 0) := by unfold res1; rw [if_neg Bool.false_ne_true, if_pos ha]
      have e2 : res0 KV c (false, x) = iprop(atPos ER (cell c (false, x)) 0 ∅ 0 ∗ reached ER (cell c (false, x)) 0 ∗ dutyTok ER (cell c (false, x)) 0 0
          ∗ dutyTok ER (cell (tgt c x) (true, x)) 0 0 ∗ if x.val < 12 ∧ st x = 0 then srcPts KV c x else iprop(emp)) := by
        unfold res0; rw [if_neg Bool.false_ne_true, if_pos ha]
      rw [e1, e2]
      iintro ⟨⟨H1, H2, H3, H4⟩, H5⟩
      isplitr []
      · isplitl [H1]; · iexact H1
        isplitl [H2]; · iexact H2
        isplitl [H3]; · iexact H3
        isplitl [H4]; · iexact H4
        iapply (Entails.of_eq e) $$ H5
      iempintro
    · have e1 : (res1 c (false, x) : sProp 𝕄) = semVal (cell c (false, x)) 0 := by unfold res1; rw [if_neg Bool.false_ne_true, if_neg ha]
      have e2 : res0 KV c (false, x) = iprop(semVal (cell c (false, x)) 0 ∗ if x.val < 12 ∧ st x = 0 then srcPts KV c x else iprop(emp)) := by
        unfold res0; rw [if_neg Bool.false_ne_true, if_neg ha]; show resS KV c x 0 = _; unfold resS; rw [if_neg ha]
      rw [e1, e2]
      iintro ⟨H1, H5⟩
      isplitr []
      · isplitl [H1]; · iexact H1
        iapply (Entails.of_eq e) $$ H5
      iempintro
  · have e2 : res0 KV c (true, x) = resR KV c x 0 := by unfold res0; rw [if_pos rfl]; rfl
    rw [e2]
    by_cases ha : actR (zc c) x = true
    · have e1 : (res1 c (true, x) : sProp 𝕄) = iprop((atPos ER (cell c (true, x)) 0 ∅ 0 ∗ cred (tallyAt (cell c (true, x)) () N)) ∗ reached ER (cell c (true, x)) 0) := by
        unfold res1; rw [if_pos rfl, if_pos ha]
      rw [e1, if_pos (show (true, x).1 = true ∧ actR (zc c) (true, x).2 = true from ⟨rfl, ha⟩)]
      unfold resR; rw [if_pos ha, if_pos rfl]
      iintro ⟨⟨H1, H2⟩, -⟩
      isplitl [H1]; · iexact H1
      iexact H2
    · have e1 : (res1 c (true, x) : sProp 𝕄) = semVal (cell c (true, x)) 0 := by unfold res1; rw [if_pos rfl, if_neg ha]
      rw [e1, if_neg (show ¬((true, x).1 = true ∧ actR (zc c) (true, x).2 = true) from fun h => ha h.2)]
      unfold resR; rw [if_neg ha]
      iintro ⟨H1, -⟩
      isplitl [H1]; · iexact H1
      iempintro

/-- The own block's share among all messages. -/
theorem own4_keys : bigSep own4 (fun x => srcPts KV c x)
    = bigSep Finset.univ fun k : K => if k.1 = false ∧ k.2.val < 12 ∧ st k.2 = 0 then srcPts KV c k.2 else iprop(emp) := by
  have e : (Finset.univ.filter fun k : K => k.1 = false ∧ k.2.val < 12 ∧ st k.2 = 0) = own4.image fun x : X => ((false, x) : K) := by decide +kernel
  have h := bigSep_filter (Finset.univ : Finset K) (fun k => k.1 = false ∧ k.2.val < 12 ∧ st k.2 = 0) fun k => srcPts KV c k.2
  rw [e, bigSep_image_of_injOn fun x _ y _ h => (Prod.mk.inj h).2] at h
  exact h

omit [FloatOps F] in
theorem reached_keys : (bigSep Finset.univ fun k : K => if k.1 = true ∧ actR (zc c) k.2 = true then (reached ER (cell c (true, k.2)) 0 : sProp 𝕄) else iprop(emp))
    ⊢ bigSep (RX c) fun x => reached ER (cell c (true, x)) 0 := by
  rw [bigSep_univ_prod, bigSep_two, bigSep_filter]
  have e : ∀ x : X, (if (true, x).1 = true ∧ actR (zc c) (true, x).2 = true then (reached ER (cell c (true, (true, x).2)) 0 : sProp 𝕄) else iprop(emp))
      = if actR (zc c) x = true then reached ER (cell c (true, x)) 0 else iprop(emp) := fun x => by
    by_cases h : actR (zc c) x = true
    · rw [if_pos ⟨rfl, h⟩, if_pos h]
    · rw [if_neg fun h' => h h'.2, if_neg h]
  iintro ⟨-, H⟩
  iapply (Entails.of_eq (bigSep_congr fun x _ => e x)) $$ H

theorem assemble : iprop((ctx KV Kn ∗ atPos ER (bar c) 0 ∅ 0 ∗ cred (tallyAt (bar c) () (barD (zc c)).card)
      ∗ (tok (pt c) 0 ∗ (if (zc c).val < 3 then tok (rt c) 1 else iprop(emp)) ∗ (if 0 < (zc c).val then tok (lt c) 2 else iprop(emp))) ∗ bigSep Finset.univ (res1 c))
      ∗ (∃ W, owes (c : Thread nD τ) (owe0 c) W) ∗ (stW KV c false ∗ stW KV c true) ∗ (sbW c false ∗ sbW c true))
    ⊢ iprop(Start KV Kn c ∗ ownP KV c ∗ (idle KV c ∗ spare c)) := by
  iintro ⟨⟨Hctx, Hat, Hcr, Htk, Hr⟩, HO, Hst, Hsb⟩
  ihave Hst' := (stages KV c).1 $$ Hst
  icases Hst' with ⟨Hown, Hsrc, Hidle⟩
  ihave Hsb' := (slots_open c) $$ Hsb
  icases Hsb' with ⟨Hsl, Hspare⟩
  ihave Hsrc' := (Entails.of_eq (own4_keys KV c)) $$ Hsrc
  have hstep : iprop((bigSep Finset.univ (res1 (F := F) c)) ∗ bigSep Finset.univ fun k : K => if k.1 = false ∧ k.2.val < 12 ∧ st k.2 = 0 then srcPts KV c k.2 else iprop(emp))
      ⊢ iprop((bigSep Finset.univ (res0 KV c)) ∗ bigSep Finset.univ fun k : K => if k.1 = true ∧ actR (zc c) k.2 = true then (reached ER (cell c (true, k.2)) 0 : sProp 𝕄) else iprop(emp)) := by
    rw [← bigSep_sep', ← bigSep_sep']
    exact bigSep_mono fun k _ => res1_step KV c k
  ihave Hr' := hstep $$ [Hr Hsrc']
  · isplitl [Hr]; · iexact Hr
    iexact Hsrc'
  icases Hr' with ⟨Hr0, Hreach⟩
  ihave Hreach' := (reached_keys c) $$ Hreach
  have hgive : iprop((bigSep (RX c) fun x => anyPts (F := F) c (rM c x)) ∗ bigSep (RX c) fun x => reached ER (cell c (true, x)) 0) ⊢ openSlots c := by
    rw [← bigSep_sep']; exact .rfl
  ihave Hopen := hgive $$ [Hsl Hreach']
  · isplitl [Hsl]; · iexact Hsl
    iexact Hreach'
  isplitr [Hown Hidle Hspare]
  · unfold Start
    isplitl [Hctx]; · iexact Hctx
    isplitl [HO]; · iexact HO
    isplitl [Hat]; · iexact Hat
    isplitl [Hcr]; · iexact Hcr
    isplitl [Htk]; · iexact Htk
    isplitl [Hopen]; · iexact Hopen
    iexact Hr0
  isplitl [Hown]; · iexact Hown
  isplitl [Hidle]; · iexact Hidle
  iexact Hspare
end Open

/-! ## The closing state -/

section Close
variable (c : Dev nD)

theorem ph4_send : ∀ (z : Fin 4) (x : X), actS z x = true → ph4 z (false, x) = 3 := by decide +kernel
theorem ph4_recv : ∀ (z : Fin 4) (x : X), actR z x = true → ph4 z (true, x) ≠ 0 := by decide +kernel

omit [FloatOps F] in
theorem pend_end : pend c (ph4 (zc c)) = 0 := by
  unfold pend
  rw [Finset.filter_false_of_mem fun x _ h => ?_, Finset.sum_empty]
  rw [ph4_send (zc c) x h.1] at h
  exact absurd h.2 (by decide)

/-- The messages whose source comes back to `c`. -/
abbrev SX : Finset X := Finset.univ.filter fun x : X => actS (zc c) x = true ∨ (x.val < 12 ∧ st x = 0)

theorem res_end (k : K) : res KV c k (ph4 (zc c) k)
    ⊢ iprop(semVal (cell c k) 0 ∗ (if k.1 = true then (if actR (zc c) k.2 = true then rest KV c k.2 else iprop(emp))
      else if actS (zc c) k.2 = true ∨ (k.2.val < 12 ∧ st k.2 = 0) then srcPts KV c k.2 else iprop(emp))) := by
  obtain ⟨b, x⟩ := k
  cases b
  · rw [if_neg Bool.false_ne_true]
    by_cases ha : actS (zc c) x = true
    · rw [resS_act KV c x ha, ph4_send _ x ha, if_pos (show actS (zc c) (false, x).2 = true ∨ _ from .inl ha)]
    · show resS KV c x _ ⊢ _
      unfold resS; rw [if_neg ha]
      by_cases h : x.val < 12 ∧ st x = 0
      · rw [if_pos h, if_pos (show _ ∨ ((false, x) : K).2.val < 12 ∧ st ((false, x) : K).2 = 0 from .inr h)]
      · rw [if_neg h, if_neg (show ¬(actS (zc c) ((false, x) : K).2 = true ∨ ((false, x) : K).2.val < 12 ∧ st ((false, x) : K).2 = 0) from fun h' => h'.elim ha h)]
  · rw [if_pos rfl]
    by_cases ha : actR (zc c) x = true
    · rw [resR_act KV c x ha, if_neg (ph4_recv _ x ha), if_pos (show actR (zc c) ((true, x) : K).2 = true from ha)]
    · show resR KV c x _ ⊢ _
      unfold resR; rw [if_neg ha, if_neg (show ¬actR (zc c) ((true, x) : K).2 = true from ha)]
      iintro H; isplitl [H]; · iexact H
      iempintro

theorem all_end : (bigSep Finset.univ fun k => res KV c k (ph4 (zc c) k))
    ⊢ iprop((bigSep Finset.univ fun k => semVal (cell c k) 0) ∗ (bigSep (SX c) fun x => srcPts KV c x) ∗ bigSep (RX c) fun x => rest KV c x) := by
  have h : (bigSep Finset.univ fun k => res KV c k (ph4 (zc c) k))
      ⊢ iprop((bigSep Finset.univ fun k => semVal (cell c k) 0) ∗ bigSep Finset.univ fun k : K => if k.1 = true then (if actR (zc c) k.2 = true then rest KV c k.2 else iprop(emp))
      else if actS (zc c) k.2 = true ∨ (k.2.val < 12 ∧ st k.2 = 0) then srcPts KV c k.2 else iprop(emp)) := by
    rw [← bigSep_sep']; exact bigSep_mono fun k _ => res_end KV c k
  refine h.trans ?_
  rw [bigSep_filter, bigSep_filter]
  rw [bigSep_univ_prod (fun k : K => if k.1 = true then (if actR (zc c) k.2 = true then rest KV c k.2 else iprop(emp))
      else if actS (zc c) k.2 = true ∨ (k.2.val < 12 ∧ st k.2 = 0) then srcPts KV c k.2 else iprop(emp)), bigSep_two]
  exact .rfl

/-- The messages along z that come to `c`; those sent on along z; those across x. -/
abbrev AX : Finset X := Finset.univ.filter fun x : X => actR (zc c) x = true ∧ x.val < 12
abbrev AN : Finset X := (AX c).filter fun x => nxtAct (zc c) x = true
abbrev BX : Finset X := Finset.univ.filter fun x : X => actR (zc c) x = true ∧ ¬x.val < 12

theorem RX_split : ∀ c, RX c = AX c ∪ BX c ∧ Disjoint (AX c) (BX c) := by decide +kernel
theorem SX_split : ∀ c, own4 ∪ ((AX c).image (fwd (zc c)) ∪ (AN c).image nxt) ⊆ SX c ∧ Disjoint own4 ((AX c).image (fwd (zc c)) ∪ (AN c).image nxt)
    ∧ Disjoint ((AX c).image (fwd (zc c))) ((AN c).image nxt) := by decide +kernel
theorem fwd_inj : ∀ c, ∀ x ∈ AX c, ∀ y ∈ AX c, fwd (zc c) x = fwd (zc c) y → x = y := by decide +kernel
theorem nxt_inj : ∀ c, ∀ x ∈ AN c, ∀ y ∈ AN c, nxt x = nxt y → x = y := by decide +kernel

theorem land_join (x : X) (ha : actR (zc c) x = true) (hx : x.val < 12) :
    iprop(rest KV c x ∗ (srcPts KV c (fwd (zc c) x) ∗ if nxtAct (zc c) x = true then srcPts KV c (nxt x) else iprop(emp))) ⊢ anyPts c (rM c x) := by
  have hfin : (pts c (rM c x) fullShare (rv KV c x) : sProp 𝕄) ⊢ anyPts c (rM c x) := by
    unfold pts anyPts; iintro H; iexists _; iexact H
  refine BIBase.Entails.trans ?_ hfin
  refine BIBase.Entails.trans ?_ (pts_split c _ _).2
  rw [srcPts_fwd KV c x ha hx]
  unfold rest
  rw [if_pos hx]
  by_cases hn : nxtAct (zc c) x = true
  · rw [if_pos hn, if_pos hn, srcPts_nxt KV c x ha hn hx]
    iintro ⟨⟨H3, -⟩, H1, H2⟩
    isplitl [H1]; · iexact H1
    isplitl [H2]; · iexact H2
    iexact H3
  · rw [if_neg hn, if_neg hn]
    iintro ⟨⟨H3, H2⟩, H1, -⟩
    isplitl [H1]; · iexact H1
    isplitl [H2]; · iexact H2
    iexact H3

omit [FloatOps F] in
theorem union_at {s t : Finset X} (h : Disjoint s t) {Φ : X → sProp 𝕄} : bigSep (s ∪ t) Φ = iprop(bigSep s Φ ∗ bigSep t Φ) := BI.bigSep_union h

theorem sends_end : (bigSep (SX c) fun x => srcPts KV c x)
    ⊢ iprop((bigSep own4 fun x => srcPts KV c x) ∗ (bigSep (AX c) fun x => srcPts KV c (fwd (zc c) x))
      ∗ bigSep (AX c) fun x => if nxtAct (zc c) x = true then srcPts KV c (nxt x) else iprop(emp)) := by
  obtain ⟨h1, h2, h3⟩ := SX_split c
  refine (bigSep_subset h1).trans ?_
  rw [union_at h2, union_at h3, bigSep_image_of_injOn fun x hx y hy h => fwd_inj c x hx y hy h,
    bigSep_image_of_injOn fun x hx y hy h => nxt_inj c x hx y hy h,
    bigSep_filter (AX c) (fun x => nxtAct (zc c) x = true)]
  exact BI.Entails.refl _

theorem lands_end : iprop((bigSep (RX c) fun x => rest KV c x) ∗ (bigSep (AX c) fun x => srcPts KV c (fwd (zc c) x))
      ∗ bigSep (AX c) fun x => if nxtAct (zc c) x = true then srcPts KV c (nxt x) else iprop(emp))
    ⊢ bigSep (RX c) fun x => anyPts c (rM c x) := by
  obtain ⟨h1, h2⟩ := RX_split c
  rw [h1, union_at h2, union_at h2]
  have hB : (bigSep (BX c) fun x => rest KV c x) ⊢ bigSep (BX c) fun x => anyPts c (rM c x) := bigSep_mono fun x hx => by
    have hx' := (Finset.mem_filter.mp hx).2.2
    show rest KV c x ⊢ anyPts c (rM c x)
    unfold rest; rw [if_neg hx']; unfold landPts pts anyPts
    iintro H; iexists _; iexact H
  have hA : iprop((bigSep (AX c) fun x => rest KV c x) ∗ (bigSep (AX c) fun x => srcPts KV c (fwd (zc c) x))
      ∗ bigSep (AX c) fun x => if nxtAct (zc c) x = true then srcPts KV c (nxt x) else iprop(emp)) ⊢ bigSep (AX c) fun x => anyPts c (rM c x) := by
    rw [← bigSep_sep', ← bigSep_sep']
    exact bigSep_mono fun x hx => land_join KV c x (Finset.mem_filter.mp hx).2.1 (Finset.mem_filter.mp hx).2.2
  iintro ⟨⟨HA, HB⟩, HF, HN⟩
  isplitl [HA HF HN]
  · iapply hA
    isplitl [HA]; · iexact HA
    isplitl [HF]; · iexact HF
    iexact HN
  iapply hB $$ HB

theorem finish : iprop(St KV Kn c (ph4 (zc c)) ∗ ownP KV c ∗ (idle KV c ∗ spare c))
    ⊢ iprop((∃ W, owes (c : Thread nD τ) (0 : CellTallies nD τ sig Unit) W) ∗ (bigSep Finset.univ fun k => semVal (cell c k) 0)
      ∗ (stW KV c false ∗ stW KV c true) ∗ (sbW c false ∗ sbW c true)) := by
  unfold St
  rw [pend_end]
  iintro ⟨⟨-, HO, Hr⟩, Hown, Hidle, Hspare⟩
  ihave Hr' := (all_end KV c) $$ Hr
  icases Hr' with ⟨Hsem, HS, HR⟩
  ihave HS' := (sends_end KV c) $$ HS
  icases HS' with ⟨H4, HF, HN⟩
  ihave HR' := (lands_end KV c) $$ [HR HF HN]
  · isplitl [HR]; · iexact HR
    isplitl [HF]; · iexact HF
    iexact HN
  isplitl [HO]; · iexact HO
  isplitl [Hsem]; · iexact Hsem
  isplitl [Hown H4 Hidle]
  · iapply (stages KV c).2
    isplitl [Hown]; · iexact Hown
    isplitl [H4]; · iexact H4
    iexact Hidle
  iapply (slots_close c)
  isplitl [HR']; · iexact HR'
  iexact Hspare
end Close

end Cert.KProof

end
-- ==== Proof.Region.lean ====
/-
  The kernel call as one segment of the program: its proof data, its body, and what it takes and gives.
-/
module

public import proofs.«01_k».proof.Proof.Ends
public import proofs.«01_k».proof.Proof.Gen.KernelIdeal.Frame
public import proofs.«01_k».proof.Proof.Gen.KernelIdeal.Launch
public import Idealize.ShloMosaic.Adequacy
public import Idealize.ShloMosaic.Init

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Values -/

/-- The staged keys and values, and the queries. -/
def KVm (b : Bool) (c : Dev nD) : S2x8x64x512.Idx → Elt F .f32 := match b with
  | false => V m c main_v2
  | true => V m c main_v3
def qm (c : Dev nD) : S2x8x64x512.Idx → Elt F .f32 := V m c main_v1

/-! ## What enters and leaves -/

/-- A device's rights on one message as dealt. -/
def raw1 (c : Dev nD) (k : K) : sProp 𝕄 :=
  iprop(openTok ER (cell c k) ∗ if k.1 = true then (if actR (zc c) k.2 = true then cred (tallyAt (cell c (true, k.2)) () N) else iprop(emp))
    else iprop(dutyTok ER (cell c (false, k.2)) 0 0 ∗ dutyTok ER (cell (tgt c k.2) (true, k.2)) 0 0))

/-- The barrier's part. -/
def barH (c : Dev nD) : sProp 𝕄 :=
  iprop(atPos ER (bar c) 0 ∅ 0 ∗ cred (tallyAt (bar c) () (barD (zc c)).card)
      ∗ (tok (pt c) 0 ∗ (if (zc c).val < 3 then tok (rt c) 1 else iprop(emp)) ∗ (if 0 < (zc c).val then tok (lt c) 2 else iprop(emp))))

def recs (Kn : GSem nD τ sig → ℕ) : sProp 𝕄 :=
  iprop((bigSep (Finset.univ : Finset (Dev nD × K)) fun p => cellInv ER (Rd (KVm m)) (Kn (cell p.1 p.2)) (cell p.1 p.2))
    ∗ (bigSep (Finset.univ : Finset (Dev nD)) fun c => cellInv ER (Rd (KVm m)) (Kn (bar c)) (bar c)))
instance recs_persistent (Kn : GSem nD τ sig → ℕ) : Persistent (recs m Kn) := by unfold recs; infer_instance

theorem ctx_of (Kn : GSem nD τ sig → ℕ) : iprop(recs m Kn ∗ levAts L lv) ⊢ ctx (KVm m) Kn := by
  unfold recs ctx
  iintro ⟨⟨H1, H2⟩, H3⟩
  isplitl [H1]; · iexact H1
  isplitl [H2]; · iexact H2
  iexact H3

def Tk (c : Dev nD) : sProp 𝕄 := iprop(∃ Kn, recs m Kn ∗ barH c ∗ bigSep Finset.univ (raw1 c))
def Xk (c : Dev nD) : sProp 𝕄 := iprop(∃ Kn, ctx (KVm m) Kn ∗ barH c ∗ bigSep Finset.univ (res1 c))
def Yk (c : Dev nD) : sProp 𝕄 := semVal (bar c) 0

abbrev osem (k : K) : SemLoc sig := .dma (semK k)
theorem own_facts : Pipeline.OwnSemFacts spec0 osem := by decide +kernel

theorem ownSems_eq (c : Dev nD) : (Pipeline.ownSems0 osem c : sProp 𝕄) = bigSep Finset.univ fun k => semVal (cell c k) 0 := rfl

theorem open1 (Kn : GSem nD τ sig → ℕ) (c : Dev nD) (k : K) :
    iprop(recs m Kn ∗ (raw1 c k ∗ semVal (cell c k) 0)) ⊢ (|={Set.univ}=> res1 c k : sProp 𝕄) := by
  have hI : recs m Kn ⊢ cellInv ER (Rd (KVm m)) (Kn (cell c k)) (cell c k) := by
    unfold recs
    iintro ⟨H, -⟩
    iapply (all_at (fun p : Dev nD × K => cellInv ER (Rd (KVm m)) (Kn (cell p.1 p.2)) (cell p.1 p.2)) (c, k)) $$ H
  have hO : iprop(recs m Kn ∗ openTok ER (cell c k) ∗ semVal (cell c k) 0) ⊢ (|={Set.univ}=> (atPos ER (cell c k) 0 ∅ 0 ∗ reached ER (cell c k) 0) : sProp 𝕄) :=
    (BIClass.sep_mono hI .rfl).trans (Rounds.cell_open ER (Rd (KVm m)) (g := cell c k) (Set.mem_univ (Kn (cell c k))))
  obtain ⟨b, x⟩ := k
  cases b
  · unfold raw1 res1
    rw [if_neg (show ¬((false, x) : K).1 = true from Bool.false_ne_true), if_neg (show ¬((false, x) : K).1 = true from Bool.false_ne_true)]
    by_cases ha : actS (zc c) x = true
    · rw [if_pos (show actS (zc c) ((false, x) : K).2 = true from ha)]
      iintro ⟨HI, ⟨Ho, Ht1, Ht2⟩, Hs⟩
      imod hO $$ [HI Ho Hs] with ⟨H1, H2⟩
      · isplitl [HI]; · iexact HI
        isplitl [Ho]; · iexact Ho
        iexact Hs
      imodintro
      isplitl [H1]; · iexact H1
      isplitl [H2]; · iexact H2
      isplitl [Ht1]; · iexact Ht1
      iexact Ht2
    · rw [if_neg (show ¬actS (zc c) ((false, x) : K).2 = true from ha)]
      iintro ⟨-, -, Hs⟩
      imodintro
      iexact Hs
  · unfold raw1 res1
    rw [if_pos (show ((true, x) : K).1 = true from rfl), if_pos (show ((true, x) : K).1 = true from rfl)]
    by_cases ha : actR (zc c) x = true
    · rw [if_pos (show actR (zc c) ((true, x) : K).2 = true from ha), if_pos (show actR (zc c) ((true, x) : K).2 = true from ha)]
      iintro ⟨HI, ⟨Ho, Hc⟩, Hs⟩
      imod hO $$ [HI Ho Hs] with ⟨H1, H2⟩
      · isplitl [HI]; · iexact HI
        isplitl [Ho]; · iexact Ho
        iexact Hs
      imodintro
      isplitl [H1 Hc]
      · isplitl [H1]; · iexact H1
        iexact Hc
      iexact H2
    · rw [if_neg (show ¬actR (zc c) ((true, x) : K).2 = true from ha), if_neg (show ¬actR (zc c) ((true, x) : K).2 = true from ha)]
      iintro ⟨-, -, Hs⟩
      imodintro
      iexact Hs

theorem open_all (Kn : GSem nD τ sig → ℕ) (c : Dev nD) :
    iprop(recs m Kn ∗ (bigSep Finset.univ (raw1 (F := F) c) ∗ bigSep Finset.univ fun k => semVal (cell c k) 0)) ⊢ (|={Set.univ}=> bigSep Finset.univ (res1 c) : sProp 𝕄) := by
  rw [← bigSep_sep']
  exact (bigSep_with_persistent fun k _ => open1 m Kn c k).trans (bigSep_fupd _ _)

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%Kn, #HI, HB, HR⟩, Hs, HL⟩
  imod (open_all m Kn c) $$ [HR Hs] with HR
  · isplitr; · iexact HI
    isplitl [HR]; · iexact HR
    iexact Hs
  imodintro
  iexists Kn
  isplitl [HL]
  · iapply (ctx_of m Kn)
    isplitr; · iexact HI
    iexact HL
  isplitl [HB]; · iexact HB
  iexact HR

/-- The kernel's own buffers, at contents not named. -/
def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

def sems0 (c : Dev nD) : sProp 𝕄 := bigSep Finset.univ fun k => semVal (cell c k) 0
def Φ0 (c : Dev nD) : sProp 𝕄 := iprop(Xk m c ∗ scr c ∗ ∃ r, prngReg c r)
def Φ1 (c : Dev nD) : sProp 𝕄 := iprop(Yk c ∗ sems0 c ∗ scr c ∗ ∃ r, prngReg c r)

/-! ## The region's proof data -/

def dat0 (c : Dev nD) : Pipeline.Dat τ (Elt F) Unit ℕ UU ℕ cfg0 c where
  A w := V m c (Pipeline.arrRef spec0 w)
  after w _ := match w with
    | ⟨0, _⟩ => qm m c
    | ⟨1, _⟩ => KVm m false c
    | ⟨2, _⟩ => KVm m true c
    | ⟨3, _⟩ => outV (KVm m) c (qm m c)
  Φ t := if t.val = 0 then Φ0 m c else Φ1 c
  q _ := fullShare
  owed t := if t.val = 0 then owe0 c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

/-- A window's block is its whole array. -/
theorem blk_q (f : S2x8x64x512.Idx → Elt F .f32) : ((cfg0.win 0).blk t0_0).view.read (Elt F) f = f := by
  funext i
  show f _ = f i
  congr 1
  funext a
  apply Fin.ext
  show 0 * _ + 1 * (i a).val = (i a).val
  omega
theorem blk_k (f : S2x8x64x512.Idx → Elt F .f32) : ((cfg0.win 1).blk t0_0).view.read (Elt F) f = f := by
  funext i
  show f _ = f i
  congr 1
  funext a
  apply Fin.ext
  show 0 * _ + 1 * (i a).val = (i a).val
  omega
theorem blk_v (f : S2x8x64x512.Idx → Elt F .f32) : ((cfg0.win 2).blk t0_0).view.read (Elt F) f = f := by
  funext i
  show f _ = f i
  congr 1
  funext a
  apply Fin.ext
  show 0 * _ + 1 * (i a).val = (i a).val
  omega

theorem before_q (c : Dev nD) (d) : (dat0 m c).before 0 t0_0 d = qm m c := by
  unfold Pipeline.Dat.before; rw [if_pos (by decide)]
  exact blk_q (V m c main_v1)
theorem before_k (c : Dev nD) (d) : (dat0 m c).before 1 t0_0 d = KVm m false c := by
  unfold Pipeline.Dat.before; rw [if_pos (by decide)]
  exact blk_k (V m c main_v2)
theorem before_v (c : Dev nD) (d) : (dat0 m c).before 2 t0_0 d = KVm m true c := by
  unfold Pipeline.Dat.before; rw [if_pos (by decide)]
  exact blk_v (V m c main_v3)

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem whole_pts (c : Dev nD) (b : Ref sig .tc) (f : Buf (Elt F) ((c : Thread nD τ).loc b)) :
    (((c : Thread nD τ).loc b ↦[(View.whole b).set]{fullShare} f) : sProp 𝕄) = ((c : Thread nD τ).loc b ↦{fullShare} f) := by
  rw [View.set_whole]
theorem stW_k (KV : Bool → Dev nD → S2x8x64x512.Idx → Elt F .f32) (c : Dev nD) :
    (stW KV c false : sProp 𝕄) = (((c : Thread nD τ).loc cc0_stg1_0) ↦{fullShare} (KV false c : Buf (Elt F) ((c : Thread nD τ).loc cc0_stg1_0))) := by
  exact whole_pts c cc0_stg1_0 (KV false c)
theorem stW_v (KV : Bool → Dev nD → S2x8x64x512.Idx → Elt F .f32) (c : Dev nD) :
    (stW KV c true : sProp 𝕄) = (((c : Thread nD τ).loc cc0_stg2_0) ↦{fullShare} (KV true c : Buf (Elt F) ((c : Thread nD τ).loc cc0_stg2_0))) := by
  exact whole_pts c cc0_stg2_0 (KV true c)
theorem sbW_k (c : Dev nD) : (sbW c false : sProp 𝕄) = iprop(∃ f : Buf (Elt F) ((c : Thread nD τ).loc cc0_scratch0), ((c : Thread nD τ).loc cc0_scratch0) ↦{fullShare} f) := by
  show iprop(∃ f : Buf (Elt F) ((Memref.whole cc0_scratch0).view.loc (c : Thread nD τ)), (Memref.whole cc0_scratch0).view.loc (c : Thread nD τ) ↦[(Memref.whole cc0_scratch0).view.set]{fullShare} f) = _
  rw [Memref.view_whole, View.set_whole]
theorem sbW_v (c : Dev nD) : (sbW c true : sProp 𝕄) = iprop(∃ f : Buf (Elt F) ((c : Thread nD τ).loc cc0_scratch1), ((c : Thread nD τ).loc cc0_scratch1) ↦{fullShare} f) := by
  show iprop(∃ f : Buf (Elt F) ((Memref.whole cc0_scratch1).view.loc (c : Thread nD τ)), (Memref.whole cc0_scratch1).view.loc (c : Thread nD τ) ↦[(Memref.whole cc0_scratch1).view.set]{fullShare} f) = _
  rw [Memref.view_whole, View.set_whole]

theorem owed_zero (c : Dev nD) : (dat0 m c).owed 0 = owe0 c := by
  show (if ((0 : Fin (cfg0.N + 1)).val = 0) then owe0 c else 0) = owe0 c; exact if_pos rfl
theorem owed_first (c : Dev nD) : (dat0 m c).owed t0_0.castSucc = owe0 c := by
  show (if (t0_0.castSucc : Fin (cfg0.N + 1)).val = 0 then owe0 c else 0) = owe0 c; exact if_pos rfl
theorem owed_last (c : Dev nD) : (dat0 m c).owed (Fin.last _) = 0 := by
  show (if (Fin.last cfg0.N).val = 0 then owe0 c else 0) = 0
  rw [Fin.val_last, if_neg (by rw [show cfg0.N = 1 from N_0]; decide)]
theorem owed_next (c : Dev nD) : (dat0 m c).owed t0_0.succ = 0 := by
  show (if (t0_0.succ : Fin (cfg0.N + 1)).val = 0 then owe0 c else 0) = 0; exact if_neg (by rw [Fin.val_succ]; omega)

theorem owesAt_intro {c : Dev nD} (dat : Pipeline.Dat τ (Elt F) Unit ℕ UU ℕ cfg0 c) (t : Fin (cfg0.N + 1))
    (O : CellTallies nD τ sig Unit) (h0 : dat.owed t = O) (hr : dat.recorded t = Set.univ) :
    iprop(∃ W, owes (c : Thread nD τ) O W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {c : Dev nD} (dat : Pipeline.Dat τ (Elt F) Unit ℕ UU ℕ cfg0 c) (t : Fin (cfg0.N + 1))
    (O : CellTallies nD τ sig Unit) (h0 : dat.owed t = O) :
    (dat.owesAt () t : sProp 𝕄) ⊢ iprop(∃ W, owes (c : Thread nD τ) O W) := by
  unfold Pipeline.Dat.owesAt Pipeline.owesWithin; rw [h0]
  iintro ⟨%W, -, HO⟩; iexists W; iexact HO

/-- The kernel from all a device holds to all it gives back. -/
theorem run (c : Dev nD) (r : S2x8x64x512.Idx → Elt F .f32) {Q : PUnit → sProp 𝕄} :
    iprop((Φ0 m c ∗ (∃ W, owes (c : Thread nD τ) (owe0 c) W) ∗ (((c : Thread nD τ).loc cc0_stg0_0) ↦{fullShare} (qm m c : Buf (Elt F) ((c : Thread nD τ).loc cc0_stg0_0)))
      ∗ (((c : Thread nD τ).loc cc0_stg1_0) ↦{fullShare} (KVm m false c : Buf (Elt F) ((c : Thread nD τ).loc cc0_stg1_0)))
      ∗ (((c : Thread nD τ).loc cc0_stg2_0) ↦{fullShare} (KVm m true c : Buf (Elt F) ((c : Thread nD τ).loc cc0_stg2_0)))
      ∗ (((c : Thread nD τ).loc cc0_stg3_0) ↦{fullShare} (r : Buf (Elt F) ((c : Thread nD τ).loc cc0_stg3_0))))
      ∗ ((Φ1 c ∗ (∃ W, owes (c : Thread nD τ) (0 : CellTallies nD τ sig Unit) W) ∗ (((c : Thread nD τ).loc cc0_stg0_0) ↦{fullShare} (qm m c : Buf (Elt F) ((c : Thread nD τ).loc cc0_stg0_0)))
      ∗ (((c : Thread nD τ).loc cc0_stg1_0) ↦{fullShare} (KVm m false c : Buf (Elt F) ((c : Thread nD τ).loc cc0_stg1_0)))
      ∗ (((c : Thread nD τ).loc cc0_stg2_0) ↦{fullShare} (KVm m true c : Buf (Elt F) ((c : Thread nD τ).loc cc0_stg2_0)))
      ∗ (((c : Thread nD τ).loc cc0_stg3_0) ↦{fullShare} (outV (KVm m) c (qm m c) : Buf (Elt F) ((c : Thread nD τ).loc cc0_stg3_0)))) -∗ Q ⟨⟩))
    ⊢ wpc c (bodyAt0 t0_0) Q := by
  rw [← stW_k, ← stW_v]
  unfold Φ0 Φ1 Xk scr barH Yk
  rw [← sbW_k, ← sbW_v]
  iintro ⟨⟨⟨⟨%Kn, Hctx, ⟨Hat, Hcr, Htk⟩, Hr⟩, ⟨Hb0, Hb1, ⟨%l, Hl⟩, ⟨%a, Ha⟩⟩, Hp⟩, HO, Hq, Hk, Hv, Ho⟩, HQ⟩
  ihave HA := (assemble (KVm m) Kn c) $$ [Hctx Hat Hcr Htk Hr HO Hk Hv Hb0 Hb1]
  · isplitl [Hctx Hat Hcr Htk Hr]
    · isplitl [Hctx]; · iexact Hctx
      isplitl [Hat]; · iexact Hat
      isplitl [Hcr]; · iexact Hcr
      isplitl [Htk]; · iexact Htk
      iexact Hr
    isplitl [HO]; · iexact HO
    isplitl [Hk Hv]
    · isplitl [Hk]; · iexact Hk
      iexact Hv
    isplitl [Hb0]; · iexact Hb0
    iexact Hb1
  icases HA with ⟨Hstart, Hown, Hrest⟩
  iapply (body (KVm m) Kn c (qm m c) r l a (Q := Q) (R := iprop((idle (KVm m) c ∗ spare c) ∗ (∃ r, prngReg c r) ∗ (((semVal (bar c) 0 ∗ sems0 c ∗ scr c ∗ ∃ r, prngReg c r) ∗ (∃ W, owes (c : Thread nD τ) (0 : CellTallies nD τ sig Unit) W) ∗ (((c : Thread nD τ).loc cc0_stg0_0) ↦{fullShare} (qm m c : Buf (Elt F) ((c : Thread nD τ).loc cc0_stg0_0)))
      ∗ stW (KVm m) c false ∗ stW (KVm m) c true
      ∗ (((c : Thread nD τ).loc cc0_stg3_0) ↦{fullShare} (outV (KVm m) c (qm m c) : Buf (Elt F) ((c : Thread nD τ).loc cc0_stg3_0)))) -∗ Q ⟨⟩))) ?_)
  · unfold S2 qIn oOut sems0
    iintro ⟨HS, ⟨%l', %a', HF⟩, Hq, Ho, Hown, Hbar, ⟨Hrest, Hp, HQ⟩⟩
    ihave HE := (finish (KVm m) Kn c) $$ [HS Hown Hrest]
    · isplitl [HS]; · iexact HS
      isplitl [Hown]; · iexact Hown
      iexact Hrest
    icases HE with ⟨HO, Hsem, ⟨Hk, Hv⟩, Hb0, Hb1⟩
    unfold flashSt
    icases HF with ⟨Hl, Ha⟩
    iapply HQ
    isplitl [Hbar Hsem Hb0 Hb1 Hl Ha Hp]
    · isplitl [Hbar]; · iexact Hbar
      isplitl [Hsem]; · iexact Hsem
      isplitr [Hp]
      · unfold scr; rw [← sbW_k, ← sbW_v]
        isplitl [Hb0]; · iexact Hb0
        isplitl [Hb1]; · iexact Hb1
        isplitl [Hl]; · iexists l'; iexact Hl
        iexists a'; iexact Ha
      iexact Hp
    isplitl [HO]; · iexact HO
    isplitl [Hq]; · iexact Hq
    isplitl [Hk]; · iexact Hk
    isplitl [Hv]; · iexact Hv
    iexact Ho
  isplitl [Hstart]; · iexact Hstart
  isplitl [Hl Ha]
  · unfold flashSt
    isplitl [Hl]; · iexact Hl
    iexact Ha
  isplitl [Hq]; · unfold qIn; iexact Hq
  isplitl [Hown]; · iexact Hown
  isplitl [Ho]; · unfold oOut; iexact Ho
  isplitl [Hrest]; · iexact Hrest
  isplitl [Hp]; · iexact Hp
  unfold scr; rw [← sbW_k, ← sbW_v]
  iexact HQ

set_option maxRecDepth 4000 in
theorem body0 (c : Dev nD) : Pipeline.BodyObligation (dat0 m c) (defs₀ (F := F)) 𝒱₀ () Set.univ := fun t => by
  obtain rfl := fin_N0 t
  rw [bigSep_W0, bigSep_W0]
  simp only [owns_whole]
  rw [show (dat0 m c).Φ t0_0.castSucc = Φ0 m c from rfl, show (dat0 m c).Φ t0_0.succ = Φ1 c from rfl]
  iintro ⟨HΦ, HO, ⟨%d0, %f0, %hf0, H0⟩, ⟨%d1, %f1, %hf1, H1⟩, ⟨%d2, %f2, %hf2, H2⟩, ⟨%d3, %f3, %hf3, H3⟩⟩
  rw [before_q] at hf0
  rw [before_k] at hf1
  rw [before_v] at hf2
  subst hf0 hf1 hf2
  ihave HO := (owesAt_elim (dat0 m c) _ (owe0 c) (owed_first m c)) $$ HO
  iapply (run m c f3)
  isplitl [HΦ HO H0 H1 H2 H3]
  · isplitl [HΦ]; · iexact HΦ
    isplitl [HO]; · iexact HO
    isplitl [H0]; · iexact H0
    isplitl [H1]; · iexact H1
    isplitl [H2]; · iexact H2
    iexact H3
  iintro ⟨HΦ, HO, H0, H1, H2, H3⟩
  isplitl [HΦ]; · iexact HΦ
  isplitl [HO]
  · iapply (owesAt_intro (dat0 m c) _ 0 (owed_next m c) rfl) $$ HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro; rfl

end Cert.KProof

end
-- ==== Proof.Launch.lean ====
/-
  The whole program: its segments, what is dealt at launch, and the run.
-/
module

public import proofs.«01_k».proof.Proof.Region
public import proofs.«01_k».proof.Proof.Gen.KernelIdeal.Frame
public import proofs.«01_k».proof.Proof.Gen.KernelIdeal.Launch
public import Idealize.ShloMosaic.Adequacy
public import Idealize.ShloMosaic.Init

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-! ## The program's segments -/

abbrev bufs : Finset (DevRef τ sig) := Pipeline.ucRefs τ sig
abbrev arrs : Finset (DevRef τ sig) := Pipeline.arrRefs (τ := τ) (pcfgs (F := F) 0).spec
theorem arrs_sub : arrs (F := F) ⊆ bufs := Pipeline.arrRefs_sub_ucRefs _ (by intro w; exact (by decide : ∀ w : Fin 4, (Pipeline.arrRef spec0 w).isScoped = false) w)

/-- What rides beside the buffers before the kernel and after it. -/
def R (c : Dev nD) : sProp 𝕄 := iprop(Tk m c ∗ (∃ r, prngReg c r) ∗ ∃ W, owes (c : Thread nD τ) (owe0 c) W)
def R' (c : Dev nD) : sProp 𝕄 := iprop(Yk c ∗ ∃ W, owes (c : Thread nD τ) (0 : CellTallies nD τ sig Unit) W)

/-- The buffers after the kernel, and at the end. -/
def W1 (c : Dev nD) : Valuation τ sig (Elt F) := Function.update (V0 m c) (Proc.devRef .tc main_v4) ((dat0 m c).arrAt 3 cfg0.N)
def W2v (c : Dev nD) : Valuation τ sig (Elt F) := StableHlo.after hostOps1 (W1 m c)

theorem sub_of {ops : List (HloOp τ sig (Elt F))} (h : ops.Forall fun op => op.bufs ⊆ StableHlo.tcRefs τ sig) : ∀ op ∈ ops, op.bufs ⊆ bufs :=
  fun op ho => Pipeline.sub_ucRefs op (List.forall_iff_forall_mem.mp h op ho)

def seg0 : ℍ := Pipeline.HostSeg.ofOps _ _ _ _ _ bufs hostOps0 (sub_of hostOps0_sub) (List.forall_iff_forall_mem.mp hostOps0_fresh) (fun c b => m (c, b)) (R m)
def seg1 : ℍ := Pipeline.HostSeg.ofOps _ _ _ _ _ bufs hostOps1 (sub_of hostOps1_sub) (List.forall_iff_forall_mem.mp hostOps1_fresh) (W1 m) R'

theorem owe_pos {c : Dev nD} {g : GSem nD τ sig} {u : Unit} (h : 0 < owe0 c g u) : u ∈ L g ∧ 0 < lv g u := by
  have hb : ∀ d : Dev nD, u ∈ L (bar d) ∧ 0 < lv (bar d) u := fun d => ⟨by rw [L_tc]; exact Finset.mem_singleton_self _, by rw [lv_bar]; decide⟩
  have ht : ∀ d : Dev nD, 0 < (tallyAt (bar d) () 1 : CellTallies nD τ sig Unit) g u → u ∈ L g ∧ 0 < lv g u := fun d h => by
    rw [tallyAt_apply] at h
    split at h
    · next hg => rw [hg.1]; exact hb d
    · exact absurd h (Nat.lt_irrefl 0)
  have hz : ¬0 < ((0 : CellTallies nD τ sig Unit) g u) := Nat.lt_irrefl 0
  unfold owe0 at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨x, -, -, rfl⟩ := pend_pos h
        exact ⟨by rw [L_tc]; exact Finset.mem_singleton_self _, by rw [lv_recv]; exact (by decide +kernel : ∀ x, 0 < lvl x) x⟩
      · split at h
        · exact ht _ h
        · exact absurd h hz
    · split at h
      · exact ht _ h
      · exact absurd h hz
  · exact ht _ h

theorem cutD (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then owe0 c else 0 := rfl
  rw [e] at h
  split at h
  · exact owe_pos h
  · exact absurd h (Nat.lt_irrefl 0)

theorem held_none (c : Dev nD) (V : Valuation τ sig (Elt F)) : (StableHlo.held (c : Thread nD τ) ∅ V : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V0 m c) ∗ Xk m c)
    ⊢ (pdats m 0 c).Φ 0 := by
  rw [show (pdats m 0 c).Φ 0 = Φ0 m c from rfl,
    show (Pipeline.scopedRest (Pipeline.pin (pcfgs (F := F)) adm 0).spec c : sProp 𝕄) = scr c from scopedRest0_eq c]
  unfold Φ0
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W1 m c) ∗ Pipeline.ownSems0 osem c ∗ Yk c) := by
  rw [show (pdats m 0 c).Φ (Fin.last _) = Φ1 c from rfl, ownSems_eq, held_none,
    show (Pipeline.scopedRest (Pipeline.pin (pcfgs (F := F)) adm 0).spec c : sProp 𝕄) = scr c from scopedRest0_eq c]
  unfold Φ1 sems0
  iintro ⟨HY, Hss, Hs, Hp⟩
  isplitl [Hs]; · iexact Hs
  isplitl [Hp]; · iexact Hp
  isplitr; · iempintro
  isplitl [Hss]; · iexact Hss
  iexact HY

theorem v4_mem : Proc.devRef .tc main_v4 ∈ arrs (F := F) := by
  unfold arrs Pipeline.arrRefs
  exact Finset.mem_map_of_mem _ (Finset.mem_image.mpr ⟨3, Finset.mem_univ _, rfl⟩)

theorem W1_ne (c : Dev nD) {b : DevRef τ sig} (h : b ≠ Proc.devRef .tc main_v4) : W1 m c b = V0 m c b := by
  unfold W1; exact Function.update_of_ne h _ _

theorem ends (c : Dev nD) : ∀ w : Fin 4, (dat0 m c).arrAt w cfg0.N = W1 m c (Proc.devRef .tc (Pipeline.arrRef spec0 w))
  | 0 => ((dat0 m c).arrAt_in 0 rfl _).trans (W1_ne m c (b := Proc.devRef .tc main_v1) (StableHlo.devRef_ne_of_ne (by decide))).symm
  | 1 => ((dat0 m c).arrAt_in 1 rfl _).trans (W1_ne m c (b := Proc.devRef .tc main_v2) (StableHlo.devRef_ne_of_ne (by decide))).symm
  | 2 => ((dat0 m c).arrAt_in 2 rfl _).trans (W1_ne m c (b := Proc.devRef .tc main_v3) (StableHlo.devRef_ne_of_ne (by decide))).symm
  | 3 => by unfold W1; exact (Function.update_self (Proc.devRef .tc main_v4) _ (V0 m c)).symm

set_option backward.isDefEq.respectTransparency.types false in
def reg0 : ℝ𝕊 0 :=
  Pipeline.RegionSeg.ofTalk (pcfgs (F := F)) adm (pdats m) () defs₀ 𝒱₀ L lv 0 osem own_facts
    ∅ (bufs \ arrs (F := F)) (Finset.empty_subset _) launch0.toP rfl (fun c => (body0 m c).loose)
    (fun _ => 0) owe0 (fun c => (owed_zero m c).trans (zero_add _).symm) (owed_last m) (fun _ => rfl) (fun c => (dat0 m c).share_full fun _ => rfl)
    (V0 m) (W1 m) (fun c b hb => W1_ne m c fun h => (Finset.mem_sdiff.mp (Finset.mem_sdiff.mp hb).1).2 (h ▸ v4_mem))
    (Tk m) Yk (Xk m) Yk (hopen m) (hin m) (hout m)
    (fun c => by iintro H; imodintro; iexact H)
    (fun _ => 0)
    ⟨fun _ _ _ => by rw [L_tc]; exact Finset.mem_singleton_self _, fun _ w s => (by decide +kernel : ∀ (w : Fin 4) (s : Fin ((win0 w).nbuf)), lvAt (.dma ((win0 w).sem s)) ≤ 0) w s, fun c t g i h => cutD m c t g i h⟩
    (fun _ => iprop(emp))
    (fun _ _ => rfl) (fun c w => ends m c w)

theorem reg0_pre (c : Dev nD) : iprop(StableHlo.held (c : Thread nD τ) bufs (V0 m c) ∗ R m c) ⊢ (reg0 m).pre c := by
  show _ ⊢ iprop(StableHlo.held (c.tc : Thread nD τ) (arrs (F := F)) (V0 m c) ∗ (∃ r, prngReg c r)
    ∗ (StableHlo.held (c.tc : Thread nD τ) (bufs \ arrs (F := F)) (V0 m c) ∗ emp) ∗ Tk m c ∗ ∃ Wd, owes (c : Thread nD τ) (0 + owe0 c) Wd)
  rw [zero_add, StableHlo.held_sub_split (c : Thread nD τ) (arrs_sub (F := F)) (V0 m c)]
  unfold R
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

theorem reg0_post (c : Dev nD) : (reg0 m).post c ⊢ iprop(StableHlo.held (c : Thread nD τ) bufs (W1 m c) ∗ R' c) := by
  show iprop(StableHlo.held (c.tc : Thread nD τ) (arrs (F := F)) (W1 m c) ∗ (∃ r, prngReg c r)
    ∗ (StableHlo.held (c.tc : Thread nD τ) (bufs \ arrs (F := F)) (W1 m c) ∗ emp) ∗ Yk c ∗ ∃ Wd, owes (c : Thread nD τ) (0 : CellTallies nD τ sig Unit) Wd) ⊢ _
  rw [StableHlo.held_sub_split (c : Thread nD τ) (arrs_sub (F := F)) (W1 m c)]
  unfold R'
  iintro ⟨Ha, -, ⟨Hh, -⟩, HY, HO⟩
  isplitl [Ha Hh]
  · isplitl [Ha]; · iexact Ha
    iexact Hh
  isplitl [HY]; · iexact HY
  iexact HO

def segs : List (Pipeline.Seg (pcfgs (F := F)) adm (pdats m) () defs₀ 𝒱₀ L lv) :=
  [.host (seg0 m), .region (reg0 m), .host (seg1 m)]

/-! ## What is dealt at launch -/

def barEmb : Dev nD ↪ GSem nD τ sig := ⟨bar, fun _ _ h => congrArg (fun g : GSem nD τ sig => g.1.1) h⟩
def scEmb : Dev nD × K ↪ GSem nD τ sig := ⟨fun p => cell p.1 p.2, fun _ _ h =>
  Prod.ext (congrArg (fun g : GSem nD τ sig => g.1.1) h) (semK_inj (SemLoc.dma.inj (congrArg Prod.snd h)))⟩
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact nomatch (congrArg (fun g : GSem nD τ sig => g.2) h : SemLoc.dma _ = SemLoc.reg _)

/-- A device's duties: one a message cell, three the barrier. -/
def dutyOf (s : K ⊕ Fin 3) : SemLoc sig × Fin 3 := match s with
  | .inl k => (.dma (semK k), 0)
  | .inr j => (.reg barrier0, j)
theorem dma_ne_reg (a : DmaSem sig) (b : Sem sig) : (SemLoc.dma a : SemLoc sig) ≠ SemLoc.reg b := fun h => nomatch h
theorem dutyOf_inj : Function.Injective dutyOf := by
  rintro (k | j) (k' | j') h
  · exact congrArg _ (semK_inj (SemLoc.dma.inj (congrArg Prod.fst h)))
  · exact absurd (congrArg Prod.fst h) (dma_ne_reg _ _)
  · exact absurd (congrArg Prod.fst h).symm (dma_ne_reg _ _)
  · exact congrArg _ (congrArg Prod.snd h)
def talkToks : Finset (GSem nD τ sig × ℕ × Fin 3) :=
  Finset.univ.map ⟨fun p : Dev nD × (K ⊕ Fin 3) => (((p.1 : Thread nD τ), (dutyOf p.2).1), 0, (dutyOf p.2).2), fun _ _ h =>
    Prod.ext (congrArg (fun t : GSem nD τ sig × ℕ × Fin 3 => t.1.1.1) h)
      (dutyOf_inj (Prod.ext (congrArg (fun t : GSem nD τ sig × ℕ × Fin 3 => t.1.2) h) (congrArg (fun t : GSem nD τ sig × ℕ × Fin 3 => t.2.2) h)))⟩

def u₀ : UU :=
  (initOf (Pipeline.cells (Pipeline.pin (pcfgs (F := F)) adm) cellOf_inj) (Pipeline.launchToks (Pipeline.pin (pcfgs (F := F)) adm) cellOf_inj),
    launchOf barCells scCells talkToks)

/-- All of a resource on one device, nothing elsewhere. -/
def atDev (c₀ : Dev nD) (P : sProp 𝕄) (c : Dev nD) : sProp 𝕄 := if c = c₀ then P else iprop(emp)
theorem atDev_all (c₀ : Dev nD) (P : sProp 𝕄) : bigSep Finset.univ (atDev c₀ P) = P := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp
def G : Dev nD → sProp 𝕄 := atDev 0 (BI.own (ER (launchOf barCells scCells talkToks)))

/-! ### Tokens to the devices that pay -/

def moveE : Dev nD × X ≃ Dev nD × X where
  toFun p := (tgt p.1 p.2, p.2)
  invFun p := (fr p.1 p.2, p.2)
  left_inv p := Prod.ext (fr_to p.1 p.2) rfl
  right_inv p := Prod.ext (to_fr p.1 p.2) rfl
def ptE : Dev nD ≃ Dev nD := ⟨pt, pt, by decide +kernel, by decide +kernel⟩
def rtE : Dev nD ≃ Dev nD := ⟨rt, lt, by decide +kernel, by decide +kernel⟩
def ltE : Dev nD ≃ Dev nD := ⟨lt, rt, by decide +kernel, by decide +kernel⟩

/-- The tokens a device pays with. -/
def pays (c : Dev nD) : sProp 𝕄 :=
  iprop(((bigSep Finset.univ fun x : X => dutyTok ER (cell c (false, x)) 0 0) ∗ (bigSep Finset.univ fun x : X => dutyTok ER (cell (tgt c x) (true, x)) 0 0))
    ∗ (dutyTok ER (bar (pt c)) 0 0 ∗ dutyTok ER (bar (rt c)) 0 1 ∗ dutyTok ER (bar (lt c)) 0 2))

theorem toks_own : bigSep talkToks (fun x => (dutyTok ER x.1 x.2.1 x.2.2 : sProp 𝕄))
    = bigSep Finset.univ fun c : Dev nD => iprop(((bigSep Finset.univ fun x : X => dutyTok ER (cell c (false, x)) 0 0) ∗ (bigSep Finset.univ fun x : X => dutyTok ER (cell c (true, x)) 0 0))
      ∗ (dutyTok ER (bar c) 0 0 ∗ dutyTok ER (bar c) 0 1 ∗ dutyTok ER (bar c) 0 2)) := by
  unfold talkToks; rw [bigSep_map, bigSep_univ_prod]
  refine bigSep_congr fun c _ => ?_
  rw [BI.bigSep_univ_sum]
  show iprop((bigSep Finset.univ fun k : K => (dutyTok ER (cell c k) 0 0 : sProp 𝕄)) ∗ bigSep Finset.univ fun j : Fin 3 => dutyTok ER (bar c) 0 j) = _
  rw [bigSep_univ_prod, bigSep_two, bigSep_three]

theorem recv_move : (bigSep Finset.univ fun c : Dev nD => bigSep Finset.univ fun x : X => (dutyTok ER (cell c (true, x)) 0 0 : sProp 𝕄))
    = bigSep Finset.univ fun c : Dev nD => bigSep Finset.univ fun x : X => dutyTok ER (cell (tgt c x) (true, x)) 0 0 := by
  rw [← bigSep_univ_prod fun p : Dev nD × X => (dutyTok ER (cell p.1 (true, p.2)) 0 0 : sProp 𝕄),
    ← bigSep_univ_prod fun p : Dev nD × X => (dutyTok ER (cell (tgt p.1 p.2) (true, p.2)) 0 0 : sProp 𝕄)]
  exact bigSep_univ_equiv moveE _

theorem toks_pays : bigSep talkToks (fun x => (dutyTok ER x.1 x.2.1 x.2.2 : sProp 𝕄)) ⊢ bigSep Finset.univ (pays (F := F)) := by
  rw [toks_own]
  unfold pays
  rw [bigSep_sep', bigSep_sep', bigSep_sep', bigSep_sep', bigSep_sep', bigSep_sep', bigSep_sep', bigSep_sep', recv_move,
    bigSep_univ_equiv ptE (fun c : Dev nD => (dutyTok ER (bar c) 0 0 : sProp 𝕄)),
    bigSep_univ_equiv rtE (fun c : Dev nD => (dutyTok ER (bar c) 0 1 : sProp 𝕄)),
    bigSep_univ_equiv ltE (fun c : Dev nD => (dutyTok ER (bar c) 0 2 : sProp 𝕄))]
  exact BI.Entails.refl _

/-! ### Credit at launch -/

theorem cell_ne_bar (c d : Dev nD) (k : K) : cell c k ≠ bar d := fun h => dma_ne_reg _ _ (congrArg Prod.snd h)
theorem bar_eq {c d : Dev nD} : bar c = bar d ↔ c = d := ⟨fun h => congrArg (fun g : GSem nD τ sig => g.1.1) h, fun h => h ▸ rfl⟩
theorem cell_eq {c d : Dev nD} {k k' : K} : cell c k = cell d k' ↔ c = d ∧ k = k' :=
  ⟨fun h => ⟨congrArg (fun g : GSem nD τ sig => g.1.1) h, semK_inj (SemLoc.dma.inj (congrArg Prod.snd h))⟩, fun h => h.1 ▸ h.2 ▸ rfl⟩

theorem pend_bar (c d : Dev nD) (f : K → Fin 4) : pend d f (bar c) () = 0 := by
  rcases Nat.eq_zero_or_pos (pend d f (bar c) ()) with h | h
  · exact h
  · obtain ⟨x, -, -, hx⟩ := pend_pos h
    exact absurd hx.symm (cell_ne_bar _ _ _)

theorem bar_tally (c d : Dev nD) : (tallyAt (bar d) () 1 : CellTallies nD τ sig Unit) (bar c) () = if c = d then 1 else 0 := by
  rw [tallyAt_apply]
  by_cases h : c = d
  · rw [if_pos ⟨bar_eq.mpr h, rfl⟩, if_pos h]
  · rw [if_neg fun h' => h (bar_eq.mp h'.1), if_neg h]
theorem cell_tally (c d : Dev nD) (k : K) : (tallyAt (bar d) () 1 : CellTallies nD τ sig Unit) (cell c k) () = 0 := by
  rw [tallyAt_apply, if_neg fun h => cell_ne_bar _ _ _ h.1]

theorem owe_bar (d c : Dev nD) : owe0 d (bar c) () = (if (zc d).val < 3 ∧ c = rt d then 1 else 0) + (if 0 < (zc d).val ∧ c = lt d then 1 else 0) + (if c = pt d then 1 else 0) := by
  unfold owe0
  rw [Pi.add_apply, Finsupp.add_apply, Pi.add_apply, Finsupp.add_apply, Pi.add_apply, Finsupp.add_apply, pend_bar, bar_tally, zero_add]
  congr 1
  congr 1
  · by_cases h : (zc d).val < 3
    · rw [if_pos h, bar_tally]; simp only [h, true_and]
    · rw [if_neg h, if_neg fun h' => h h'.1]; rfl
  · by_cases h : 0 < (zc d).val
    · rw [if_pos h, bar_tally]; simp only [h, true_and]
    · rw [if_neg h, if_neg fun h' => h h'.1]; rfl

theorem bar_sum : ∀ c : Dev nD, (∑ d : Dev nD, ((if (zc d).val < 3 ∧ c = rt d then 1 else 0) + (if 0 < (zc d).val ∧ c = lt d then 1 else 0) + (if c = pt d then 1 else 0))) = (barD (zc c)).card := by
  decide +kernel

theorem owe_recv (d c : Dev nD) (x : X) : owe0 d (cell c (true, x)) () = if d = fr c x ∧ actR (zc c) x = true then N else 0 := by
  have hp : pend d (ph0 (zc d)) (cell c (true, x)) () = if d = fr c x ∧ actR (zc c) x = true then N else 0 := by
    unfold pend
    rw [Finset.sum_apply, Finsupp.finset_sum_apply]
    have ht : ∀ y : X, due d y (cell c (true, x)) () = if c = tgt d y ∧ x = y then N else 0 := fun y => by
      unfold due; rw [tallyAt_apply]
      by_cases h : c = tgt d y ∧ x = y
      · rw [if_pos ⟨cell_eq.mpr ⟨h.1, by rw [h.2]⟩, rfl⟩, if_pos h]
      · rw [if_neg fun h' => h ⟨(cell_eq.mp h'.1).1, (Prod.mk.inj (cell_eq.mp h'.1).2).2⟩, if_neg h]
    rw [Finset.sum_congr rfl fun y _ => ht y]
    by_cases h : d = fr c x ∧ actR (zc c) x = true
    · rw [if_pos h]
      obtain ⟨rfl, ha⟩ := h
      rw [Finset.sum_eq_single x (fun y _ hy => if_neg fun h' => hy h'.2.symm) fun hx => ?_, if_pos ⟨(to_fr c x).symm, rfl⟩]
      refine absurd (Finset.mem_filter.mpr ⟨Finset.mem_univ _, by rw [actS_fr]; exact ha, ?_⟩) hx
      exact (by decide +kernel : ∀ (z : Fin 4) (k : K), (ph0 z k).val < 2) _ _
    · rw [if_neg h]
      refine Finset.sum_eq_zero fun y hy => if_neg fun h' => h ?_
      obtain ⟨rfl, rfl⟩ := h'
      exact ⟨(fr_to d x).symm, by rw [actR_to]; exact (Finset.mem_filter.mp hy).2.1⟩
  unfold owe0
  rw [Pi.add_apply, Finsupp.add_apply, Pi.add_apply, Finsupp.add_apply, Pi.add_apply, Finsupp.add_apply, hp, cell_tally, add_zero]
  have h0 : ∀ (p : Prop) [Decidable p] (e : Dev nD), (if p then (tallyAt (bar e) () 1 : CellTallies nD τ sig Unit) else 0) (cell c (true, x)) () = 0 := fun p _ e => by
    split
    · exact cell_tally _ _ _
    · rfl
  rw [h0, h0]; rfl

theorem launch_bar (c : Dev nD) : tallyOn (bar c) (launchCredit (Pipeline.owing owe0) 0 (bar c)) = (tallyAt (bar c) () (barD (zc c)).card : CellTallies nD τ sig Unit) := by
  unfold tallyAt; refine congrArg _ (Finsupp.ext fun u => ?_); cases u
  rw [Pipeline.launchCredit_owing, Finsupp.single_eq_same, Finset.sum_congr rfl fun d _ => owe_bar d c]
  exact bar_sum c

theorem launch_recv (c : Dev nD) (x : X) (ha : actR (zc c) x = true) :
    tallyOn (cell c (true, x)) (launchCredit (Pipeline.owing owe0) 0 (cell c (true, x))) = (tallyAt (cell c (true, x)) () N : CellTallies nD τ sig Unit) := by
  unfold tallyAt; refine congrArg _ (Finsupp.ext fun u => ?_); cases u
  rw [Pipeline.launchCredit_owing, Finsupp.single_eq_same, Finset.sum_congr rfl fun d _ => owe_recv d c x]
  simp only [ha, and_true]
  rw [Finset.sum_ite_eq' Finset.univ (fr c x) fun _ => N, if_pos (Finset.mem_univ _)]

/-- The receive credits of a device. -/
def rcreds (c : Dev nD) : sProp 𝕄 := bigSep Finset.univ fun x : X => if actR (zc c) x = true then cred (tallyAt (cell c (true, x)) () N) else iprop(emp)

theorem creds (c : Dev nD) : (Pipeline.launchCred owe0 c : sProp 𝕄) ⊢ iprop(cred (tallyAt (bar c) () (barD (zc c)).card) ∗ rcreds c) := by
  unfold Pipeline.launchCred
  rw [bigSep_univ_at _ (SemLoc.reg barrier0), launch_bar]
  refine sep_mono_right ?_
  refine (bigSep_subset (t := Finset.univ.image fun x : X => (SemLoc.dma (semK (true, x)) : SemLoc sig)) fun s hs => ?_).trans ?_
  · obtain ⟨x, -, rfl⟩ := Finset.mem_image.mp hs
    exact Finset.mem_erase.mpr ⟨fun h => dma_ne_reg _ _ h, Finset.mem_univ _⟩
  rw [bigSep_image_of_injOn fun x _ y _ h => (Prod.mk.inj (semK_inj (SemLoc.dma.inj h))).2]
  refine bigSep_mono fun x _ => ?_
  by_cases ha : actR (zc c) x = true
  · rw [if_pos ha, ← launch_recv c x ha]; exact BI.Entails.refl _
  · rw [if_neg ha]
    have h : (cred (tallyOn (cell c (true, x)) (launchCredit (Pipeline.owing owe0) 0 (cell c (true, x)))) : sProp 𝕄) ⊢ iprop(emp) := by iintro -; iempintro
    exact h

/-! ### Everything dealt -/

/-- The records every device may consult. -/
def records (κ : GSem nD τ sig → ℕ) : sProp 𝕄 := iprop(recs m κ ∗ bigSep Finset.univ fun c : Dev nD => reached ER (bar c) 0)
instance records_persistent (κ : GSem nD τ sig → ℕ) : Persistent (records m κ) := by unfold records; infer_instance

theorem records_of (κ : GSem nD τ sig → ℕ) :
    iprop((bigSep (barCells ∪ scCells) fun g => cellInv ER (Rd (KVm m)) (κ g) g) ∗ bigSep barCells fun g => reached ER g 0) ⊢ records m κ := by
  unfold records recs
  rw [bigSep_union disjoint_cells, bigSep_map, bigSep_map, bigSep_map]
  have h : ∀ A B C : sProp 𝕄, iprop((A ∗ B) ∗ C) ⊢ iprop((B ∗ A) ∗ C) := fun A B C => by
    iintro ⟨⟨H1, H2⟩, H3⟩
    isplitr [H3]
    · isplitl [H2]; · iexact H2
      iexact H1
    · iexact H3
  exact h _ _ _

/-- What of a device's launch holdings is not the protocol's. -/
def bundle (c : Dev nD) : sProp 𝕄 :=
  iprop(StableHlo.held (c : Thread nD τ) bufs (fun b => m (c, b)) ∗ (cred (tallyAt (bar c) () (barD (zc c)).card) ∗ rcreds c)
    ∗ owes (c : Thread nD τ) (owe0 c) ∅ ∗ ∃ r, prngReg c r)

/-- What is a device's own of the protocol's. -/
def linear (c : Dev nD) : sProp 𝕄 :=
  iprop(atPos ER (bar c) 0 ∅ 0 ∗ (bigSep Finset.univ fun k : K => openTok ER (cell c k)) ∗ pays c)

abbrev T₀ (c : Dev nD) : sProp 𝕄 := iprop(StableHlo.held (c : Thread nD τ) bufs (fun b => m (c, b)) ∗ R m c)
abbrev Tₙ (c : Dev nD) : sProp 𝕄 := iprop(StableHlo.held (c : Thread nD τ) bufs (W2v m c) ∗ semVal (bar c) 0)

theorem raw_all (c : Dev nD) : iprop((bigSep Finset.univ fun k : K => openTok ER (cell c k)) ∗ rcreds c
      ∗ (bigSep Finset.univ fun x : X => dutyTok ER (cell c (false, x)) 0 0) ∗ (bigSep Finset.univ fun x : X => dutyTok ER (cell (tgt c x) (true, x)) 0 0))
    ⊢ (bigSep Finset.univ (raw1 c) : sProp 𝕄) := by
  have e : (bigSep Finset.univ fun k : K => iprop(if k.1 = true then (if actR (zc c) k.2 = true then cred (tallyAt (cell c (true, k.2)) () N) else iprop(emp))
      else iprop(dutyTok ER (cell c (false, k.2)) 0 0 ∗ dutyTok ER (cell (tgt c k.2) (true, k.2)) 0 0)) : sProp 𝕄)
    = iprop(((bigSep Finset.univ fun x : X => dutyTok ER (cell c (false, x)) 0 0) ∗ (bigSep Finset.univ fun x : X => dutyTok ER (cell (tgt c x) (true, x)) 0 0)) ∗ rcreds c) := by
    rw [bigSep_univ_prod, bigSep_two]
    conv_rhs => rw [← bigSep_sep']
    rfl
  have e2 : (bigSep Finset.univ (raw1 c) : sProp 𝕄) = iprop((bigSep Finset.univ fun k : K => openTok ER (cell c k))
      ∗ ((bigSep Finset.univ fun x : X => dutyTok ER (cell c (false, x)) 0 0) ∗ (bigSep Finset.univ fun x : X => dutyTok ER (cell (tgt c x) (true, x)) 0 0)) ∗ rcreds c) := by
    rw [← e, ← bigSep_sep']; rfl
  rw [e2]
  iintro ⟨Ho, Hc, H1, H2⟩
  isplitl [Ho]; · iexact Ho
  isplitl [H1 H2]
  · isplitl [H1]; · iexact H1
    iexact H2
  iexact Hc

theorem tok_of (κ : GSem nD τ sig → ℕ) (d : Dev nD) (j : Fin 3) : iprop(records m κ ∗ dutyTok ER (bar d) 0 j) ⊢ tok d j := by
  unfold records tok
  iintro ⟨⟨-, HR⟩, Ht⟩
  isplitl [Ht]; · iexact Ht
  iapply (all_at (fun c : Dev nD => reached ER (bar c) 0) d) $$ HR

theorem tok_if (κ : GSem nD τ sig → ℕ) (p : Prop) [Decidable p] (d : Dev nD) (j : Fin 3) :
    iprop(records m κ ∗ dutyTok ER (bar d) 0 j) ⊢ (if p then tok d j else iprop(emp)) := by
  by_cases h : p
  · rw [if_pos h]; exact tok_of m κ d j
  · rw [if_neg h]; iintro -; iempintro

theorem T₀_intro (κ : GSem nD τ sig → ℕ) (c : Dev nD) : iprop(records m κ ∗ (linear c ∗ bundle m c)) ⊢ T₀ m c := by
  unfold bundle linear T₀ R Tk barH pays
  iintro ⟨#HR, ⟨Hat, Ho, ⟨Hs, Hr⟩, H0, H1, H2⟩, Hh, ⟨Hcb, Hcr⟩, HO, Hp⟩
  isplitl [Hh]; · iexact Hh
  isplitr [HO Hp]
  · iexists κ
    isplitr
    · have h : records m κ ⊢ recs m κ := by unfold records; iintro ⟨H, -⟩; iexact H
      iapply h; iexact HR
    isplitl [Hat Hcb H0 H1 H2]
    · isplitl [Hat]; · iexact Hat
      isplitl [Hcb]; · iexact Hcb
      isplitl [H0]
      · iapply (tok_of m κ (pt c) 0); isplitr; · iexact HR
        iexact H0
      isplitl [H1]
      · iapply (tok_if m κ ((zc c).val < 3) (rt c) 1); isplitr; · iexact HR
        iexact H1
      · iapply (tok_if m κ (0 < (zc c).val) (lt c) 2); isplitr; · iexact HR
        iexact H2
    iapply (raw_all c)
    isplitl [Ho]; · iexact Ho
    isplitl [Hcr]; · iexact Hcr
    isplitl [Hs]; · iexact Hs
    iexact Hr
  isplitl [Hp]; · iexact Hp
  iexists ∅; iexact HO

theorem bar_only (c : Dev nD) : (unscopedSems0 c : sProp 𝕄) = semVal (bar c) 0 := by
  unfold unscopedSems0
  rw [show (Finset.univ.filter fun sm : SemLoc sig => ¬ sm.isScoped .tc) = {SemLoc.reg barrier0} from by decide +kernel, BI.bigSep_singleton]

theorem init :
    iprop((bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G c)) ∗ levAts L lv)
      ⊢ (|={Set.univ}=> bigSep Finset.univ (T₀ m) : sProp 𝕄) := by
  have hdev (c : Dev nD) : iprop(unscopedBufs c (fun b => m ((c : Thread nD τ).loc b)) ∗ unscopedSems0 c
        ∗ owes (c : Thread nD τ) (owe0 c) ∅ ∗ Pipeline.launchCred owe0 c ∗ prngReg c (ρ c) ∗ G c)
      ⊢ (iprop(bundle m c ∗ (semVal (bar c) 0 ∗ G c)) : sProp 𝕄) := by
    rw [show unscopedBufs c (fun b => m ((c : Thread nD τ).loc b)) = StableHlo.held (c : Thread nD τ) bufs (fun b => m (c, b)) from Pipeline.unscopedBufs_held c (fun b => m (c, b)),
      bar_only]
    unfold bundle
    iintro ⟨Hh, Hb, HO, Hcr, Hp, HG⟩
    isplitl [Hh Hcr HO Hp]
    · isplitl [Hh]; · iexact Hh
      isplitl [Hcr]; · iapply (creds (F := F) c) $$ Hcr
      isplitl [HO]; · iexact HO
      iexists (ρ c); iexact Hp
    isplitl [Hb]; · iexact Hb
    iexact HG
  have hval : bigSep Finset.univ (fun c : Dev nD => (semVal (bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hpos : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄)) ⊢ bigSep Finset.univ (fun c : Dev nD => bigSep Finset.univ fun k : K => openTok ER (cell c k)) :=
    Entails.of_eq (by rw [bigSep_map, bigSep_univ_prod]; rfl)
  have hG : bigSep Finset.univ (G (F := F)) ⊢ BI.own (ER (launchOf barCells scCells talkToks)) := by
    unfold G; rw [atDev_all]
  have hall : (bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G c))
      ⊢ (bigSep Finset.univ fun c : Dev nD => iprop(bundle m c ∗ (semVal (bar c) 0 ∗ G c)) : sProp 𝕄) := bigSep_mono fun c _ => hdev c
  iintro ⟨H, -⟩
  ihave H' := hall $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := hG $$ HG
  imod (Rounds.fund_launch ER (Rd (KVm m)) disjoint_cells (fun g _ h => h) talkToks) $$ [Hv Hu] with ⟨%κ, -, #Hinv, #Hr, Hat, Hopen, Htok⟩
  · isplitl [Hv]
    · iapply hval $$ Hv
    · iexact Hu
  imodintro
  iapply (bigSep_with_persistent (R := records m κ) (Φ := fun c => iprop(linear c ∗ bundle m c)) fun c _ => T₀_intro m κ c)
  isplitr
  · iapply (records_of m κ)
    isplitr; · iexact Hinv
    iexact Hr
  iapply (Entails.of_eq (bigSep_sep' _ _ _).symm)
  isplitr [HB]
  · unfold linear
    iapply (Entails.of_eq (bigSep_sep' _ _ _).symm); isplitl [Hat]; · iapply hpos $$ Hat
    iapply (Entails.of_eq (bigSep_sep' _ _ _).symm); isplitl [Hopen]; · iapply hop $$ Hopen
    iapply (toks_pays (F := F)) $$ Htok
  · iexact HB

/-! ## The run -/

theorem unscoped_only : ∀ sm : SemLoc sig, sm.isScoped .tc = false → sm = .reg barrier0 := by decide +kernel

theorem bufs_eq (c : Dev nD) (W : Valuation τ sig (Elt F)) : (StableHlo.held (c : Thread nD τ) bufs W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_v1 ↦{fullShare} W main_v1)
      ∗ ((c : Thread nD τ).loc main_v2 ↦{fullShare} W main_v2) ∗ ((c : Thread nD τ).loc main_v3 ↦{fullShare} W main_v3)
      ∗ ((c : Thread nD τ).loc main_v4 ↦{fullShare} W main_v4) ∗ ((c : Thread nD τ).loc main_v5 ↦{fullShare} W main_v5)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3, Proc.devRef .tc main_v4, Proc.devRef .tc main_v5] (by decide +kernel) (by decide +kernel)]
  rfl

/-- The result, from the kernel's. -/
theorem W2v_v5 (c : Dev nD) : W2v m c main_v5 = transpose S2x512x8x64 [0, 3, 1, 2] ((dat0 m c).arrAt 3 cfg0.N) transposes_S2x8x64x512_S2x512x8x64_0_3_1_2 := by
  unfold W2v hostOps1
  rw [StableHlo.after_cons, StableHlo.after_nil, StableHlo.unary_result]
  unfold W1
  rw [Function.update_self]

theorem W2v_arg (c : Dev nD) (b : Ref sig .tc) (h4 : b ≠ main_v4) (h5 : b ≠ main_v5) : W2v m c (Proc.devRef .tc b) = V0 m c (Proc.devRef .tc b) := by
  unfold W2v hostOps1
  rw [StableHlo.after_cons, StableHlo.after_nil, StableHlo.unary_result_ne _ _ _ _ _ _ h5]
  exact W1_ne m c (StableHlo.devRef_ne_of_ne h4)

set_option backward.isDefEq.respectTransparency.types false in
/-- From any memory with every counter at zero the program ends, its arguments unchanged, its result the kernel's, every counter at zero. -/
theorem run_main : θ_run defs (onTc (τ := τ) (main (F := F))) (⟨m, fun _ => 0, ρ⟩)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v5) = W2v m c main_v5) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg0 m) rfl rfl c]; rfl)
    (by simp only [segs, Pipeline.Seg.pipes_host, Pipeline.Seg.pipes_region, Pipeline.Seg.pipes_nil]; decide)
    (O₀ := owe0) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [atDev_all]; iexact HX)
    (T₀ := T₀ m) (Tₙ := Tₙ m)
    (hch := by
      refine ⟨fun c => .rfl, fun c => reg0_pre m c, fun c => reg0_post m c, fun c => ?_⟩
      show iprop(StableHlo.held (c : Thread nD τ) bufs (W2v m c) ∗ R' c)
        ⊢ iprop(Tₙ m c ∗ ∃ W, owes (c : Thread nD τ) (0 : CellTallies nD τ sig Unit) W)
      unfold R' Yk Tₙ
      iintro ⟨Hh, Hb0, HO⟩
      isplitr [HO]
      · isplitl [Hh]; · iexact Hh
        iexact Hb0
      · iexact HO)
    (hinit := init m ρ)
    (QY := fun c s => (s.mem ((c : Thread nD τ).loc main_arg0) = W2v m c main_arg0 ∧ s.mem ((c : Thread nD τ).loc main_arg1) = W2v m c main_arg1
        ∧ s.mem ((c : Thread nD τ).loc main_arg2) = W2v m c main_arg2 ∧ s.mem ((c : Thread nD τ).loc main_v5) = W2v m c main_v5)
      ∧ s.sem (bar c) = 0)
    (hfin := fun c s' => by
      dsimp only [Tₙ]; rw [bufs_eq]
      iintro ⟨⟨⟨H0, H1, H2, -, -, -, -, H5⟩, Hb0⟩, HSI⟩
      icombine HSI H0 gives %h0
      icombine HSI H1 gives %h1
      icombine HSI H2 gives %h2
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h5⟩, by simpa using hb⟩
      iexact HSI)
    (hQ := fun s h hs => ⟨fun c => by
        obtain ⟨⟨h0, h1, h2, h5⟩, -⟩ := h c
        rw [W2v_arg m c main_arg0 (by decide) (by decide)] at h0
        rw [W2v_arg m c main_arg1 (by decide) (by decide)] at h1
        rw [W2v_arg m c main_arg2 (by decide) (by decide)] at h2
        exact ⟨h0.trans (V_main_arg0 m c), h1.trans (V_main_arg1 m c), h2.trans (V_main_arg2 m c), h5⟩,
      sem_eq_zero hs fun c sm hsm => by
        obtain rfl := unscoped_only sm hsm
        exact (h c).2⟩)

end Cert.KProof

end
-- ==== Proof.Frames.lean ====
module

public import proofs.«01_k».proof.Proof.Launch
public import proofs.«01_k».proof.Proof.Gen.Kernel.Frame
public import proofs.«01_k».proof.Proof.Gen.ReferenceIdeal.Run
public import proofs.«01_k».proof.Defs

@[expose] public section

/-! The frames of the three programs, each read off one run: the program ends, its arguments unchanged, every counter at zero. -/

noncomputable section

namespace Cert.KProof

open Idealize.ShloMosaic Idealize.SL.Sem

/-! The kernel and its reading over the extended reals are one text. -/

section Same
variable {F : FTy → Type} [FloatOps F]

theorem same_body : Cert.Kernel.cc0_body (F := F) = Cert.KernelIdeal.cc0_body (F := F) := rfl

theorem same_bodies : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (same_body (F := F)) _) _) _) _) _) _) _) _) _) _) _) _) _) _) _) _) _) _) _) _) _) _

theorem same_defs : Cert.Kernel.defs (F := F) = Cert.KernelIdeal.defs (F := F) :=
  congrArg (Pipeline.defs Cert.Kernel.pcfgs) same_bodies
end Same

theorem frame_kernel : Cert.quiescent_Kernel := fun m ρ _ => by
  have h := (θ_run Cert.KernelIdeal.defs _ _).mono (fun _ h => (⟨fun c => ⟨(h.1 c).1, (h.1 c).2.1, (h.1 c).2.2.1⟩, h.2⟩ : (∀ c : Dev Cert.KernelIdeal.nD, _ ∧ _ ∧ _) ∧ _)) (run_main (F := Bits) m ρ)
  rw [same_defs]
  exact h

theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof

end
-- ==== Proof.Payload.lean ====
/-
  The stored values of the kernel's loops, each entry read as a formula over extended reals.
-/
module

public import proofs.«01_k».proof.Proof.Flash
public import Idealize.ShloMosaic.Lib.Pointwise

@[expose] public section

namespace Cert.KProof

open Idealize.ShloMosaic Cert.KernelIdeal Cert.KernelIdeal.Gen
open scoped BigOperators

/-- The scale: an eighth. -/
theorem ofBits_eighth : Ideal.ofBits .f32 0x3E000000#32 = ((1 / 8 : ℝ) : EReal) := by
  simp [Ideal.ofBits, Ideal.ieee]
  rw [← EReal.coe_mul]
  norm_num

variable (q k v : Vec Ideal S1x1x64x512 .f32) (k' v' : Vec Ideal S1x1x1x64x512 .f32) (s e : FVec Ideal S512x512 .f32)
  (l : Vec Ideal S1x1x512 .f32) (a : Vec Ideal S1x1x64x512 .f32) (i j : Fin 512) (d : Fin 64)

theorem pay5_at : k0_pay5 q k (ix2 i j) = (∑ d : Fin 64, k (ix4 0 0 d i) * q (ix4 0 0 d j)) * ((1 / 8 : ℝ) : EReal) := by
  rw [← ofBits_eighth]
  pointwise [k0_pay5]
theorem pay13_at : k0_pay13 q k' (ix2 i j) = ∑ d : Fin 64, k' (ix5 0 0 0 d i) * q (ix4 0 0 d j) := by
  pointwise [k0_pay13]
theorem pay14_at : k0_pay14 (F := Ideal) (ix2 i j) = ((1 / 8 : ℝ) : EReal) := by
  rw [← ofBits_eighth]
  pointwise [k0_pay14]
theorem pay7_at : k0_pay7 s (ix3 0 0 j) = ∑ i : Fin 512, Ideal.exp (s (ix2 i j)) := by
  pointwise [k0_pay7, k0_pay6]
theorem pay8_at : k0_pay8 s v (ix4 0 0 d j) = ∑ i : Fin 512, v (ix4 0 0 d i) * Ideal.exp (s (ix2 i j)) := by
  pointwise [k0_pay8, k0_pay6]
theorem pay20_at : k0_pay20 s e l (ix3 0 0 j) = l (ix3 0 0 j) + ∑ i : Fin 512, Ideal.exp (s (ix2 i j) * e (ix2 i j)) := by
  pointwise [k0_pay20, k0_pay19]
theorem pay21_at : k0_pay21 s e v' a (ix4 0 0 d j) = a (ix4 0 0 d j) + ∑ i : Fin 512, v' (ix5 0 0 0 d i) * Ideal.exp (s (ix2 i j) * e (ix2 i j)) := by
  pointwise [k0_pay21, k0_pay19]
theorem pay1_at : k0_pay1 s e v' l a (ix4 0 0 d j)
    = Ideal.div (a (ix4 0 0 d j) + ∑ i : Fin 512, v' (ix5 0 0 0 d i) * Ideal.exp (s (ix2 i j) * e (ix2 i j)))
        (l (ix3 0 0 j) + ∑ i : Fin 512, Ideal.exp (s (ix2 i j) * e (ix2 i j))) := by
  pointwise [k0_pay1]

end Cert.KProof

end
-- ==== Proof.Value.lean ====
/-
  What a device writes, read at an entry: the quotient of the weighted sum and the row sum over all four chunks.
-/
module

public import proofs.«01_k».proof.Proof.Body
public import proofs.«01_k».proof.Proof.Payload

@[expose] public section

noncomputable section

namespace Cert.KProof

open Idealize.ShloMosaic Cert.KernelIdeal Cert.KernelIdeal.Gen
open scoped BigOperators

section Chunk
variable (q k v a : S2x8x64x512.Idx → Elt Ideal .f32) (l : S16x1x512.Idx → Elt Ideal .f32) (b : Fin 2) (h : Fin 8) (d : Fin 64) (j : Fin 512)

/-- The score of the key in row `i` of a chunk for the query in row `j`. -/
def chunkScore (i : Fin 512) : EReal := (∑ d : Fin 64, k (ix4 b h d i) * q (ix4 b h d j)) * ((1 / 8 : ℝ) : EReal)
/-- A chunk's part of the row sum and of the weighted sum. -/
def chunkDen : EReal := ∑ i : Fin 512, Ideal.exp (chunkScore q k b h j i)
def chunkNum : EReal := ∑ i : Fin 512, v (ix4 b h d i) * Ideal.exp (chunkScore q k b h j i)

theorem rd4_at : rd4 a (tt b h) (ix4 0 0 d j) = a (ix4 b h d j) := by
  show a (ix4 (bt (tt b h)) (ht (tt b h)) d j) = _
  rw [bt_tt, ht_tt]
theorem rd5_at : rd5 a (tt b h) (ix5 0 0 0 d j) = a (ix4 b h d j) := by
  show a (ix4 (bt (tt b h)) (ht (tt b h)) d j) = _
  rw [bt_tt, ht_tt]
theorem rd3_at (t : Fin 16) : rd3 l t (ix3 0 0 j) = l (ix3 t 0 j) := rfl
theorem score_own (i : Fin 512) : k0_pay5 (rd4 q (tt b h)) (rd4 k (tt b h)) (ix2 i j) = chunkScore q k b h j i := by
  rw [pay5_at]; simp only [rd4_at]; rfl
theorem score_acc (i : Fin 512) : k0_pay13 (rd4 q (tt b h)) (rd5 k (tt b h)) (ix2 i j) * k0_pay14 (F := Ideal) (ix2 i j) = chunkScore q k b h j i := by
  rw [pay13_at, pay14_at]; simp only [rd4_at, rd5_at]; rfl

theorem ownL_val : ownL q k (ix3 (tt b h) 0 j) = chunkDen q k b h j := by
  show k0_pay7 (k0_pay5 (rd4 q (tt b h)) (rd4 k (tt b h))) (ix3 0 0 j) = _
  rw [pay7_at]; simp only [score_own]; rfl
theorem ownA_val : ownA q k v (ix4 b h d j) = chunkNum q k v b h d j := by
  show k0_pay8 (k0_pay5 (rd4 q (tt b h)) (rd4 k (tt b h))) (rd4 v (tt b h)) (ix4 0 0 d j) = _
  rw [pay8_at]; simp only [score_own, rd4_at]; rfl
theorem accL_val : accL q k l (ix3 (tt b h) 0 j) = l (ix3 (tt b h) 0 j) + chunkDen q k b h j := by
  show k0_pay20 (k0_pay13 (rd4 q (tt b h)) (rd5 k (tt b h))) k0_pay14 (rd3 l (tt b h)) (ix3 0 0 j) = _
  rw [pay20_at]; simp only [score_acc, rd3_at]; rfl
theorem accA_val : accA q k v a (ix4 b h d j) = a (ix4 b h d j) + chunkNum q k v b h d j := by
  show k0_pay21 (k0_pay13 (rd4 q (tt b h)) (rd5 k (tt b h))) k0_pay14 (rd5 v (tt b h)) (rd4 a (tt b h)) (ix4 0 0 d j) = _
  rw [pay21_at]; simp only [score_acc, rd4_at, rd5_at]; rfl
theorem finO_val : finO q k v l a (ix4 b h d j) = Ideal.div (a (ix4 b h d j) + chunkNum q k v b h d j) (l (ix3 (tt b h) 0 j) + chunkDen q k b h j) := by
  show k0_pay1 (k0_pay13 (rd4 q (tt b h)) (rd5 k (tt b h))) k0_pay14 (rd5 v (tt b h)) (rd3 l (tt b h)) (rd4 a (tt b h)) (ix4 0 0 d j) = _
  rw [pay1_at]; simp only [score_acc, rd3_at, rd4_at, rd5_at]; rfl
end Chunk

/-- The own chunk and the three received are the four chunks. -/
theorem sum_ord (f : Fin 4 → EReal) (z : Fin 4) : f z + f (ord z 0) + f (ord z 1) + f (ord z 2) = ∑ o, f o := by
  have h : ∀ z : Fin 4, ({z, ord z 0, ord z 1, ord z 2} : Finset (Fin 4)) = Finset.univ ∧ z ≠ ord z 0 ∧ z ≠ ord z 1 ∧ z ≠ ord z 2 ∧ ord z 0 ≠ ord z 1
      ∧ ord z 0 ≠ ord z 2 ∧ ord z 1 ≠ ord z 2 := by decide
  obtain ⟨hu, h1, h2, h3, h4, h5, h6⟩ := h z
  rw [← hu, Finset.sum_insert (by simp [h1, h2, h3]), Finset.sum_insert (by simp [h4, h5]), Finset.sum_pair h6]
  simp only [add_assoc]

theorem zc_src : ∀ (b : Bool) (c : Dev nD) (o : Fin 4), zc (srcDev b c o) = o := by decide +kernel

/-- **What a device writes**, when its chunks depend on their z position alone. -/
theorem outV_val (KV : Bool → Dev nD → S2x8x64x512.Idx → Elt Ideal .f32) (G : Bool → Fin 4 → S2x8x64x512.Idx → Elt Ideal .f32)
    (hG : ∀ b c, KV b c = G b (zc c)) (c : Dev nD) (q : S2x8x64x512.Idx → Elt Ideal .f32) (b : Fin 2) (h : Fin 8) (d : Fin 64) (j : Fin 512) :
    outV KV c q (ix4 b h d j) = Ideal.div (∑ o, chunkNum q (G false o) (G true o) b h d j) (∑ o, chunkDen q (G false o) b h j) := by
  rw [outV, oAt, finO_val, aV, aAt, accA_val, aAt, accA_val, ownA_val, lV, lAt, accL_val, lAt, accL_val, ownL_val]
  simp only [hG, zc_src]
  rw [← sum_ord _ (zc c), ← sum_ord _ (zc c)]

end Cert.KProof

end
-- ==== Proof.Softmax.lean ====
/-
  The mathematics of the kernel: a softmax weighted sum over extended reals, once as the quotient of two plain sums of
  exponentials and once with the greatest score taken off first.
-/
module

public import Idealize.ShloMosaic.PureOps.Ideal
public import Mathlib.Data.EReal.Inv

@[expose] public section

namespace Cert.KProof

open Idealize.ShloMosaic
open scoped BigOperators

/-- A sum of real numbers is the sum read as an extended real. -/
theorem coe_sum {ι : Type} [Fintype ι] (f : ι → ℝ) : ((∑ k, f k : ℝ) : EReal) = ∑ k, (f k : EReal) := by
  classical
  exact map_sum (⟨⟨Real.toEReal, EReal.coe_zero⟩, EReal.coe_add⟩ : ℝ →+ EReal) f Finset.univ

/-- Multiplying by a nonnegative real goes through a sum, whatever the terms. -/
theorem sum_mul_coe {ι : Type} (s : Finset ι) (f : ι → EReal) {c : ℝ} (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A quotient by a real that is not zero. -/
theorem div_coe (x : EReal) {c : ℝ} (hc : c ≠ 0) : Ideal.div x (c : EReal) = x * ((c⁻¹ : ℝ) : EReal) := by
  have h : (c : EReal) ≠ 0 := by exact_mod_cast hc
  rw [Ideal.div, if_neg h, EReal.coe_inv]

theorem exp_real (r : ℝ) : Ideal.exp (r : EReal) = ((Real.exp r : ℝ) : EReal) := rfl

/-- **The two ways to weigh values by a softmax agree** at real scores, whatever the values. -/
theorem softmax_eq {ι : Type} [Fintype ι] [Nonempty ι] (S : ι → ℝ) (m : ℝ) (v : ι → EReal) :
    Ideal.div (∑ k, v k * Ideal.exp (S k : EReal)) (∑ k, Ideal.exp (S k : EReal))
      = ∑ k, v k * Ideal.div (Ideal.exp ((S k : EReal) - (m : EReal))) (∑ j, Ideal.exp ((S j : EReal) - (m : EReal))) := by
  have hpos : 0 < ∑ k, Real.exp (S k) := Finset.sum_pos (fun k _ => Real.exp_pos _) Finset.univ_nonempty
  have hs : ∑ k, Ideal.exp (S k : EReal) = ((∑ k, Real.exp (S k) : ℝ) : EReal) := by
    rw [coe_sum]; exact Finset.sum_congr rfl fun k _ => exp_real _
  have he : ∀ k, Ideal.exp ((S k : EReal) - (m : EReal)) = ((Real.exp (S k) * Real.exp (-m) : ℝ) : EReal) := fun k => by
    rw [← EReal.coe_sub, exp_real, sub_eq_add_neg, Real.exp_add]
  have hs' : ∑ k, Ideal.exp ((S k : EReal) - (m : EReal)) = (((∑ k, Real.exp (S k)) * Real.exp (-m) : ℝ) : EReal) := by
    rw [Finset.sum_mul, coe_sum]; exact Finset.sum_congr rfl fun k _ => he k
  rw [hs, hs', div_coe _ hpos.ne', sum_mul_coe _ _ (inv_nonneg.mpr hpos.le)]
  refine Finset.sum_congr rfl fun k _ => ?_
  rw [he, div_coe _ (mul_pos hpos (Real.exp_pos _)).ne', exp_real, mul_assoc, ← EReal.coe_mul, ← EReal.coe_mul]
  congr 2
  have := (Real.exp_pos (-m)).ne'
  field_simp

end Cert.KProof

end
-- ==== Proof.RefValue.lean ====
/-
  What the reference computes, read at an entry.
-/
module

public import proofs.«01_k».proof.Proof.Softmax
public import proofs.«01_k».proof.Proof.Gen.ReferenceIdeal.Run
public import Idealize.ShloMosaic.Lib.Pointwise

@[expose] public section

noncomputable section

namespace Cert.KProof

open Idealize.ShloMosaic Idealize.SL.Sem Cert.ReferenceIdeal Cert.ReferenceIdeal.Gen
open scoped BigOperators

abbrev Glob : Type := FVec Ideal S2x2048x8x64 .f32

variable (Q K V : Glob)

/-- The scores, their greatest along a row, the exponentials, their sums, and the result, as the reference computes them. -/
def refS : FVec Ideal S2x8x2048x2048 .f32 :=
  mulf (Host.dotGeneral dot_S2x2048x8x64_S2x2048x8x64_S2x8x2048x2048_3_3_1_1_02_02 none Q K) (broadcastInDim S2x8x2048x2048 ![] bcast_S_S2x8x2048x2048 (constant S_ .f32 0x3E000000#32))
def refM : FVec Ideal S2x8x2048 .f32 :=
  Host.reduce FloatOps.maximumf (refS Q K) (constant S_ .f32 0xFF800000#32) reducesTo_S2x8x2048x2048_S2x8x2048_d3 h_S_
def refE : FVec Ideal S2x8x2048x2048 .f32 :=
  Host.exp (subf (refS Q K) (broadcastInDim S2x8x2048x2048 ![0, 1, 2, 3] bcast_S2x8x2048x1_S2x8x2048x2048_0_1_2_3 (broadcastInDim S2x8x2048x1 ![0, 1, 2] bcast_S2x8x2048_S2x8x2048x1_0_1_2 (refM Q K))))
def refL : FVec Ideal S2x8x2048 .f32 :=
  Host.reduceAdd (refE Q K) (constant S_ .f32 0x00000000#32) reducesTo_S2x8x2048x2048_S2x8x2048_d3 h_S_
def refO : FVec Ideal S2x2048x8x64 .f32 :=
  transpose S2x2048x8x64 [0, 3, 1, 2] (Host.dotGeneral dot_S2x2048x8x64_S2x8x2048x2048_S2x8x64x2048_1_3_3_2_02_01 none V
    (Host.divf (refE Q K) (broadcastInDim S2x8x2048x2048 ![0, 1, 2, 3] bcast_S2x8x2048x1_S2x8x2048x2048_0_1_2_3 (broadcastInDim S2x8x2048x1 ![0, 1, 2] bcast_S2x8x2048_S2x8x2048x1_0_1_2 (refL Q K))))) transposes_S2x8x64x2048_S2x2048x8x64_0_3_1_2

theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = refO (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := Cert.ReferenceIdeal.Value.run m ρ

variable (b : Fin 2) (h : Fin 8) (j k : Fin 2048) (d : Fin 64)

theorem refS_at : refS Q K (ix4 b h j k) = (∑ d : Fin 64, Q (ix4 b j h d) * K (ix4 b k h d)) * Ideal.ofBits .f32 0x3E000000#32 := by
  pointwise [refS]
theorem refM_at : refM Q K (ix3 b h j) = Finset.univ.fold max (Ideal.ofBits .f32 0xFF800000#32) (fun k => refS Q K (ix4 b h j k)) := by
  pointwise [refM]
theorem refE_at : refE Q K (ix4 b h j k) = Ideal.exp (refS Q K (ix4 b h j k) - refM Q K (ix3 b h j)) := by
  pointwise [refE]
theorem refL_at : refL Q K (ix3 b h j) = ∑ k, refE Q K (ix4 b h j k) := by
  pointwise [refL]
theorem refO_at : refO Q K V (ix4 b j h d) = ∑ k, V (ix4 b k h d) * Ideal.div (refE Q K (ix4 b h j k)) (refL Q K (ix3 b h j)) := by
  pointwise [refO]

theorem ofBits_neg_inf : Ideal.ofBits .f32 0xFF800000#32 = ⊥ := by
  simp [Ideal.ofBits, Ideal.ieee]

/-- The greatest of real numbers, starting from minus infinity, is a real number. -/
theorem fold_max_real {ι : Type} [Fintype ι] [Nonempty ι] (S : ι → ℝ) : ∃ r : ℝ, Finset.univ.fold max ⊥ (fun k => (S k : EReal)) = (r : EReal) := by
  obtain ⟨k⟩ := ‹Nonempty ι›
  refine ⟨_, (EReal.coe_toReal ?_ ?_).symm⟩
  · refine ne_of_lt ((Finset.fold_max_lt _).mpr ⟨bot_lt_top, fun k _ => EReal.coe_lt_top _⟩)
  · refine ne_of_gt ((Finset.lt_fold_max _).mpr (Or.inr ⟨k, Finset.mem_univ _, EReal.bot_lt_coe _⟩))

/-- **The reference's result** where the scores are real: the quotient of the plain sums. -/
theorem refO_quot (hS : ∀ k, ∃ r : ℝ, refS Q K (ix4 b h j k) = (r : EReal)) :
    refO Q K V (ix4 b j h d) = Ideal.div (∑ k, V (ix4 b k h d) * Ideal.exp (refS Q K (ix4 b h j k))) (∑ k, Ideal.exp (refS Q K (ix4 b h j k))) := by
  choose S hS using hS
  obtain ⟨r, hr⟩ := fold_max_real S
  have hM : refM Q K (ix3 b h j) = (r : EReal) := by rw [refM_at, ofBits_neg_inf, ← hr]; simp only [hS]
  rw [refO_at, refL_at]
  simp only [refE_at, hM, hS]
  exact (softmax_eq S r _).symm

end Cert.KProof

end
-- ==== Proof.Algebraic.lean ====
module

public import proofs.«01_k».proof.Proof.Frames
public import proofs.«01_k».proof.Proof.Value
public import proofs.«01_k».proof.Proof.RefValue
public import Idealize.ShloMosaic.Lib.Pipeline.ValueKit
public import Idealize.ShloMosaic.Lib.ReduceAll

@[expose] public section

/-!
  The value claim: a device's result is its block of the reference's.
-/

noncomputable section

namespace Cert.KProof

open Idealize.ShloMosaic Idealize.ShloMosaic.TcCoe Idealize.SL.Sem
open scoped BigOperators

/-- An index of four axes is its coordinates. -/
theorem eq_ix4 {n0 n1 n2 n3 : ℕ} (i : (⟨4, ![n0, n1, n2, n3]⟩ : Shape).Idx) : ∃ a b c d, i = ix4 a b c d :=
  ⟨i 0, i 1, i 2, i 3, funext fun a => match a with
    | ⟨0, _⟩ => rfl
    | ⟨1, _⟩ => rfl
    | ⟨2, _⟩ => rfl
    | ⟨3, _⟩ => rfl⟩

/-! ## The arrays of a device -/

section Device
open Cert.KernelIdeal Cert.KernelIdeal.Gen

variable (m : (ℓ : Loc nD τ sig) → Buf (Elt Ideal) ℓ)

/-- The kernel's result is what the body leaves. -/
theorem out_whole (c : Dev nD) : (dat0 m c).arrAt 3 cfg0.N = outV (KVm m) c (qm m c) := by
  refine (dat0 m c).arrAt_eq_of_covers 3 _ (by decide +kernel) fun t _ y => ?_
  show outV (KVm m) c (qm m c) _ = outV (KVm m) c (qm m c) _
  congr 1
  funext a
  apply Fin.ext
  show (y a).val = 0 * _ + 1 * (y a).val
  omega

theorem q_at (c : Dev nD) (b : Fin 2) (h : Fin 8) (d : Fin 64) (j : Fin 512) : qm m c (ix4 b h d j) = m ((c : Thread nD τ).loc main_arg0) (ix4 b j h d) := by
  have e : qm m c = transpose S2x8x64x512 [0, 2, 3, 1] (m ((c : Thread nD τ).loc main_arg0)) transposes_S2x512x8x64_S2x8x64x512_0_2_3_1 := by
    show StableHlo.after hostOps0 (fun b => m (c, b)) (Proc.devRef .tc main_v1) = _
    unfold hostOps0; after_results
  rw [e]; pointwise
theorem k_at (c : Dev nD) (b : Fin 2) (h : Fin 8) (d : Fin 64) (j : Fin 512) : KVm m false c (ix4 b h d j) = m ((c : Thread nD τ).loc main_arg1) (ix4 b j h d) := by
  have e : KVm m false c = transpose S2x8x64x512 [0, 2, 3, 1] (m ((c : Thread nD τ).loc main_arg1)) transposes_S2x512x8x64_S2x8x64x512_0_2_3_1 := by
    show StableHlo.after hostOps0 (fun b => m (c, b)) (Proc.devRef .tc main_v2) = _
    unfold hostOps0; after_results
  rw [e]; pointwise
theorem v_at (c : Dev nD) (b : Fin 2) (h : Fin 8) (d : Fin 64) (j : Fin 512) : KVm m true c (ix4 b h d j) = m ((c : Thread nD τ).loc main_arg2) (ix4 b j h d) := by
  have e : KVm m true c = transpose S2x8x64x512 [0, 2, 3, 1] (m ((c : Thread nD τ).loc main_arg2)) transposes_S2x512x8x64_S2x8x64x512_0_2_3_1 := by
    show StableHlo.after hostOps0 (fun b => m (c, b)) (Proc.devRef .tc main_v3) = _
    unfold hostOps0; after_results
  rw [e]; pointwise
theorem res_at (c : Dev nD) (b : Fin 2) (h : Fin 8) (d : Fin 64) (j : Fin 512) :
    W2v m c main_v5 (ix4 b j h d) = outV (KVm m) c (qm m c) (ix4 b h d j) := by
  rw [W2v_v5, out_whole]; pointwise

/-- Inside the precondition every query and every key is a real number. -/
theorem real_of_abs_lt {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

theorem real_of_pre [Cert.Pre_finite_qk_KernelIdeal.Facts] (hp : Pre_KernelIdeal_finite_qk_KernelIdeal m) (c : Dev nD) (i : S2x512x8x64.Idx) :
    (∃ r : ℝ, m ((c : Thread nD τ).loc main_arg0) i = (r : EReal)) ∧ ∃ r : ℝ, m ((c : Thread nD τ).loc main_arg1) i = (r : EReal) := by
  have h := congrFun (hp c) (fun a => a.elim0)
  obtain ⟨h0, h1⟩ := IntOp.andi_eq_one.1 h
  haveI : Subsingleton Cert.Pre_finite_qk_KernelIdeal.S_.Idx := ⟨fun x y => funext fun a => a.elim0⟩
  exact ⟨real_of_abs_lt (Host.reduce_andi_all _ _ _ _ _ h0 i), real_of_abs_lt (Host.reduce_andi_all _ _ _ _ _ h1 i)⟩
end Device

/-! ## Blocks of the whole arrays -/

/-- The row of the whole array that is row `j` of block `z`. -/
def row (z : Fin 4) (j : Fin 512) : Fin 2048 := ⟨z.val * 512 + j.val, by have := z.isLt; have := j.isLt; omega⟩

theorem row_surj (k : Fin 2048) : ∃ z j, row z j = k :=
  ⟨⟨k.val / 512, by have := k.isLt; omega⟩, ⟨k.val % 512, by omega⟩, Fin.ext (by show k.val / 512 * 512 + k.val % 512 = k.val; omega)⟩

abbrev blockOf (c : Dev Cert.KernelIdeal.nD) (X : Glob) : FVec Ideal ⟨4, ![2, 512, 8, 64]⟩ .f32 :=
  Layout.blockN ⟨4, ![2, 512, 8, 64]⟩ ⟨4, ![2, 2048, 8, 64]⟩ (Layout.meshBlock [2, 4, 4] ![[], [2], [], []] c) X

theorem mesh_z : ∀ c : Dev Cert.KernelIdeal.nD, (Layout.meshBlock [2, 4, 4] (![[], [2], [], []] : Fin 4 → List ℕ) c (by decide) 1).val = (zc c).val := by decide +kernel

theorem block_at (c : Dev Cert.KernelIdeal.nD) (X : Glob) (b : Fin 2) (j : Fin 512) (h : Fin 8) (d : Fin 64) : blockOf c X (ix4 b j h d) = X (ix4 b (row (zc c) j) h d) := by
  show X _ = X _
  congr 1
  funext a
  apply Fin.ext
  rw [Layout.TilesN.idx_val]
  match a with
  | ⟨0, _⟩ => show 0 * 2 + b.val = b.val; omega
  | ⟨1, _⟩ => exact congrArg (· * 512 + j.val) (mesh_z c)
  | ⟨2, _⟩ => show 0 * 8 + h.val = h.val; omega
  | ⟨3, _⟩ => show 0 * 64 + d.val = d.val; omega

/-- Block `z` of an array, laid out as the kernel reads it. -/
def chunk (X : Glob) (z : Fin 4) : Cert.KernelIdeal.S2x8x64x512.Idx → Elt Ideal .f32 := fun i => X (ix4 (i 0) (row z (i 3)) (i 1) (i 2))

/-- An array agrees with a chunk when it does at every entry. -/
theorem eq_chunk (A : Cert.KernelIdeal.S2x8x64x512.Idx → Elt Ideal .f32) (X : Glob) (z : Fin 4) (h : ∀ b g d j, A (ix4 b g d j) = X (ix4 b (row z j) g d)) : A = chunk X z := by
  funext i
  obtain ⟨b, g, d, j, rfl⟩ := eq_ix4 i
  exact h b g d j

section Whole
variable (Q K V : Glob) (b : Fin 2) (h : Fin 8) (d : Fin 64) (z : Fin 4) (j : Fin 512)

theorem score_row (o : Fin 4) (i : Fin 512) : chunkScore (chunk Q z) (chunk K o) b h j i = refS Q K (ix4 b h (row z j) (row o i)) := by
  rw [refS_at, ofBits_eighth]
  refine congrArg (· * _) (Finset.sum_congr rfl fun d _ => ?_)
  exact mul_comm (K (ix4 b (row o i) h d)) (Q (ix4 b (row z j) h d))

/-- A sum over all rows, block by block. -/
theorem sum_rows (f : Fin 2048 → EReal) : ∑ k, f k = ∑ o : Fin 4, ∑ i : Fin 512, f (row o i) := Fin.sum_univ_tiles 4 512 rfl f

theorem den_whole : ∑ o, chunkDen (chunk Q z) (chunk K o) b h j = ∑ k, Ideal.exp (refS Q K (ix4 b h (row z j) k)) := by
  rw [sum_rows]
  refine Finset.sum_congr rfl fun o _ => Finset.sum_congr rfl fun i _ => ?_
  rw [score_row]
theorem num_whole : ∑ o, chunkNum (chunk Q z) (chunk K o) (chunk V o) b h d j = ∑ k, V (ix4 b k h d) * Ideal.exp (refS Q K (ix4 b h (row z j) k)) := by
  rw [sum_rows]
  refine Finset.sum_congr rfl fun o _ => Finset.sum_congr rfl fun i _ => ?_
  rw [score_row]; rfl

/-- Real queries and keys have real scores. -/
theorem score_real (hQ : ∀ i, ∃ r : ℝ, Q i = (r : EReal)) (hK : ∀ i, ∃ r : ℝ, K i = (r : EReal)) (i k : Fin 2048) : ∃ r : ℝ, refS Q K (ix4 b h i k) = (r : EReal) := by
  choose q hq using hQ
  choose κ hκ using hK
  refine ⟨(∑ d : Fin 64, q (ix4 b i h d) * κ (ix4 b k h d)) * (1 / 8), ?_⟩
  rw [refS_at, ofBits_eighth, EReal.coe_mul, coe_sum]
  simp only [hq, hκ, EReal.coe_mul]
end Whole

/-! ## The claim -/

theorem algebraic_claim [Cert.Pre_finite_qk_KernelIdeal.Facts] : Cert.algebraic_KernelIdeal_ReferenceIdeal_pre_finite_qk_KernelIdeal := by
  intro m ρ m' ρ' hp hin
  set Q : Glob := m' (((0 : Dev Cert.ReferenceIdeal.nD).tc : Thread Cert.ReferenceIdeal.nD Cert.ReferenceIdeal.τ).loc Cert.ReferenceIdeal.main_arg0) with hQd
  set K : Glob := m' (((0 : Dev Cert.ReferenceIdeal.nD).tc : Thread Cert.ReferenceIdeal.nD Cert.ReferenceIdeal.τ).loc Cert.ReferenceIdeal.main_arg1) with hKd
  set V : Glob := m' (((0 : Dev Cert.ReferenceIdeal.nD).tc : Thread Cert.ReferenceIdeal.nD Cert.ReferenceIdeal.τ).loc Cert.ReferenceIdeal.main_arg2) with hVd
  have a0 : ∀ c : Dev Cert.KernelIdeal.nD, ∀ b j h d, m ((c.tc : Thread Cert.KernelIdeal.nD Cert.KernelIdeal.τ).loc Cert.KernelIdeal.main_arg0) (ix4 b j h d) = Q (ix4 b (row (zc c) j) h d) :=
    fun c b j h d => (congrFun (hin c).1 _).trans (block_at c Q b j h d)
  have a1 : ∀ c : Dev Cert.KernelIdeal.nD, ∀ b j h d, m ((c.tc : Thread Cert.KernelIdeal.nD Cert.KernelIdeal.τ).loc Cert.KernelIdeal.main_arg1) (ix4 b j h d) = K (ix4 b (row (zc c) j) h d) :=
    fun c b j h d => (congrFun (hin c).2.1 _).trans (block_at c K b j h d)
  have a2 : ∀ c : Dev Cert.KernelIdeal.nD, ∀ b j h d, m ((c.tc : Thread Cert.KernelIdeal.nD Cert.KernelIdeal.τ).loc Cert.KernelIdeal.main_arg2) (ix4 b j h d) = V (ix4 b (row (zc c) j) h d) :=
    fun c b j h d => (congrFun (hin c).2.2 _).trans (block_at c V b j h d)
  have real : ∀ i : Cert.ReferenceIdeal.S2x2048x8x64.Idx, (∃ r : ℝ, Q i = (r : EReal)) ∧ ∃ r : ℝ, K i = (r : EReal) := fun i => by
    obtain ⟨b, k, h, d, rfl⟩ := eq_ix4 i
    obtain ⟨z, j, rfl⟩ := row_surj k
    have hc : zc (⟨z.val, by have := z.isLt; show z.val < 32; omega⟩ : Dev Cert.KernelIdeal.nD) = z := Fin.ext (Nat.mod_eq_of_lt z.isLt)
    have hr := real_of_pre m hp ⟨z.val, by have := z.isLt; show z.val < 32; omega⟩ (ix4 b j h d)
    rw [a0, a1, hc] at hr
    exact hr
  refine ⟨refO Q K V, ?_, ?_⟩
  · refine (θ_run Cert.KernelIdeal.defs _ _).mono (fun r hr c => ⟨?_, (hr.1 c).1, (hr.1 c).2.1, (hr.1 c).2.2.1⟩) (run_main (F := Ideal) m ρ)
    refine (hr.1 c).2.2.2.trans ?_
    have hq : qm m c = chunk Q (zc c) := eq_chunk _ _ _ fun b g d j => (q_at m c b g d j).trans (a0 c b j g d)
    have hG : ∀ b c, KVm m b c = (fun b => if b then chunk V else chunk K) b (zc c) := fun b c => by
      cases b
      · exact eq_chunk _ _ _ fun b g d j => (k_at m c b g d j).trans (a1 c b j g d)
      · exact eq_chunk _ _ _ fun b g d j => (v_at m c b g d j).trans (a2 c b j g d)
    funext i
    obtain ⟨b, j, h, d, rfl⟩ := eq_ix4 (n0 := 2) (n1 := 512) (n2 := 8) (n3 := 64) i
    refine (res_at m c b h d j).trans ?_
    refine Eq.trans ?_ (block_at c (refO Q K V) b j h d).symm
    rw [outV_val (KVm m) _ hG, hq, refO_quot Q K V _ _ _ _ fun k => score_real Q K _ _ (fun i => (real i).1) (fun i => (real i).2) _ k, ← num_whole, ← den_whole]
    rfl
  · exact (θ_run Cert.ReferenceIdeal.defs _ _).mono (fun r h => h 0) (run_ref m' ρ')

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Frames
public import proofs.«01_k».proof.Proof.Algebraic

@[expose] public section

noncomputable section

namespace Cert.Proof

open Idealize.ShloMosaic Idealize.SL.Sem Cert.Kernel

theorem facts_kernel : Cert.Pre_finite_qk_KernelIdeal.Facts := ⟨by decide, by decide, by decide⟩
theorem facts_reference : Cert.Pre_finite_qk_ReferenceIdeal.Facts := ⟨by decide, by decide, by decide⟩

theorem claim : Cert.Claim :=
  ⟨Cert.Kernel.Gen.facts, Cert.KernelIdeal.Gen.facts, Cert.ReferenceIdeal.Gen.facts, facts_kernel, facts_reference,
    Cert.KProof.frame_kernel, Cert.KProof.frame_ideal, fun m g _ => Cert.KProof.frame_ideal m g trivial,
    Cert.KProof.frame_reference, fun m g _ => Cert.KProof.frame_reference m g trivial, trivial,
    @Cert.KProof.algebraic_claim facts_kernel⟩

end Cert.Proof

end
